-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_branch_gate_finite [hPre_branch_gate_finite : Cert.Pre_branch_gate_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_branch_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_branch_gate_finite [hPre_branch_gate_finite : Cert.Pre_branch_gate_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_branch_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_branch_gate_finite [hKernel4Ideal : Cert.Kernel4Ideal.Facts] [hPre_branch_gate_finite : Cert.Pre_branch_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_branch_gate_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_branch_gate_finite [hReference4Ideal : Cert.Reference4Ideal.Facts] [hPre_branch_gate_finite : Cert.Pre_branch_gate_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_branch_gate_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_branch_gate_finite [hKernel4Ideal : Cert.Kernel4Ideal.Facts] [hReference4Ideal : Cert.Reference4Ideal.Facts] [hPre_branch_gate_finite : Cert.Pre_branch_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_branch_gate_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_with_ones : Cert.Pre_finite_with_ones.Facts) (hPre_gate_finite : Cert.Pre_gate_finite.Facts) (hPre_branch_gate_finite : Cert.Pre_branch_gate_finite.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_branch_gate_finite (hKernel4Ideal := hKernel4Ideal) (hPre_branch_gate_finite := hPre_branch_gate_finite)
    ∧ quiescent_Reference4Ideal (hReference4Ideal := hReference4Ideal)
    ∧ quiescent_Reference4Ideal_pre_branch_gate_finite (hReference4Ideal := hReference4Ideal) (hPre_branch_gate_finite := hPre_branch_gate_finite)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_branch_gate_finite (hKernel4Ideal := hKernel4Ideal) (hReference4Ideal := hReference4Ideal) (hPre_branch_gate_finite := hPre_branch_gate_finite)
-- ==== Pre_branch_gate_finite.lean ====
abbrev S1024x32768 : Shape := ⟨2, ![1024, 32768]⟩
abbrev S2048x32768 : Shape := ⟨2, ![2048, 32768]⟩
abbrev S1024x1 : Shape := ⟨2, ![1024, 1]⟩
abbrev S2x5x1024x1024 : Shape := ⟨4, ![2, 5, 1024, 1024]⟩
abbrev S_ : Shape := ⟨0, ![]⟩

class Facts : Prop where
  slices_S2048x32768_S1024x32768_1024_0 : S2048x32768.Slices ![1024, 0] S1024x32768
  bcast_S_S1024x32768 : S_.BroadcastsInDim S1024x32768 (![] : Fin 0 → Fin S1024x32768.rank)

variable [Facts]

def fn {F : FTy → Type} [FloatOps F] (main_arg0 : FVec F S1024x32768 .bf16) (main_arg1 : FVec F S2048x32768 .bf16) (main_arg2 : FVec F S1024x1 .f32) (main_arg3 : FVec F S2x5x1024x1024 .bf16) (main_arg4 : FVec F S1024x1 .f32) : IVec S1024x32768 1 :=
  let main_v0 : FVec F S1024x32768 .bf16 := (extractStridedSlice S1024x32768 ![1024, 0] · slices_S2048x32768_S1024x32768_1024_0) main_arg1
  let main_v1 : FVec F S1024x32768 .bf16 := Host.absf main_v0
  let main_cst : FVec F S_ .bf16 := constant S_ .bf16 0x7F80#16
  let main_v2 : FVec F S1024x32768 .bf16 := broadcastInDim S1024x32768 ![] bcast_S_S1024x32768 main_cst
  let main_v3 : IVec S1024x32768 1 := cmpf .olt main_v1 main_v2
  main_v3
-- ==== Pre_finite_with_ones.lean ====
abbrev S64x2048x512 : Shape := ⟨3, ![64, 2048, 512]⟩
abbrev S32768x2048 : Shape := ⟨2, ![32768, 2048]⟩
abbrev S64x1280x512 : Shape := ⟨3, ![64, 1280, 512]⟩
abbrev S64x16x80x512 : Shape := ⟨4, ![64, 16, 80, 512]⟩
abbrev S64x16x1x512 : Shape := ⟨4, ![64, 16, 1, 512]⟩
abbrev S64x16x512 : Shape := ⟨3, ![64, 16, 512]⟩
abbrev S_ : Shape := ⟨0, ![]⟩

class Facts : Prop where
  shapeCasts_S64x1280x512_S64x16x80x512 : S64x1280x512.ShapeCasts S64x16x80x512
  slices_S64x16x80x512_S64x16x1x512_0_0_64_0 : S64x16x80x512.Slices ![0, 0, 64, 0] S64x16x1x512
  shapeCasts_S64x16x1x512_S64x16x512 : S64x16x1x512.ShapeCasts S64x16x512
  bcast_S_S64x2048x512 : S_.BroadcastsInDim S64x2048x512 (![] : Fin 0 → Fin S64x2048x512.rank)
  bcast_S_S32768x2048 : S_.BroadcastsInDim S32768x2048 (![] : Fin 0 → Fin S32768x2048.rank)
  bcast_S_S64x16x512 : S_.BroadcastsInDim S64x16x512 (![] : Fin 0 → Fin S64x16x512.rank)

variable [Facts]

def fn {F : FTy → Type} [FloatOps F] (main_arg0 : FVec F S64x2048x512 .bf16) (main_arg1 : FVec F S32768x2048 .bf16) (main_arg2 : FVec F S64x1280x512 .bf16) : IVec S64x2048x512 1 × IVec S32768x2048 1 × IVec S64x16x512 1 :=
  let main_v0 : FVec F S64x16x80x512 .bf16 := shapeCast S64x16x80x512 main_arg2 shapeCasts_S64x1280x512_S64x16x80x512
  let main_v1 : FVec F S64x16x1x512 .bf16 := (extractStridedSlice S64x16x1x512 ![0, 0, 64, 0] · slices_S64x16x80x512_S64x16x1x512_0_0_64_0) main_v0
  let main_v2 : FVec F S64x16x512 .bf16 := shapeCast S64x16x512 main_v1 shapeCasts_S64x16x1x512_S64x16x512
  let main_v3 : FVec F S64x2048x512 .bf16 := Host.absf main_arg0
  let main_cst : FVec F S_ .bf16 := constant S_ .bf16 0x7F80#16
  let main_v4 : FVec F S64x2048x512 .bf16 := broadcastInDim S64x2048x512 ![] bcast_S_S64x2048x512 main_cst
  let main_v5 : IVec S64x2048x512 1 := cmpf .olt main_v3 main_v4
  let main_v6 : FVec F S32768x2048 .bf16 := Host.absf main_arg1
  let main_cst_0 : FVec F S_ .bf16 := constant S_ .bf16 0x7F80#16
  let main_v7 : FVec F S32768x2048 .bf16 := broadcastInDim S32768x2048 ![] bcast_S_S32768x2048 main_cst_0
  let main_v8 : IVec S32768x2048 1 := cmpf .olt main_v6 main_v7
  let main_cst_1 : FVec F S_ .bf16 := constant S_ .bf16 0x3F80#16
  let main_v9 : FVec F S64x16x512 .bf16 := broadcastInDim S64x16x512 ![] bcast_S_S64x16x512 main_cst_1
  let main_v10 : IVec S64x16x512 1 := cmpf .oeq main_v2 main_v9
  (main_v5, main_v8, main_v10)
-- ==== Pre_gate_finite.lean ====
abbrev S32768x1024 : Shape := ⟨2, ![32768, 1024]⟩
abbrev S32768x7168 : Shape := ⟨2, ![32768, 7168]⟩
abbrev S2x5x1024x1024 : Shape := ⟨4, ![2, 5, 1024, 1024]⟩
abbrev S1x1024 : Shape := ⟨2, ![1, 1024]⟩
abbrev S_ : Shape := ⟨0, ![]⟩

class Facts : Prop where
  slices_S32768x7168_S32768x1024_0_3072 : S32768x7168.Slices ![0, 3072] S32768x1024
  bcast_S_S32768x1024 : S_.BroadcastsInDim S32768x1024 (![] : Fin 0 → Fin S32768x1024.rank)

variable [Facts]

def fn {F : FTy → Type} [FloatOps F] (main_arg0 : FVec F S32768x1024 .f32) (main_arg1 : FVec F S32768x1024 .bf16) (main_arg2 : FVec F S32768x1024 .bf16) (main_arg3 : FVec F S32768x1024 .bf16) (main_arg4 : FVec F S32768x7168 .bf16) (main_arg5 : FVec F S2x5x1024x1024 .bf16) (main_arg6 : FVec F S1x1024 .f32) : IVec S32768x1024 1 :=
  let main_v0 : FVec F S32768x1024 .bf16 := (extractStridedSlice S32768x1024 ![0, 3072] · slices_S32768x7168_S32768x1024_0_3072) main_arg4
  let main_v1 : FVec F S32768x1024 .bf16 := Host.absf main_v0
  let main_cst : FVec F S_ .bf16 := constant S_ .bf16 0x7F80#16
  let main_v2 : FVec F S32768x1024 .bf16 := broadcastInDim S32768x1024 ![] bcast_S_S32768x1024 main_cst
  let main_v3 : IVec S32768x1024 1 := cmpf .olt main_v1 main_v2
  main_v3
-- ==== Kernel.lean ====
abbrev S64x2048x512 : Shape := ⟨3, ![64, 2048, 512]⟩
abbrev S32768x2048 : Shape := ⟨2, ![32768, 2048]⟩
abbrev S64x1280x512 : Shape := ⟨3, ![64, 1280, 512]⟩
abbrev S32768x1024 : Shape := ⟨2, ![32768, 1024]⟩
abbrev S16x256x512 : Shape := ⟨3, ![16, 256, 512]⟩
abbrev S8192x256 : Shape := ⟨2, ![8192, 256]⟩
abbrev S16x160x512 : Shape := ⟨3, ![16, 160, 512]⟩
abbrev S8192x128 : Shape := ⟨2, ![8192, 128]⟩
abbrev S4x160x512 : Shape := ⟨3, ![4, 160, 512]⟩
abbrev S4x8x512 : Shape := ⟨3, ![4, 8, 512]⟩
abbrev S2x512x512 : Shape := ⟨3, ![2, 512, 512]⟩
abbrev S8x512 : Shape := ⟨2, ![8, 512]⟩
abbrev S1x128x512 : Shape := ⟨3, ![1, 128, 512]⟩
abbrev S128x512 : Shape := ⟨2, ![128, 512]⟩
abbrev S256x512 : Shape := ⟨2, ![256, 512]⟩
abbrev S256x128 : Shape := ⟨2, ![256, 128]⟩
abbrev S128x256 : Shape := ⟨2, ![128, 256]⟩
abbrev S256x256 : Shape := ⟨2, ![256, 256]⟩
abbrev S1x256x512 : Shape := ⟨3, ![1, 256, 512]⟩
abbrev S1x256x256 : Shape := ⟨3, ![1, 256, 256]⟩
abbrev S256 : Shape := ⟨1, ![256]⟩
abbrev S1x256 : Shape := ⟨2, ![1, 256]⟩
abbrev S1x512 : Shape := ⟨2, ![1, 512]⟩
abbrev S1x1x512 : Shape := ⟨3, ![1, 1, 512]⟩
abbrev S1x512x512 : Shape := ⟨3, ![1, 512, 512]⟩
abbrev S512x512 : Shape := ⟨2, ![512, 512]⟩
abbrev S1x80x512 : Shape := ⟨3, ![1, 80, 512]⟩
abbrev S80x512 : Shape := ⟨2, ![80, 512]⟩
abbrev S512x128 : Shape := ⟨2, ![512, 128]⟩
abbrev S512 : Shape := ⟨1, ![512]⟩
abbrev S1x64x512 : Shape := ⟨3, ![1, 64, 512]⟩
abbrev S64x512 : Shape := ⟨2, ![64, 512]⟩

abbrev nBuf : Space → Nat
  | .hbm => 4
  | .vmem => 14
  | .smem => 0
  | _ => 0

abbrev bufTy : (tb : Table) → Fin (tcTables nBuf tb) → BufTy
  | .hbm, ⟨0, _⟩ => ⟨S64x2048x512, .bf16⟩
  | .hbm, ⟨1, _⟩ => ⟨S32768x2048, .bf16⟩
  | .hbm, ⟨2, _⟩ => ⟨S64x1280x512, .bf16⟩
  | .hbm, ⟨3, _⟩ => ⟨S32768x1024, .bf16⟩
  | .local _ .vmem, ⟨0, _⟩ => ⟨S16x256x512, .bf16⟩
  | .local _ .vmem, ⟨1, _⟩ => ⟨S16x256x512, .bf16⟩
  | .local _ .vmem, ⟨2, _⟩ => ⟨S8192x256, .bf16⟩
  | .local _ .vmem, ⟨3, _⟩ => ⟨S8192x256, .bf16⟩
  | .local _ .vmem, ⟨4, _⟩ => ⟨S16x160x512, .bf16⟩
  | .local _ .vmem, ⟨5, _⟩ => ⟨S16x160x512, .bf16⟩
  | .local _ .vmem, ⟨6, _⟩ => ⟨S8192x128, .bf16⟩
  | .local _ .vmem, ⟨7, _⟩ => ⟨S8192x128, .bf16⟩
  | .local _ .vmem, ⟨8, _⟩ => ⟨S4x160x512, .f32⟩
  | .local _ .vmem, ⟨9, _⟩ => ⟨S4x8x512, .f32⟩
  | .local _ .vmem, ⟨10, _⟩ => ⟨S2x512x512, .f32⟩
  | .local _ .vmem, ⟨11, _⟩ => ⟨S2x512x512, .f32⟩
  | .local _ .vmem, ⟨12, _⟩ => ⟨S8x512, .f32⟩
  | .local _ .vmem, ⟨13, _⟩ => ⟨S8x512, .f32⟩
  | _, _ => ⟨S64x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let c2_i32 : BitVec 32 := 2#32
  let arg2 : BitVec 32 := BitVec.ofNat 32 (i 2).val
  let v0 : BitVec 32 := Scalar.muli c2_i32 arg2
  let c512_i32 : BitVec 32 := 512#32
  let v12 : BitVec 32 := Scalar.muli v0 c512_i32
  v12
def k0_off1 (i : grid0.Coords) : Fin 3 → Nat :=
  let c2_i32 : BitVec 32 := 2#32
  let arg2 : BitVec 32 := BitVec.ofNat 32 (i 2).val
  let v0 : BitVec 32 := Scalar.muli c2_i32 arg2
  let v14 : Index := Scalar.indexCast v0
  let c0_6 : Index := 0#32
  let c0_7 : Index := 0#32
  ![v14.toNat, 0, 0]
def k0_off2 (i : grid0.Coords) : Fin 2 → Nat :=
  let c2_i32 : BitVec 32 := 2#32
  let arg2 : BitVec 32 := BitVec.ofNat 32 (i 2).val
  let v0 : BitVec 32 := Scalar.muli c2_i32 arg2
  let c512_i32 : BitVec 32 := 512#32
  let v12 : BitVec 32 := Scalar.muli v0 c512_i32
  let v13 : BitVec 32 := v12
  let v19 : Index := Scalar.indexCast v13
  let c0_8 : Index := 0#32
  ![v19.toNat, 0]
def k0_off3 (i : grid0.Coords) : Fin 2 → Nat :=
  let c2_i32 : BitVec 32 := 2#32
  let arg2 : BitVec 32 := BitVec.ofNat 32 (i 2).val
  let v0 : BitVec 32 := Scalar.muli c2_i32 arg2
  let c512_i32 : BitVec 32 := 512#32
  let v12 : BitVec 32 := Scalar.muli v0 c512_i32
  let v13 : BitVec 32 := v12
  let c256_i32 : BitVec 32 := 256#32
  let v25 : BitVec 32 := Scalar.addi v13 c256_i32
  let v26 : Index := Scalar.indexCast v25
  let c0_11 : Index := 0#32
  ![v26.toNat, 0]
def k0_off4 (i : grid0.Coords) : Fin 3 → Nat :=
  let c2_i32 : BitVec 32 := 2#32
  let arg2 : BitVec 32 := BitVec.ofNat 32 (i 2).val
  let v0 : BitVec 32 := Scalar.muli c2_i32 arg2
  let v58 : Index := Scalar.indexCast v0
  let c128 : Index := 128#32
  let c0_28 : Index := 0#32
  ![v58.toNat, 128, 0]
def k0_off5 (i : grid0.Coords) : Fin 2 → Nat :=
  let c2_i32 : BitVec 32 := 2#32
  let arg2 : BitVec 32 := BitVec.ofNat 32 (i 2).val
  let v0 : BitVec 32 := Scalar.muli c2_i32 arg2
  let c512_i32 : BitVec 32 := 512#32
  let v12 : BitVec 32 := Scalar.muli v0 c512_i32
  let v13 : BitVec 32 := v12
  let v63 : Index := Scalar.indexCast v13
  let c128_29 : Index := 128#32
  ![v63.toNat, 128]
def k0_off6 (i : grid0.Coords) : Fin 2 → Nat :=
  let c2_i32 : BitVec 32 := 2#32
  let arg2 : BitVec 32 := BitVec.ofNat 32 (i 2).val
  let v0 : BitVec 32 := Scalar.muli c2_i32 arg2
  let c512_i32 : BitVec 32 := 512#32
  let v12 : BitVec 32 := Scalar.muli v0 c512_i32
  let v13 : BitVec 32 := v12
  let c256_i32_32 : BitVec 32 := 256#32
  let v69 : BitVec 32 := Scalar.addi v13 c256_i32_32
  let v70 : Index := Scalar.indexCast v69
  let c128_33 : Index := 128#32
  ![v70.toNat, 128]
def k0_mult2 (i : grid0.Coords) : BitVec 32 :=
  let c15_i32 : BitVec 32 := 15#32
  let c2_i32 : BitVec 32 := 2#32
  let arg2 : BitVec 32 := BitVec.ofNat 32 (i 2).val
  let v0 : BitVec 32 := Scalar.muli c2_i32 arg2
  let v1 : BitVec 32 := Scalar.subi c15_i32 v0
  let c512_i32_50 : BitVec 32 := 512#32
  let v102 : BitVec 32 := Scalar.muli v1 c512_i32_50
  v102
def k0_off7 (i : grid0.Coords) (c15_i32 : BitVec 32) : Fin 3 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let v104 : Index := Scalar.indexCast v1
  let c0_51 : Index := 0#32
  let c0_52 : Index := 0#32
  ![v104.toNat, 0, 0]
def k0_off8 (i : grid0.Coords) (c15_i32 : BitVec 32) : Fin 2 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let c512_i32_50 : BitVec 32 := 512#32
  let v102 : BitVec 32 := Scalar.muli v1 c512_i32_50
  let v103 : BitVec 32 := v102
  let v109 : Index := Scalar.indexCast v103
  let c0_53 : Index := 0#32
  ![v109.toNat, 0]
def k0_off9 (i : grid0.Coords) (c15_i32 : BitVec 32) : Fin 2 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let c512_i32_50 : BitVec 32 := 512#32
  let v102 : BitVec 32 := Scalar.muli v1 c512_i32_50
  let v103 : BitVec 32 := v102
  let c256_i32_56 : BitVec 32 := 256#32
  let v115 : BitVec 32 := Scalar.addi v103 c256_i32_56
  let v116 : Index := Scalar.indexCast v115
  let c0_57 : Index := 0#32
  ![v116.toNat, 0]
def k0_off10 (i : grid0.Coords) (c15_i32 : BitVec 32) : Fin 3 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let v148 : Index := Scalar.indexCast v1
  let c128_75 : Index := 128#32
  let c0_76 : Index := 0#32
  ![v148.toNat, 128, 0]
def k0_off11 (i : grid0.Coords) (c15_i32 : BitVec 32) : Fin 2 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let c512_i32_50 : BitVec 32 := 512#32
  let v102 : BitVec 32 := Scalar.muli v1 c512_i32_50
  let v103 : BitVec 32 := v102
  let v153 : Index := Scalar.indexCast v103
  let c128_77 : Index := 128#32
  ![v153.toNat, 128]
def k0_off12 (i : grid0.Coords) (c15_i32 : BitVec 32) : Fin 2 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let c512_i32_50 : BitVec 32 := 512#32
  let v102 : BitVec 32 := Scalar.muli v1 c512_i32_50
  let v103 : BitVec 32 := v102
  let c256_i32_80 : BitVec 32 := 256#32
  let v159 : BitVec 32 := Scalar.addi v103 c256_i32_80
  let v160 : Index := Scalar.indexCast v159
  let c128_81 : Index := 128#32
  ![v160.toNat, 128]
def k0_off13 (i : grid0.Coords) : Fin 3 → Nat :=
  let c2_i32 : BitVec 32 := 2#32
  let arg2 : BitVec 32 := BitVec.ofNat 32 (i 2).val
  let v0 : BitVec 32 := Scalar.muli c2_i32 arg2
  let v207 : Index := Scalar.indexCast v0
  let c0_110 : Index := 0#32
  let c0_111 : Index := 0#32
  ![v207.toNat, 0, 0]
def k0_off14 (i : grid0.Coords) : Fin 3 → Nat :=
  let c2_i32 : BitVec 32 := 2#32
  let arg2 : BitVec 32 := BitVec.ofNat 32 (i 2).val
  let v0 : BitVec 32 := Scalar.muli c2_i32 arg2
  let v234 : Index := Scalar.indexCast v0
  let c80 : Index := 80#32
  let c0_130 : Index := 0#32
  ![v234.toNat, 80, 0]
def k0_mult3 (i : grid0.Coords) : BitVec 32 :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let c512_i32_138 : BitVec 32 := 512#32
  let v246 : BitVec 32 := Scalar.muli v2 c512_i32_138
  v246
def k0_off15 (i : grid0.Coords) : Fin 3 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let v248 : Index := Scalar.indexCast v2
  let c0_139 : Index := 0#32
  let c0_140 : Index := 0#32
  ![v248.toNat, 0, 0]
def k0_off16 (i : grid0.Coords) : Fin 2 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let c512_i32_138 : BitVec 32 := 512#32
  let v246 : BitVec 32 := Scalar.muli v2 c512_i32_138
  let v247 : BitVec 32 := v246
  let v253 : Index := Scalar.indexCast v247
  let c0_141 : Index := 0#32
  ![v253.toNat, 0]
def k0_off17 (i : grid0.Coords) : Fin 2 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let c512_i32_138 : BitVec 32 := 512#32
  let v246 : BitVec 32 := Scalar.muli v2 c512_i32_138
  let v247 : BitVec 32 := v246
  let c256_i32_144 : BitVec 32 := 256#32
  let v259 : BitVec 32 := Scalar.addi v247 c256_i32_144
  let v260 : Index := Scalar.indexCast v259
  let c0_145 : Index := 0#32
  ![v260.toNat, 0]
def k0_off18 (i : grid0.Coords) : Fin 3 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let v292 : Index := Scalar.indexCast v2
  let c128_163 : Index := 128#32
  let c0_164 : Index := 0#32
  ![v292.toNat, 128, 0]
def k0_off19 (i : grid0.Coords) : Fin 2 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let c512_i32_138 : BitVec 32 := 512#32
  let v246 : BitVec 32 := Scalar.muli v2 c512_i32_138
  let v247 : BitVec 32 := v246
  let v297 : Index := Scalar.indexCast v247
  let c128_165 : Index := 128#32
  ![v297.toNat, 128]
def k0_off20 (i : grid0.Coords) : Fin 2 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let c512_i32_138 : BitVec 32 := 512#32
  let v246 : BitVec 32 := Scalar.muli v2 c512_i32_138
  let v247 : BitVec 32 := v246
  let c256_i32_168 : BitVec 32 := 256#32
  let v303 : BitVec 32 := Scalar.addi v247 c256_i32_168
  let v304 : Index := Scalar.indexCast v303
  let c128_169 : Index := 128#32
  ![v304.toNat, 128]
def k0_off21 (i : grid0.Coords) (c15_i32 : BitVec 32) : Fin 3 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let v351 : Index := Scalar.indexCast v1
  let c0_198 : Index := 0#32
  let c0_199 : Index := 0#32
  ![v351.toNat, 0, 0]
def k0_off22 (i : grid0.Coords) (c15_i32 : BitVec 32) : Fin 3 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let v378 : Index := Scalar.indexCast v1
  let c80_218 : Index := 80#32
  let c0_219 : Index := 0#32
  ![v378.toNat, 80, 0]
def k0_mult4 (i : grid0.Coords) : BitVec 32 :=
  let c14_i32 : BitVec 32 := 14#32
  let c2_i32 : BitVec 32 := 2#32
  let arg2 : BitVec 32 := BitVec.ofNat 32 (i 2).val
  let v0 : BitVec 32 := Scalar.muli c2_i32 arg2
  let v3 : BitVec 32 := Scalar.subi c14_i32 v0
  let c512_i32_227 : BitVec 32 := 512#32
  let v390 : BitVec 32 := Scalar.muli v3 c512_i32_227
  v390
def k0_off23 (i : grid0.Coords) : Fin 3 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let v495 : Index := Scalar.indexCast v2
  let c0_286 : Index := 0#32
  let c0_287 : Index := 0#32
  ![v495.toNat, 0, 0]
def k0_off24 (i : grid0.Coords) : Fin 3 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let v522 : Index := Scalar.indexCast v2
  let c80_306 : Index := 80#32
  let c0_307 : Index := 0#32
  ![v522.toNat, 80, 0]
def k0_mult5 (i : grid0.Coords) : BitVec 32 :=
  let c0_i32_324 : BitVec 32 := 0#32
  let c2_i32 : BitVec 32 := 2#32
  let arg2 : BitVec 32 := BitVec.ofNat 32 (i 2).val
  let v0 : BitVec 32 := Scalar.muli c2_i32 arg2
  let c0_i32 : BitVec 32 := 0#32
  let v537 : BitVec 1 := Scalar.cmpi .sle v0 c0_i32
  let v538 : BitVec 32 := Scalar.extui v537
  let c15_i32 : BitVec 32 := 15#32
  let v1 : BitVec 32 := Scalar.subi c15_i32 v0
  let v534 : BitVec 32 := Scalar.addi v0 v1
  let c0_i32_315 : BitVec 32 := 0#32
  let v539 : BitVec 1 := Scalar.cmpi .sle v534 c0_i32_315
  let v540 : BitVec 32 := Scalar.extui v539
  let v541 : BitVec 32 := Scalar.addi v538 v540
  let v535 : BitVec 32 := Scalar.addi v0 v1
  let c1_i32 : BitVec 32 := 1#32
  let v2 : BitVec 32 := Scalar.addi v0 c1_i32
  let v536 : BitVec 32 := Scalar.addi v535 v2
  let c0_i32_316 : BitVec 32 := 0#32
  let v542 : BitVec 1 := Scalar.cmpi .sle v536 c0_i32_316
  let v543 : BitVec 32 := Scalar.extui v542
  let v544 : BitVec 32 := Scalar.addi v541 v543
  let c0_i32_317 : BitVec 32 := 0#32
  let v545 : BitVec 1 := Scalar.cmpi .eq v544 c0_i32_317
  let c0_i32_320 : BitVec 32 := 0#32
  let c1_i32_318 : BitVec 32 := 1#32
  let v546 : BitVec 1 := Scalar.cmpi .eq v544 c1_i32_318
  let c2_i32_319 : BitVec 32 := 2#32
  let v547 : BitVec 1 := Scalar.cmpi .eq v544 c2_i32_319
  let v548 : BitVec 32 := Scalar.select v547 v534 v536
  let v549 : BitVec 32 := Scalar.select v546 v0 v548
  let v550 : BitVec 32 := Scalar.select v545 c0_i32_320 v549
  let v557 : BitVec 32 := Scalar.subi c0_i32_324 v550
  let c512_i32_325 : BitVec 32 := 512#32
  let v558 : BitVec 32 := Scalar.muli v557 c512_i32_325
  v558
def k0_off25 (i : grid0.Coords) (c0_i32 : BitVec 32) (c0_i32_315 : BitVec 32) (c0_i32_316 : BitVec 32) : Fin 3 → Nat :=
  let c2_i32 : BitVec 32 := 2#32
  let arg2 : BitVec 32 := BitVec.ofNat 32 (i 2).val
  let v0 : BitVec 32 := Scalar.muli c2_i32 arg2
  let v537 : BitVec 1 := Scalar.cmpi .sle v0 c0_i32
  let v538 : BitVec 32 := Scalar.extui v537
  let c15_i32 : BitVec 32 := 15#32
  let v1 : BitVec 32 := Scalar.subi c15_i32 v0
  let v534 : BitVec 32 := Scalar.addi v0 v1
  let v539 : BitVec 1 := Scalar.cmpi .sle v534 c0_i32_315
  let v540 : BitVec 32 := Scalar.extui v539
  let v541 : BitVec 32 := Scalar.addi v538 v540
  let v535 : BitVec 32 := Scalar.addi v0 v1
  let c1_i32 : BitVec 32 := 1#32
  let v2 : BitVec 32 := Scalar.addi v0 c1_i32
  let v536 : BitVec 32 := Scalar.addi v535 v2
  let v542 : BitVec 1 := Scalar.cmpi .sle v536 c0_i32_316
  let v543 : BitVec 32 := Scalar.extui v542
  let v544 : BitVec 32 := Scalar.addi v541 v543
  let c0_i32_321 : BitVec 32 := 0#32
  let v551 : BitVec 1 := Scalar.cmpi .eq v544 c0_i32_321
  let c1_i32_322 : BitVec 32 := 1#32
  let v552 : BitVec 1 := Scalar.cmpi .eq v544 c1_i32_322
  let c2_i32_323 : BitVec 32 := 2#32
  let v553 : BitVec 1 := Scalar.cmpi .eq v544 c2_i32_323
  let c14_i32 : BitVec 32 := 14#32
  let v3 : BitVec 32 := Scalar.subi c14_i32 v0
  let v554 : BitVec 32 := Scalar.select v553 v2 v3
  let v555 : BitVec 32 := Scalar.select v552 v1 v554
  let v556 : BitVec 32 := Scalar.select v551 v0 v555
  let v560 : Index := Scalar.indexCast v556
  let c0_326 : Index := 0#32
  let c0_327 : Index := 0#32
  ![v560.toNat, 0, 0]
def k0_off25_at (r : Fin 2) : BitVec 32 × BitVec 32 × BitVec 32 :=
  if r.val < 1 then
    (0#32, 0#32, 0#32)
  else
    (29#32, 29#32, 29#32)
def k0_off26 (i : grid0.Coords) (c0_i32_324 : BitVec 32) (c0_i32 : BitVec 32) (c0_i32_315 : BitVec 32) (c0_i32_316 : BitVec 32) : Fin 2 → Nat :=
  let c2_i32 : BitVec 32 := 2#32
  let arg2 : BitVec 32 := BitVec.ofNat 32 (i 2).val
  let v0 : BitVec 32 := Scalar.muli c2_i32 arg2
  let v537 : BitVec 1 := Scalar.cmpi .sle v0 c0_i32
  let v538 : BitVec 32 := Scalar.extui v537
  let c15_i32 : BitVec 32 := 15#32
  let v1 : BitVec 32 := Scalar.subi c15_i32 v0
  let v534 : BitVec 32 := Scalar.addi v0 v1
  let v539 : BitVec 1 := Scalar.cmpi .sle v534 c0_i32_315
  let v540 : BitVec 32 := Scalar.extui v539
  let v541 : BitVec 32 := Scalar.addi v538 v540
  let v535 : BitVec 32 := Scalar.addi v0 v1
  let c1_i32 : BitVec 32 := 1#32
  let v2 : BitVec 32 := Scalar.addi v0 c1_i32
  let v536 : BitVec 32 := Scalar.addi v535 v2
  let v542 : BitVec 1 := Scalar.cmpi .sle v536 c0_i32_316
  let v543 : BitVec 32 := Scalar.extui v542
  let v544 : BitVec 32 := Scalar.addi v541 v543
  let c0_i32_317 : BitVec 32 := 0#32
  let v545 : BitVec 1 := Scalar.cmpi .eq v544 c0_i32_317
  let c0_i32_320 : BitVec 32 := 0#32
  let c1_i32_318 : BitVec 32 := 1#32
  let v546 : BitVec 1 := Scalar.cmpi .eq v544 c1_i32_318
  let c2_i32_319 : BitVec 32 := 2#32
  let v547 : BitVec 1 := Scalar.cmpi .eq v544 c2_i32_319
  let v548 : BitVec 32 := Scalar.select v547 v534 v536
  let v549 : BitVec 32 := Scalar.select v546 v0 v548
  let v550 : BitVec 32 := Scalar.select v545 c0_i32_320 v549
  let v557 : BitVec 32 := Scalar.subi c0_i32_324 v550
  let c512_i32_325 : BitVec 32 := 512#32
  let v558 : BitVec 32 := Scalar.muli v557 c512_i32_325
  let v559 : BitVec 32 := v558
  let v563 : Index := Scalar.indexCast v559
  let c0_328 : Index := 0#32
  ![v563.toNat, 0]
def k0_off26_at (r : Fin 2) : BitVec 32 × BitVec 32 × BitVec 32 × BitVec 32 :=
  if r.val < 1 then
    (0#32, 0#32, 0#32, 0#32)
  else
    (29#32, 29#32, 29#32, 29#32)
def k0_off27 (i : grid0.Coords) (c0_i32 : BitVec 32) (c0_i32_315 : BitVec 32) (c0_i32_316 : BitVec 32) : Fin 3 → Nat :=
  let c2_i32 : BitVec 32 := 2#32
  let arg2 : BitVec 32 := BitVec.ofNat 32 (i 2).val
  let v0 : BitVec 32 := Scalar.muli c2_i32 arg2
  let v537 : BitVec 1 := Scalar.cmpi .sle v0 c0_i32
  let v538 : BitVec 32 := Scalar.extui v537
  let c15_i32 : BitVec 32 := 15#32
  let v1 : BitVec 32 := Scalar.subi c15_i32 v0
  let v534 : BitVec 32 := Scalar.addi v0 v1
  let v539 : BitVec 1 := Scalar.cmpi .sle v534 c0_i32_315
  let v540 : BitVec 32 := Scalar.extui v539
  let v541 : BitVec 32 := Scalar.addi v538 v540
  let v535 : BitVec 32 := Scalar.addi v0 v1
  let c1_i32 : BitVec 32 := 1#32
  let v2 : BitVec 32 := Scalar.addi v0 c1_i32
  let v536 : BitVec 32 := Scalar.addi v535 v2
  let v542 : BitVec 1 := Scalar.cmpi .sle v536 c0_i32_316
  let v543 : BitVec 32 := Scalar.extui v542
  let v544 : BitVec 32 := Scalar.addi v541 v543
  let c0_i32_321 : BitVec 32 := 0#32
  let v551 : BitVec 1 := Scalar.cmpi .eq v544 c0_i32_321
  let c1_i32_322 : BitVec 32 := 1#32
  let v552 : BitVec 1 := Scalar.cmpi .eq v544 c1_i32_322
  let c2_i32_323 : BitVec 32 := 2#32
  let v553 : BitVec 1 := Scalar.cmpi .eq v544 c2_i32_323
  let c14_i32 : BitVec 32 := 14#32
  let v3 : BitVec 32 := Scalar.subi c14_i32 v0
  let v554 : BitVec 32 := Scalar.select v553 v2 v3
  let v555 : BitVec 32 := Scalar.select v552 v1 v554
  let v556 : BitVec 32 := Scalar.select v551 v0 v555
  let v574 : Index := Scalar.indexCast v556
  let c128_336 : Index := 128#32
  let c0_337 : Index := 0#32
  ![v574.toNat, 128, 0]
def k0_off27_at (r : Fin 2) : BitVec 32 × BitVec 32 × BitVec 32 :=
  if r.val < 1 then
    (0#32, 0#32, 0#32)
  else
    (29#32, 29#32, 29#32)
def k0_off28 (i : grid0.Coords) (c0_i32_324 : BitVec 32) (c0_i32 : BitVec 32) (c0_i32_315 : BitVec 32) (c0_i32_316 : BitVec 32) : Fin 2 → Nat :=
  let c2_i32 : BitVec 32 := 2#32
  let arg2 : BitVec 32 := BitVec.ofNat 32 (i 2).val
  let v0 : BitVec 32 := Scalar.muli c2_i32 arg2
  let v537 : BitVec 1 := Scalar.cmpi .sle v0 c0_i32
  let v538 : BitVec 32 := Scalar.extui v537
  let c15_i32 : BitVec 32 := 15#32
  let v1 : BitVec 32 := Scalar.subi c15_i32 v0
  let v534 : BitVec 32 := Scalar.addi v0 v1
  let v539 : BitVec 1 := Scalar.cmpi .sle v534 c0_i32_315
  let v540 : BitVec 32 := Scalar.extui v539
  let v541 : BitVec 32 := Scalar.addi v538 v540
  let v535 : BitVec 32 := Scalar.addi v0 v1
  let c1_i32 : BitVec 32 := 1#32
  let v2 : BitVec 32 := Scalar.addi v0 c1_i32
  let v536 : BitVec 32 := Scalar.addi v535 v2
  let v542 : BitVec 1 := Scalar.cmpi .sle v536 c0_i32_316
  let v543 : BitVec 32 := Scalar.extui v542
  let v544 : BitVec 32 := Scalar.addi v541 v543
  let c0_i32_317 : BitVec 32 := 0#32
  let v545 : BitVec 1 := Scalar.cmpi .eq v544 c0_i32_317
  let c0_i32_320 : BitVec 32 := 0#32
  let c1_i32_318 : BitVec 32 := 1#32
  let v546 : BitVec 1 := Scalar.cmpi .eq v544 c1_i32_318
  let c2_i32_319 : BitVec 32 := 2#32
  let v547 : BitVec 1 := Scalar.cmpi .eq v544 c2_i32_319
  let v548 : BitVec 32 := Scalar.select v547 v534 v536
  let v549 : BitVec 32 := Scalar.select v546 v0 v548
  let v550 : BitVec 32 := Scalar.select v545 c0_i32_320 v549
  let v557 : BitVec 32 := Scalar.subi c0_i32_324 v550
  let c512_i32_325 : BitVec 32 := 512#32
  let v558 : BitVec 32 := Scalar.muli v557 c512_i32_325
  let v559 : BitVec 32 := v558
  let v577 : Index := Scalar.indexCast v559
  let c128_338 : Index := 128#32
  ![v577.toNat, 128]
def k0_off28_at (r : Fin 2) : BitVec 32 × BitVec 32 × BitVec 32 × BitVec 32 :=
  if r.val < 1 then
    (0#32, 0#32, 0#32, 0#32)
  else
    (29#32, 29#32, 29#32, 29#32)
@[reducible] def k0_t1_loop : Scf.Loop 32 :=
  let c0_i32_385 : BitVec 32 := 0#32
  let c2_i32_386 : BitVec 32 := 2#32
  let v642 : BitVec 32 := Scalar.addi c0_i32_385 c2_i32_386
  let c1_i32_387 : BitVec 32 := 1#32
  ⟨c0_i32_385, v642, c1_i32_387⟩
def k0_mult6 (i : grid0.Coords) (k0_t1 : Fin k0_t1_loop.trips) : BitVec 32 :=
  let c2_i32_555 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let c0_i32_554 : BitVec 32 := 0#32
  let v935 : BitVec 32 := Scalar.addi v934 c0_i32_554
  let v936 : BitVec 32 := Scalar.muli c2_i32_555 v935
  let c1_i32_556 : BitVec 32 := 1#32
  let v937 : BitVec 32 := Scalar.addi v936 c1_i32_556
  let c4_i32 : BitVec 32 := 4#32
  let v938 : BitVec 32 := Scalar.subi v937 c4_i32
  let c2_i32 : BitVec 32 := 2#32
  let arg2 : BitVec 32 := BitVec.ofNat 32 (i 2).val
  let v0 : BitVec 32 := Scalar.muli c2_i32 arg2
  let v942 : BitVec 1 := Scalar.cmpi .sge v938 v0
  let v943 : BitVec 32 := Scalar.extui v942
  let c15_i32 : BitVec 32 := 15#32
  let v1 : BitVec 32 := Scalar.subi c15_i32 v0
  let v939 : BitVec 32 := Scalar.addi v0 v1
  let v944 : BitVec 1 := Scalar.cmpi .sge v938 v939
  let v945 : BitVec 32 := Scalar.extui v944
  let v946 : BitVec 32 := Scalar.addi v943 v945
  let v940 : BitVec 32 := Scalar.addi v0 v1
  let c1_i32 : BitVec 32 := 1#32
  let v2 : BitVec 32 := Scalar.addi v0 c1_i32
  let v941 : BitVec 32 := Scalar.addi v940 v2
  let v947 : BitVec 1 := Scalar.cmpi .sge v938 v941
  let v948 : BitVec 32 := Scalar.extui v947
  let v949 : BitVec 32 := Scalar.addi v946 v948
  let c0_i32_557 : BitVec 32 := 0#32
  let v950 : BitVec 1 := Scalar.cmpi .eq v949 c0_i32_557
  let c0_i32_560 : BitVec 32 := 0#32
  let c1_i32_558 : BitVec 32 := 1#32
  let v951 : BitVec 1 := Scalar.cmpi .eq v949 c1_i32_558
  let c2_i32_559 : BitVec 32 := 2#32
  let v952 : BitVec 1 := Scalar.cmpi .eq v949 c2_i32_559
  let v953 : BitVec 32 := Scalar.select v952 v939 v941
  let v954 : BitVec 32 := Scalar.select v951 v0 v953
  let v955 : BitVec 32 := Scalar.select v950 c0_i32_560 v954
  let v962 : BitVec 32 := Scalar.subi v938 v955
  let c512_i32_564 : BitVec 32 := 512#32
  let v963 : BitVec 32 := Scalar.muli v962 c512_i32_564
  v963
def k0_off29 (i : grid0.Coords) (k0_t1 : Fin k0_t1_loop.trips) (c0_i32_554 : BitVec 32) (c1_i32_556 : BitVec 32) : Fin 3 → Nat :=
  let c2_i32_555 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v936 : BitVec 32 := Scalar.muli c2_i32_555 v935
  let v937 : BitVec 32 := Scalar.addi v936 c1_i32_556
  let c4_i32 : BitVec 32 := 4#32
  let v938 : BitVec 32 := Scalar.subi v937 c4_i32
  let c2_i32 : BitVec 32 := 2#32
  let arg2 : BitVec 32 := BitVec.ofNat 32 (i 2).val
  let v0 : BitVec 32 := Scalar.muli c2_i32 arg2
  let v942 : BitVec 1 := Scalar.cmpi .sge v938 v0
  let v943 : BitVec 32 := Scalar.extui v942
  let c15_i32 : BitVec 32 := 15#32
  let v1 : BitVec 32 := Scalar.subi c15_i32 v0
  let v939 : BitVec 32 := Scalar.addi v0 v1
  let v944 : BitVec 1 := Scalar.cmpi .sge v938 v939
  let v945 : BitVec 32 := Scalar.extui v944
  let v946 : BitVec 32 := Scalar.addi v943 v945
  let v940 : BitVec 32 := Scalar.addi v0 v1
  let c1_i32 : BitVec 32 := 1#32
  let v2 : BitVec 32 := Scalar.addi v0 c1_i32
  let v941 : BitVec 32 := Scalar.addi v940 v2
  let v947 : BitVec 1 := Scalar.cmpi .sge v938 v941
  let v948 : BitVec 32 := Scalar.extui v947
  let v949 : BitVec 32 := Scalar.addi v946 v948
  let c0_i32_561 : BitVec 32 := 0#32
  let v956 : BitVec 1 := Scalar.cmpi .eq v949 c0_i32_561
  let c1_i32_562 : BitVec 32 := 1#32
  let v957 : BitVec 1 := Scalar.cmpi .eq v949 c1_i32_562
  let c2_i32_563 : BitVec 32 := 2#32
  let v958 : BitVec 1 := Scalar.cmpi .eq v949 c2_i32_563
  let c14_i32 : BitVec 32 := 14#32
  let v3 : BitVec 32 := Scalar.subi c14_i32 v0
  let v959 : BitVec 32 := Scalar.select v958 v2 v3
  let v960 : BitVec 32 := Scalar.select v957 v1 v959
  let v961 : BitVec 32 := Scalar.select v956 v0 v960
  let v965 : Index := Scalar.indexCast v961
  let c0_565 : Index := 0#32
  let c0_566 : Index := 0#32
  ![v965.toNat, 0, 0]
def k0_off30 (i : grid0.Coords) (k0_t1 : Fin k0_t1_loop.trips) (c0_i32_554 : BitVec 32) (c1_i32_556 : BitVec 32) : Fin 2 → Nat :=
  let c2_i32_555 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v936 : BitVec 32 := Scalar.muli c2_i32_555 v935
  let v937 : BitVec 32 := Scalar.addi v936 c1_i32_556
  let c4_i32 : BitVec 32 := 4#32
  let v938 : BitVec 32 := Scalar.subi v937 c4_i32
  let c2_i32 : BitVec 32 := 2#32
  let arg2 : BitVec 32 := BitVec.ofNat 32 (i 2).val
  let v0 : BitVec 32 := Scalar.muli c2_i32 arg2
  let v942 : BitVec 1 := Scalar.cmpi .sge v938 v0
  let v943 : BitVec 32 := Scalar.extui v942
  let c15_i32 : BitVec 32 := 15#32
  let v1 : BitVec 32 := Scalar.subi c15_i32 v0
  let v939 : BitVec 32 := Scalar.addi v0 v1
  let v944 : BitVec 1 := Scalar.cmpi .sge v938 v939
  let v945 : BitVec 32 := Scalar.extui v944
  let v946 : BitVec 32 := Scalar.addi v943 v945
  let v940 : BitVec 32 := Scalar.addi v0 v1
  let c1_i32 : BitVec 32 := 1#32
  let v2 : BitVec 32 := Scalar.addi v0 c1_i32
  let v941 : BitVec 32 := Scalar.addi v940 v2
  let v947 : BitVec 1 := Scalar.cmpi .sge v938 v941
  let v948 : BitVec 32 := Scalar.extui v947
  let v949 : BitVec 32 := Scalar.addi v946 v948
  let c0_i32_557 : BitVec 32 := 0#32
  let v950 : BitVec 1 := Scalar.cmpi .eq v949 c0_i32_557
  let c0_i32_560 : BitVec 32 := 0#32
  let c1_i32_558 : BitVec 32 := 1#32
  let v951 : BitVec 1 := Scalar.cmpi .eq v949 c1_i32_558
  let c2_i32_559 : BitVec 32 := 2#32
  let v952 : BitVec 1 := Scalar.cmpi .eq v949 c2_i32_559
  let v953 : BitVec 32 := Scalar.select v952 v939 v941
  let v954 : BitVec 32 := Scalar.select v951 v0 v953
  let v955 : BitVec 32 := Scalar.select v950 c0_i32_560 v954
  let v962 : BitVec 32 := Scalar.subi v938 v955
  let c512_i32_564 : BitVec 32 := 512#32
  let v963 : BitVec 32 := Scalar.muli v962 c512_i32_564
  let v964 : BitVec 32 := v963
  let v968 : Index := Scalar.indexCast v964
  let c0_567 : Index := 0#32
  ![v968.toNat, 0]
def k0_off31 (i : grid0.Coords) (k0_t1 : Fin k0_t1_loop.trips) (c0_i32_554 : BitVec 32) (c1_i32_556 : BitVec 32) : Fin 3 → Nat :=
  let c2_i32_555 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v936 : BitVec 32 := Scalar.muli c2_i32_555 v935
  let v937 : BitVec 32 := Scalar.addi v936 c1_i32_556
  let c4_i32 : BitVec 32 := 4#32
  let v938 : BitVec 32 := Scalar.subi v937 c4_i32
  let c2_i32 : BitVec 32 := 2#32
  let arg2 : BitVec 32 := BitVec.ofNat 32 (i 2).val
  let v0 : BitVec 32 := Scalar.muli c2_i32 arg2
  let v942 : BitVec 1 := Scalar.cmpi .sge v938 v0
  let v943 : BitVec 32 := Scalar.extui v942
  let c15_i32 : BitVec 32 := 15#32
  let v1 : BitVec 32 := Scalar.subi c15_i32 v0
  let v939 : BitVec 32 := Scalar.addi v0 v1
  let v944 : BitVec 1 := Scalar.cmpi .sge v938 v939
  let v945 : BitVec 32 := Scalar.extui v944
  let v946 : BitVec 32 := Scalar.addi v943 v945
  let v940 : BitVec 32 := Scalar.addi v0 v1
  let c1_i32 : BitVec 32 := 1#32
  let v2 : BitVec 32 := Scalar.addi v0 c1_i32
  let v941 : BitVec 32 := Scalar.addi v940 v2
  let v947 : BitVec 1 := Scalar.cmpi .sge v938 v941
  let v948 : BitVec 32 := Scalar.extui v947
  let v949 : BitVec 32 := Scalar.addi v946 v948
  let c0_i32_561 : BitVec 32 := 0#32
  let v956 : BitVec 1 := Scalar.cmpi .eq v949 c0_i32_561
  let c1_i32_562 : BitVec 32 := 1#32
  let v957 : BitVec 1 := Scalar.cmpi .eq v949 c1_i32_562
  let c2_i32_563 : BitVec 32 := 2#32
  let v958 : BitVec 1 := Scalar.cmpi .eq v949 c2_i32_563
  let c14_i32 : BitVec 32 := 14#32
  let v3 : BitVec 32 := Scalar.subi c14_i32 v0
  let v959 : BitVec 32 := Scalar.select v958 v2 v3
  let v960 : BitVec 32 := Scalar.select v957 v1 v959
  let v961 : BitVec 32 := Scalar.select v956 v0 v960
  let v979 : Index := Scalar.indexCast v961
  let c128_575 : Index := 128#32
  let c0_576 : Index := 0#32
  ![v979.toNat, 128, 0]
def k0_off32 (i : grid0.Coords) (k0_t1 : Fin k0_t1_loop.trips) (c0_i32_554 : BitVec 32) (c1_i32_556 : BitVec 32) : Fin 2 → Nat :=
  let c2_i32_555 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v936 : BitVec 32 := Scalar.muli c2_i32_555 v935
  let v937 : BitVec 32 := Scalar.addi v936 c1_i32_556
  let c4_i32 : BitVec 32 := 4#32
  let v938 : BitVec 32 := Scalar.subi v937 c4_i32
  let c2_i32 : BitVec 32 := 2#32
  let arg2 : BitVec 32 := BitVec.ofNat 32 (i 2).val
  let v0 : BitVec 32 := Scalar.muli c2_i32 arg2
  let v942 : BitVec 1 := Scalar.cmpi .sge v938 v0
  let v943 : BitVec 32 := Scalar.extui v942
  let c15_i32 : BitVec 32 := 15#32
  let v1 : BitVec 32 := Scalar.subi c15_i32 v0
  let v939 : BitVec 32 := Scalar.addi v0 v1
  let v944 : BitVec 1 := Scalar.cmpi .sge v938 v939
  let v945 : BitVec 32 := Scalar.extui v944
  let v946 : BitVec 32 := Scalar.addi v943 v945
  let v940 : BitVec 32 := Scalar.addi v0 v1
  let c1_i32 : BitVec 32 := 1#32
  let v2 : BitVec 32 := Scalar.addi v0 c1_i32
  let v941 : BitVec 32 := Scalar.addi v940 v2
  let v947 : BitVec 1 := Scalar.cmpi .sge v938 v941
  let v948 : BitVec 32 := Scalar.extui v947
  let v949 : BitVec 32 := Scalar.addi v946 v948
  let c0_i32_557 : BitVec 32 := 0#32
  let v950 : BitVec 1 := Scalar.cmpi .eq v949 c0_i32_557
  let c0_i32_560 : BitVec 32 := 0#32
  let c1_i32_558 : BitVec 32 := 1#32
  let v951 : BitVec 1 := Scalar.cmpi .eq v949 c1_i32_558
  let c2_i32_559 : BitVec 32 := 2#32
  let v952 : BitVec 1 := Scalar.cmpi .eq v949 c2_i32_559
  let v953 : BitVec 32 := Scalar.select v952 v939 v941
  let v954 : BitVec 32 := Scalar.select v951 v0 v953
  let v955 : BitVec 32 := Scalar.select v950 c0_i32_560 v954
  let v962 : BitVec 32 := Scalar.subi v938 v955
  let c512_i32_564 : BitVec 32 := 512#32
  let v963 : BitVec 32 := Scalar.muli v962 c512_i32_564
  let v964 : BitVec 32 := v963
  let v982 : Index := Scalar.indexCast v964
  let c128_577 : Index := 128#32
  ![v982.toNat, 128]
def k0_off33 (i : grid0.Coords) (k0_t1 : Fin k0_t1_loop.trips) (c0_i32_554 : BitVec 32) : Fin 3 → Nat :=
  let c2_i32_585 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v993 : BitVec 32 := Scalar.muli c2_i32_585 v935
  let c4_i32_586 : BitVec 32 := 4#32
  let v994 : BitVec 32 := Scalar.subi v993 c4_i32_586
  let c2_i32 : BitVec 32 := 2#32
  let arg2 : BitVec 32 := BitVec.ofNat 32 (i 2).val
  let v0 : BitVec 32 := Scalar.muli c2_i32 arg2
  let v998 : BitVec 1 := Scalar.cmpi .sge v994 v0
  let v999 : BitVec 32 := Scalar.extui v998
  let c15_i32 : BitVec 32 := 15#32
  let v1 : BitVec 32 := Scalar.subi c15_i32 v0
  let v995 : BitVec 32 := Scalar.addi v0 v1
  let v1000 : BitVec 1 := Scalar.cmpi .sge v994 v995
  let v1001 : BitVec 32 := Scalar.extui v1000
  let v1002 : BitVec 32 := Scalar.addi v999 v1001
  let v996 : BitVec 32 := Scalar.addi v0 v1
  let c1_i32 : BitVec 32 := 1#32
  let v2 : BitVec 32 := Scalar.addi v0 c1_i32
  let v997 : BitVec 32 := Scalar.addi v996 v2
  let v1003 : BitVec 1 := Scalar.cmpi .sge v994 v997
  let v1004 : BitVec 32 := Scalar.extui v1003
  let v1005 : BitVec 32 := Scalar.addi v1002 v1004
  let v1013 : Index := Scalar.indexCast v1005
  let c0_591 : Index := 0#32
  let c0_592 : Index := 0#32
  ![v1013.toNat, 0, 0]
def k0_off34 (i : grid0.Coords) (k0_t1 : Fin k0_t1_loop.trips) (c0_i32_554 : BitVec 32) : Fin 3 → Nat :=
  let c2_i32_585 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v993 : BitVec 32 := Scalar.muli c2_i32_585 v935
  let c4_i32_586 : BitVec 32 := 4#32
  let v994 : BitVec 32 := Scalar.subi v993 c4_i32_586
  let c2_i32 : BitVec 32 := 2#32
  let arg2 : BitVec 32 := BitVec.ofNat 32 (i 2).val
  let v0 : BitVec 32 := Scalar.muli c2_i32 arg2
  let v998 : BitVec 1 := Scalar.cmpi .sge v994 v0
  let v999 : BitVec 32 := Scalar.extui v998
  let c15_i32 : BitVec 32 := 15#32
  let v1 : BitVec 32 := Scalar.subi c15_i32 v0
  let v995 : BitVec 32 := Scalar.addi v0 v1
  let v1000 : BitVec 1 := Scalar.cmpi .sge v994 v995
  let v1001 : BitVec 32 := Scalar.extui v1000
  let v1002 : BitVec 32 := Scalar.addi v999 v1001
  let v996 : BitVec 32 := Scalar.addi v0 v1
  let c1_i32 : BitVec 32 := 1#32
  let v2 : BitVec 32 := Scalar.addi v0 c1_i32
  let v997 : BitVec 32 := Scalar.addi v996 v2
  let v1003 : BitVec 1 := Scalar.cmpi .sge v994 v997
  let v1004 : BitVec 32 := Scalar.extui v1003
  let v1005 : BitVec 32 := Scalar.addi v1002 v1004
  let c0_i32_587 : BitVec 32 := 0#32
  let v1006 : BitVec 1 := Scalar.cmpi .eq v1005 c0_i32_587
  let c0_i32_590 : BitVec 32 := 0#32
  let c1_i32_588 : BitVec 32 := 1#32
  let v1007 : BitVec 1 := Scalar.cmpi .eq v1005 c1_i32_588
  let c2_i32_589 : BitVec 32 := 2#32
  let v1008 : BitVec 1 := Scalar.cmpi .eq v1005 c2_i32_589
  let v1009 : BitVec 32 := Scalar.select v1008 v995 v997
  let v1010 : BitVec 32 := Scalar.select v1007 v0 v1009
  let v1011 : BitVec 32 := Scalar.select v1006 c0_i32_590 v1010
  let v1012 : BitVec 32 := Scalar.subi v994 v1011
  let v1030 : Index := Scalar.indexCast v1012
  let c0_600 : Index := 0#32
  let c0_601 : Index := 0#32
  ![v1030.toNat, 0, 0]
def k0_off35 (i : grid0.Coords) (k0_t1 : Fin k0_t1_loop.trips) (c0_i32_554 : BitVec 32) : Fin 3 → Nat :=
  let c2_i32_585 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v993 : BitVec 32 := Scalar.muli c2_i32_585 v935
  let c4_i32_586 : BitVec 32 := 4#32
  let v994 : BitVec 32 := Scalar.subi v993 c4_i32_586
  let c2_i32 : BitVec 32 := 2#32
  let arg2 : BitVec 32 := BitVec.ofNat 32 (i 2).val
  let v0 : BitVec 32 := Scalar.muli c2_i32 arg2
  let v998 : BitVec 1 := Scalar.cmpi .sge v994 v0
  let v999 : BitVec 32 := Scalar.extui v998
  let c15_i32 : BitVec 32 := 15#32
  let v1 : BitVec 32 := Scalar.subi c15_i32 v0
  let v995 : BitVec 32 := Scalar.addi v0 v1
  let v1000 : BitVec 1 := Scalar.cmpi .sge v994 v995
  let v1001 : BitVec 32 := Scalar.extui v1000
  let v1002 : BitVec 32 := Scalar.addi v999 v1001
  let v996 : BitVec 32 := Scalar.addi v0 v1
  let c1_i32 : BitVec 32 := 1#32
  let v2 : BitVec 32 := Scalar.addi v0 c1_i32
  let v997 : BitVec 32 := Scalar.addi v996 v2
  let v1003 : BitVec 1 := Scalar.cmpi .sge v994 v997
  let v1004 : BitVec 32 := Scalar.extui v1003
  let v1005 : BitVec 32 := Scalar.addi v1002 v1004
  let v1034 : Index := Scalar.indexCast v1005
  let c0_603 : Index := 0#32
  let c0_604 : Index := 0#32
  ![v1034.toNat, 0, 0]
def k0_off36 (i : grid0.Coords) (k0_t1 : Fin k0_t1_loop.trips) (c0_i32_554 : BitVec 32) : Fin 3 → Nat :=
  let c2_i32_585 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v993 : BitVec 32 := Scalar.muli c2_i32_585 v935
  let c4_i32_586 : BitVec 32 := 4#32
  let v994 : BitVec 32 := Scalar.subi v993 c4_i32_586
  let c2_i32 : BitVec 32 := 2#32
  let arg2 : BitVec 32 := BitVec.ofNat 32 (i 2).val
  let v0 : BitVec 32 := Scalar.muli c2_i32 arg2
  let v998 : BitVec 1 := Scalar.cmpi .sge v994 v0
  let v999 : BitVec 32 := Scalar.extui v998
  let c15_i32 : BitVec 32 := 15#32
  let v1 : BitVec 32 := Scalar.subi c15_i32 v0
  let v995 : BitVec 32 := Scalar.addi v0 v1
  let v1000 : BitVec 1 := Scalar.cmpi .sge v994 v995
  let v1001 : BitVec 32 := Scalar.extui v1000
  let v1002 : BitVec 32 := Scalar.addi v999 v1001
  let v996 : BitVec 32 := Scalar.addi v0 v1
  let c1_i32 : BitVec 32 := 1#32
  let v2 : BitVec 32 := Scalar.addi v0 c1_i32
  let v997 : BitVec 32 := Scalar.addi v996 v2
  let v1003 : BitVec 1 := Scalar.cmpi .sge v994 v997
  let v1004 : BitVec 32 := Scalar.extui v1003
  let v1005 : BitVec 32 := Scalar.addi v1002 v1004
  let v1044 : Index := Scalar.indexCast v1005
  let c1_607 : Index := 1#32
  let c0_608 : Index := 0#32
  ![v1044.toNat, 1, 0]
def k0_off37 (i : grid0.Coords) (k0_t1 : Fin k0_t1_loop.trips) (c0_i32_554 : BitVec 32) : Fin 3 → Nat :=
  let c2_i32_585 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v993 : BitVec 32 := Scalar.muli c2_i32_585 v935
  let c4_i32_586 : BitVec 32 := 4#32
  let v994 : BitVec 32 := Scalar.subi v993 c4_i32_586
  let c2_i32 : BitVec 32 := 2#32
  let arg2 : BitVec 32 := BitVec.ofNat 32 (i 2).val
  let v0 : BitVec 32 := Scalar.muli c2_i32 arg2
  let v998 : BitVec 1 := Scalar.cmpi .sge v994 v0
  let v999 : BitVec 32 := Scalar.extui v998
  let c15_i32 : BitVec 32 := 15#32
  let v1 : BitVec 32 := Scalar.subi c15_i32 v0
  let v995 : BitVec 32 := Scalar.addi v0 v1
  let v1000 : BitVec 1 := Scalar.cmpi .sge v994 v995
  let v1001 : BitVec 32 := Scalar.extui v1000
  let v1002 : BitVec 32 := Scalar.addi v999 v1001
  let v996 : BitVec 32 := Scalar.addi v0 v1
  let c1_i32 : BitVec 32 := 1#32
  let v2 : BitVec 32 := Scalar.addi v0 c1_i32
  let v997 : BitVec 32 := Scalar.addi v996 v2
  let v1003 : BitVec 1 := Scalar.cmpi .sge v994 v997
  let v1004 : BitVec 32 := Scalar.extui v1003
  let v1005 : BitVec 32 := Scalar.addi v1002 v1004
  let c0_i32_587 : BitVec 32 := 0#32
  let v1006 : BitVec 1 := Scalar.cmpi .eq v1005 c0_i32_587
  let c0_i32_590 : BitVec 32 := 0#32
  let c1_i32_588 : BitVec 32 := 1#32
  let v1007 : BitVec 1 := Scalar.cmpi .eq v1005 c1_i32_588
  let c2_i32_589 : BitVec 32 := 2#32
  let v1008 : BitVec 1 := Scalar.cmpi .eq v1005 c2_i32_589
  let v1009 : BitVec 32 := Scalar.select v1008 v995 v997
  let v1010 : BitVec 32 := Scalar.select v1007 v0 v1009
  let v1011 : BitVec 32 := Scalar.select v1006 c0_i32_590 v1010
  let v1012 : BitVec 32 := Scalar.subi v994 v1011
  let v1061 : Index := Scalar.indexCast v1012
  let c80_616 : Index := 80#32
  let c0_617 : Index := 0#32
  ![v1061.toNat, 80, 0]
def k0_off38 (i : grid0.Coords) (k0_t1 : Fin k0_t1_loop.trips) (c0_i32_554 : BitVec 32) : Fin 3 → Nat :=
  let c2_i32_585 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v993 : BitVec 32 := Scalar.muli c2_i32_585 v935
  let c4_i32_586 : BitVec 32 := 4#32
  let v994 : BitVec 32 := Scalar.subi v993 c4_i32_586
  let c2_i32 : BitVec 32 := 2#32
  let arg2 : BitVec 32 := BitVec.ofNat 32 (i 2).val
  let v0 : BitVec 32 := Scalar.muli c2_i32 arg2
  let v998 : BitVec 1 := Scalar.cmpi .sge v994 v0
  let v999 : BitVec 32 := Scalar.extui v998
  let c15_i32 : BitVec 32 := 15#32
  let v1 : BitVec 32 := Scalar.subi c15_i32 v0
  let v995 : BitVec 32 := Scalar.addi v0 v1
  let v1000 : BitVec 1 := Scalar.cmpi .sge v994 v995
  let v1001 : BitVec 32 := Scalar.extui v1000
  let v1002 : BitVec 32 := Scalar.addi v999 v1001
  let v996 : BitVec 32 := Scalar.addi v0 v1
  let c1_i32 : BitVec 32 := 1#32
  let v2 : BitVec 32 := Scalar.addi v0 c1_i32
  let v997 : BitVec 32 := Scalar.addi v996 v2
  let v1003 : BitVec 1 := Scalar.cmpi .sge v994 v997
  let v1004 : BitVec 32 := Scalar.extui v1003
  let v1005 : BitVec 32 := Scalar.addi v1002 v1004
  let v1065 : Index := Scalar.indexCast v1005
  let c80_619 : Index := 80#32
  let c0_620 : Index := 0#32
  ![v1065.toNat, 80, 0]
def k0_mult7 (i : grid0.Coords) (k0_t1 : Fin k0_t1_loop.trips) : BitVec 32 :=
  let c2_i32_623 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let c0_i32_554 : BitVec 32 := 0#32
  let v935 : BitVec 32 := Scalar.addi v934 c0_i32_554
  let v1075 : BitVec 32 := Scalar.muli c2_i32_623 v935
  let c2_i32_624 : BitVec 32 := 2#32
  let v1076 : BitVec 32 := Scalar.addi v1075 c2_i32_624
  let c4_i32_625 : BitVec 32 := 4#32
  let v1077 : BitVec 32 := Scalar.subi v1076 c4_i32_625
  let c2_i32 : BitVec 32 := 2#32
  let arg2 : BitVec 32 := BitVec.ofNat 32 (i 2).val
  let v0 : BitVec 32 := Scalar.muli c2_i32 arg2
  let v1081 : BitVec 1 := Scalar.cmpi .sge v1077 v0
  let v1082 : BitVec 32 := Scalar.extui v1081
  let c15_i32 : BitVec 32 := 15#32
  let v1 : BitVec 32 := Scalar.subi c15_i32 v0
  let v1078 : BitVec 32 := Scalar.addi v0 v1
  let v1083 : BitVec 1 := Scalar.cmpi .sge v1077 v1078
  let v1084 : BitVec 32 := Scalar.extui v1083
  let v1085 : BitVec 32 := Scalar.addi v1082 v1084
  let v1079 : BitVec 32 := Scalar.addi v0 v1
  let c1_i32 : BitVec 32 := 1#32
  let v2 : BitVec 32 := Scalar.addi v0 c1_i32
  let v1080 : BitVec 32 := Scalar.addi v1079 v2
  let v1086 : BitVec 1 := Scalar.cmpi .sge v1077 v1080
  let v1087 : BitVec 32 := Scalar.extui v1086
  let v1088 : BitVec 32 := Scalar.addi v1085 v1087
  let c0_i32_626 : BitVec 32 := 0#32
  let v1089 : BitVec 1 := Scalar.cmpi .eq v1088 c0_i32_626
  let c0_i32_629 : BitVec 32 := 0#32
  let c1_i32_627 : BitVec 32 := 1#32
  let v1090 : BitVec 1 := Scalar.cmpi .eq v1088 c1_i32_627
  let c2_i32_628 : BitVec 32 := 2#32
  let v1091 : BitVec 1 := Scalar.cmpi .eq v1088 c2_i32_628
  let v1092 : BitVec 32 := Scalar.select v1091 v1078 v1080
  let v1093 : BitVec 32 := Scalar.select v1090 v0 v1092
  let v1094 : BitVec 32 := Scalar.select v1089 c0_i32_629 v1093
  let v1101 : BitVec 32 := Scalar.subi v1077 v1094
  let c512_i32_633 : BitVec 32 := 512#32
  let v1102 : BitVec 32 := Scalar.muli v1101 c512_i32_633
  v1102
def k0_off39 (i : grid0.Coords) (k0_t1 : Fin k0_t1_loop.trips) (c0_i32_554 : BitVec 32) : Fin 3 → Nat :=
  let c2_i32_654 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v1132 : BitVec 32 := Scalar.muli c2_i32_654 v935
  let c1_i32_655 : BitVec 32 := 1#32
  let v1133 : BitVec 32 := Scalar.addi v1132 c1_i32_655
  let c4_i32_656 : BitVec 32 := 4#32
  let v1134 : BitVec 32 := Scalar.subi v1133 c4_i32_656
  let c2_i32 : BitVec 32 := 2#32
  let arg2 : BitVec 32 := BitVec.ofNat 32 (i 2).val
  let v0 : BitVec 32 := Scalar.muli c2_i32 arg2
  let v1138 : BitVec 1 := Scalar.cmpi .sge v1134 v0
  let v1139 : BitVec 32 := Scalar.extui v1138
  let c15_i32 : BitVec 32 := 15#32
  let v1 : BitVec 32 := Scalar.subi c15_i32 v0
  let v1135 : BitVec 32 := Scalar.addi v0 v1
  let v1140 : BitVec 1 := Scalar.cmpi .sge v1134 v1135
  let v1141 : BitVec 32 := Scalar.extui v1140
  let v1142 : BitVec 32 := Scalar.addi v1139 v1141
  let v1136 : BitVec 32 := Scalar.addi v0 v1
  let c1_i32 : BitVec 32 := 1#32
  let v2 : BitVec 32 := Scalar.addi v0 c1_i32
  let v1137 : BitVec 32 := Scalar.addi v1136 v2
  let v1143 : BitVec 1 := Scalar.cmpi .sge v1134 v1137
  let v1144 : BitVec 32 := Scalar.extui v1143
  let v1145 : BitVec 32 := Scalar.addi v1142 v1144
  let v1153 : Index := Scalar.indexCast v1145
  let c0_661 : Index := 0#32
  let c0_662 : Index := 0#32
  ![v1153.toNat, 0, 0]
def k0_off40 (i : grid0.Coords) (k0_t1 : Fin k0_t1_loop.trips) (c0_i32_554 : BitVec 32) : Fin 3 → Nat :=
  let c2_i32_654 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v1132 : BitVec 32 := Scalar.muli c2_i32_654 v935
  let c1_i32_655 : BitVec 32 := 1#32
  let v1133 : BitVec 32 := Scalar.addi v1132 c1_i32_655
  let c4_i32_656 : BitVec 32 := 4#32
  let v1134 : BitVec 32 := Scalar.subi v1133 c4_i32_656
  let c2_i32 : BitVec 32 := 2#32
  let arg2 : BitVec 32 := BitVec.ofNat 32 (i 2).val
  let v0 : BitVec 32 := Scalar.muli c2_i32 arg2
  let v1138 : BitVec 1 := Scalar.cmpi .sge v1134 v0
  let v1139 : BitVec 32 := Scalar.extui v1138
  let c15_i32 : BitVec 32 := 15#32
  let v1 : BitVec 32 := Scalar.subi c15_i32 v0
  let v1135 : BitVec 32 := Scalar.addi v0 v1
  let v1140 : BitVec 1 := Scalar.cmpi .sge v1134 v1135
  let v1141 : BitVec 32 := Scalar.extui v1140
  let v1142 : BitVec 32 := Scalar.addi v1139 v1141
  let v1136 : BitVec 32 := Scalar.addi v0 v1
  let c1_i32 : BitVec 32 := 1#32
  let v2 : BitVec 32 := Scalar.addi v0 c1_i32
  let v1137 : BitVec 32 := Scalar.addi v1136 v2
  let v1143 : BitVec 1 := Scalar.cmpi .sge v1134 v1137
  let v1144 : BitVec 32 := Scalar.extui v1143
  let v1145 : BitVec 32 := Scalar.addi v1142 v1144
  let c0_i32_657 : BitVec 32 := 0#32
  let v1146 : BitVec 1 := Scalar.cmpi .eq v1145 c0_i32_657
  let c0_i32_660 : BitVec 32 := 0#32
  let c1_i32_658 : BitVec 32 := 1#32
  let v1147 : BitVec 1 := Scalar.cmpi .eq v1145 c1_i32_658
  let c2_i32_659 : BitVec 32 := 2#32
  let v1148 : BitVec 1 := Scalar.cmpi .eq v1145 c2_i32_659
  let v1149 : BitVec 32 := Scalar.select v1148 v1135 v1137
  let v1150 : BitVec 32 := Scalar.select v1147 v0 v1149
  let v1151 : BitVec 32 := Scalar.select v1146 c0_i32_660 v1150
  let v1152 : BitVec 32 := Scalar.subi v1134 v1151
  let v1170 : Index := Scalar.indexCast v1152
  let c0_670 : Index := 0#32
  let c0_671 : Index := 0#32
  ![v1170.toNat, 0, 0]
def k0_off41 (i : grid0.Coords) (k0_t1 : Fin k0_t1_loop.trips) (c0_i32_554 : BitVec 32) : Fin 3 → Nat :=
  let c2_i32_654 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v1132 : BitVec 32 := Scalar.muli c2_i32_654 v935
  let c1_i32_655 : BitVec 32 := 1#32
  let v1133 : BitVec 32 := Scalar.addi v1132 c1_i32_655
  let c4_i32_656 : BitVec 32 := 4#32
  let v1134 : BitVec 32 := Scalar.subi v1133 c4_i32_656
  let c2_i32 : BitVec 32 := 2#32
  let arg2 : BitVec 32 := BitVec.ofNat 32 (i 2).val
  let v0 : BitVec 32 := Scalar.muli c2_i32 arg2
  let v1138 : BitVec 1 := Scalar.cmpi .sge v1134 v0
  let v1139 : BitVec 32 := Scalar.extui v1138
  let c15_i32 : BitVec 32 := 15#32
  let v1 : BitVec 32 := Scalar.subi c15_i32 v0
  let v1135 : BitVec 32 := Scalar.addi v0 v1
  let v1140 : BitVec 1 := Scalar.cmpi .sge v1134 v1135
  let v1141 : BitVec 32 := Scalar.extui v1140
  let v1142 : BitVec 32 := Scalar.addi v1139 v1141
  let v1136 : BitVec 32 := Scalar.addi v0 v1
  let c1_i32 : BitVec 32 := 1#32
  let v2 : BitVec 32 := Scalar.addi v0 c1_i32
  let v1137 : BitVec 32 := Scalar.addi v1136 v2
  let v1143 : BitVec 1 := Scalar.cmpi .sge v1134 v1137
  let v1144 : BitVec 32 := Scalar.extui v1143
  let v1145 : BitVec 32 := Scalar.addi v1142 v1144
  let v1174 : Index := Scalar.indexCast v1145
  let c0_673 : Index := 0#32
  let c0_674 : Index := 0#32
  ![v1174.toNat, 0, 0]
def k0_off42 (i : grid0.Coords) (k0_t1 : Fin k0_t1_loop.trips) (c0_i32_554 : BitVec 32) : Fin 3 → Nat :=
  let c2_i32_654 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v1132 : BitVec 32 := Scalar.muli c2_i32_654 v935
  let c1_i32_655 : BitVec 32 := 1#32
  let v1133 : BitVec 32 := Scalar.addi v1132 c1_i32_655
  let c4_i32_656 : BitVec 32 := 4#32
  let v1134 : BitVec 32 := Scalar.subi v1133 c4_i32_656
  let c2_i32 : BitVec 32 := 2#32
  let arg2 : BitVec 32 := BitVec.ofNat 32 (i 2).val
  let v0 : BitVec 32 := Scalar.muli c2_i32 arg2
  let v1138 : BitVec 1 := Scalar.cmpi .sge v1134 v0
  let v1139 : BitVec 32 := Scalar.extui v1138
  let c15_i32 : BitVec 32 := 15#32
  let v1 : BitVec 32 := Scalar.subi c15_i32 v0
  let v1135 : BitVec 32 := Scalar.addi v0 v1
  let v1140 : BitVec 1 := Scalar.cmpi .sge v1134 v1135
  let v1141 : BitVec 32 := Scalar.extui v1140
  let v1142 : BitVec 32 := Scalar.addi v1139 v1141
  let v1136 : BitVec 32 := Scalar.addi v0 v1
  let c1_i32 : BitVec 32 := 1#32
  let v2 : BitVec 32 := Scalar.addi v0 c1_i32
  let v1137 : BitVec 32 := Scalar.addi v1136 v2
  let v1143 : BitVec 1 := Scalar.cmpi .sge v1134 v1137
  let v1144 : BitVec 32 := Scalar.extui v1143
  let v1145 : BitVec 32 := Scalar.addi v1142 v1144
  let v1184 : Index := Scalar.indexCast v1145
  let c1_677 : Index := 1#32
  let c0_678 : Index := 0#32
  ![v1184.toNat, 1, 0]
def k0_off43 (i : grid0.Coords) (k0_t1 : Fin k0_t1_loop.trips) (c0_i32_554 : BitVec 32) : Fin 3 → Nat :=
  let c2_i32_654 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v1132 : BitVec 32 := Scalar.muli c2_i32_654 v935
  let c1_i32_655 : BitVec 32 := 1#32
  let v1133 : BitVec 32 := Scalar.addi v1132 c1_i32_655
  let c4_i32_656 : BitVec 32 := 4#32
  let v1134 : BitVec 32 := Scalar.subi v1133 c4_i32_656
  let c2_i32 : BitVec 32 := 2#32
  let arg2 : BitVec 32 := BitVec.ofNat 32 (i 2).val
  let v0 : BitVec 32 := Scalar.muli c2_i32 arg2
  let v1138 : BitVec 1 := Scalar.cmpi .sge v1134 v0
  let v1139 : BitVec 32 := Scalar.extui v1138
  let c15_i32 : BitVec 32 := 15#32
  let v1 : BitVec 32 := Scalar.subi c15_i32 v0
  let v1135 : BitVec 32 := Scalar.addi v0 v1
  let v1140 : BitVec 1 := Scalar.cmpi .sge v1134 v1135
  let v1141 : BitVec 32 := Scalar.extui v1140
  let v1142 : BitVec 32 := Scalar.addi v1139 v1141
  let v1136 : BitVec 32 := Scalar.addi v0 v1
  let c1_i32 : BitVec 32 := 1#32
  let v2 : BitVec 32 := Scalar.addi v0 c1_i32
  let v1137 : BitVec 32 := Scalar.addi v1136 v2
  let v1143 : BitVec 1 := Scalar.cmpi .sge v1134 v1137
  let v1144 : BitVec 32 := Scalar.extui v1143
  let v1145 : BitVec 32 := Scalar.addi v1142 v1144
  let c0_i32_657 : BitVec 32 := 0#32
  let v1146 : BitVec 1 := Scalar.cmpi .eq v1145 c0_i32_657
  let c0_i32_660 : BitVec 32 := 0#32
  let c1_i32_658 : BitVec 32 := 1#32
  let v1147 : BitVec 1 := Scalar.cmpi .eq v1145 c1_i32_658
  let c2_i32_659 : BitVec 32 := 2#32
  let v1148 : BitVec 1 := Scalar.cmpi .eq v1145 c2_i32_659
  let v1149 : BitVec 32 := Scalar.select v1148 v1135 v1137
  let v1150 : BitVec 32 := Scalar.select v1147 v0 v1149
  let v1151 : BitVec 32 := Scalar.select v1146 c0_i32_660 v1150
  let v1152 : BitVec 32 := Scalar.subi v1134 v1151
  let v1201 : Index := Scalar.indexCast v1152
  let c80_686 : Index := 80#32
  let c0_687 : Index := 0#32
  ![v1201.toNat, 80, 0]
def k0_off44 (i : grid0.Coords) (k0_t1 : Fin k0_t1_loop.trips) (c0_i32_554 : BitVec 32) : Fin 3 → Nat :=
  let c2_i32_654 : BitVec 32 := 2#32
  let c2_i32_553 : BitVec 32 := 2#32
  let c7_i32 : BitVec 32 := 7#32
  let c0_i32_385 : BitVec 32 := 0#32
  let c1_i32_387 : BitVec 32 := 1#32
  let arg13 : BitVec 32 := Scf.iv c0_i32_385 c1_i32_387 k0_t1
  let v933 : BitVec 32 := Scalar.muli c7_i32 arg13
  let v934 : BitVec 32 := Scalar.addi c2_i32_553 v933
  let v935 : BitVec 32 := Scalar.addi v934 c0_i32_554
  let v1132 : BitVec 32 := Scalar.muli c2_i32_654 v935
  let c1_i32_655 : BitVec 32 := 1#32
  let v1133 : BitVec 32 := Scalar.addi v1132 c1_i32_655
  let c4_i32_656 : BitVec 32 := 4#32
  let v1134 : BitVec 32 := Scalar.subi v1133 c4_i32_656
  let c2_i32 : BitVec 32 := 2#32
  let arg2 : BitVec 32 := BitVec.ofNat 32 (i 2).val
  let v0 : BitVec 32 := Scalar.muli c2_i32 arg2
  let v1138 : BitVec 1 := Scalar.cmpi .sge v1134 v0
  let v1139 : BitVec 32 := Scalar.extui v1138
  let c15_i32 : BitVec 32 := 15#32
  let v1 : BitVec 32 := Scalar.subi c15_i32 v0
  let v1135 : BitVec 32 := Scalar.addi v0 v1
  let v1140 : BitVec 1 := Scalar.cmpi .sge v1134 v1135
  let v1141 : BitVec 32 := Scalar.extui v1140
  let v1142 : BitVec 32 := Scalar.addi v1139 v1141
  let v1136 : BitVec 32 := Scalar.addi v0 v1
  let c1_i32 : BitVec 32 := 1#32
  let v2 : BitVec 32 := Scalar.addi v0 c1_i32
  let v1137 : BitVec 32 := Scalar.addi v1136 v2
  let v1143 : BitVec 1 := Scalar.cmpi .sge v1134 v1137
  let v1144 : BitVec 32 := Scalar.extui v1143
  let v1145 : BitVec 32 := Scalar.addi v1142 v1144
  let v1205 : Index := Scalar.indexCast v1145
  let c80_689 : Index := 80#32
  let c0_690 : Index := 0#32
  ![v1205.toNat, 80, 0]
def k0_mult8 (i : grid0.Coords) (k0_t1 : Fin k0_t1_loop.trips) : BitVec 32 :=
  let c2_i32_696 : BitVec 32 := 2#32
  let c2_i32_694 : BitVec 32 := 2#32
  let c7_i32_693 : BitVec 32 := 7#32
  let c0_i32_385 : BitVec 32 := 0#32
  let c1_i32_387 : BitVec 32 := 1#32
  let arg13 : BitVec 32 := Scf.iv c0_i32_385 c1_i32_387 k0_t1
  let v1215 : BitVec 32 := Scalar.muli c7_i32_693 arg13
  let v1216 : BitVec 32 := Scalar.addi c2_i32_694 v1215
  let c1_i32_695 : BitVec 32 := 1#32
  let v1217 : BitVec 32 := Scalar.addi v1216 c1_i32_695
  let v1218 : BitVec 32 := Scalar.muli c2_i32_696 v1217
  let c1_i32_697 : BitVec 32 := 1#32
  let v1219 : BitVec 32 := Scalar.addi v1218 c1_i32_697
  let c4_i32_698 : BitVec 32 := 4#32
  let v1220 : BitVec 32 := Scalar.subi v1219 c4_i32_698
  let c2_i32 : BitVec 32 := 2#32
  let arg2 : BitVec 32 := BitVec.ofNat 32 (i 2).val
  let v0 : BitVec 32 := Scalar.muli c2_i32 arg2
  let v1224 : BitVec 1 := Scalar.cmpi .sge v1220 v0
  let v1225 : BitVec 32 := Scalar.extui v1224
  let c15_i32 : BitVec 32 := 15#32
  let v1 : BitVec 32 := Scalar.subi c15_i32 v0
  let v1221 : BitVec 32 := Scalar.addi v0 v1
  let v1226 : BitVec 1 := Scalar.cmpi .sge v1220 v1221
  let v1227 : BitVec 32 := Scalar.extui v1226
  let v1228 : BitVec 32 := Scalar.addi v1225 v1227
  let v1222 : BitVec 32 := Scalar.addi v0 v1
  let c1_i32 : BitVec 32 := 1#32
  let v2 : BitVec 32 := Scalar.addi v0 c1_i32
  let v1223 : BitVec 32 := Scalar.addi v1222 v2
  let v1229 : BitVec 1 := Scalar.cmpi .sge v1220 v1223
  let v1230 : BitVec 32 := Scalar.extui v1229
  let v1231 : BitVec 32 := Scalar.addi v1228 v1230
  let c0_i32_699 : BitVec 32 := 0#32
  let v1232 : BitVec 1 := Scalar.cmpi .eq v1231 c0_i32_699
  let c0_i32_702 : BitVec 32 := 0#32
  let c1_i32_700 : BitVec 32 := 1#32
  let v1233 : BitVec 1 := Scalar.cmpi .eq v1231 c1_i32_700
  let c2_i32_701 : BitVec 32 := 2#32
  let v1234 : BitVec 1 := Scalar.cmpi .eq v1231 c2_i32_701
  let v1235 : BitVec 32 := Scalar.select v1234 v1221 v1223
  let v1236 : BitVec 32 := Scalar.select v1233 v0 v1235
  let v1237 : BitVec 32 := Scalar.select v1232 c0_i32_702 v1236
  let v1244 : BitVec 32 := Scalar.subi v1220 v1237
  let c512_i32_706 : BitVec 32 := 512#32
  let v1245 : BitVec 32 := Scalar.muli v1244 c512_i32_706
  v1245
def k0_mult9 (i : grid0.Coords) (k0_t1 : Fin k0_t1_loop.trips) : BitVec 32 :=
  let c2_i32_765 : BitVec 32 := 2#32
  let c2_i32_694 : BitVec 32 := 2#32
  let c7_i32_693 : BitVec 32 := 7#32
  let c0_i32_385 : BitVec 32 := 0#32
  let c1_i32_387 : BitVec 32 := 1#32
  let arg13 : BitVec 32 := Scf.iv c0_i32_385 c1_i32_387 k0_t1
  let v1215 : BitVec 32 := Scalar.muli c7_i32_693 arg13
  let v1216 : BitVec 32 := Scalar.addi c2_i32_694 v1215
  let c1_i32_695 : BitVec 32 := 1#32
  let v1217 : BitVec 32 := Scalar.addi v1216 c1_i32_695
  let v1357 : BitVec 32 := Scalar.muli c2_i32_765 v1217
  let c2_i32_766 : BitVec 32 := 2#32
  let v1358 : BitVec 32 := Scalar.addi v1357 c2_i32_766
  let c4_i32_767 : BitVec 32 := 4#32
  let v1359 : BitVec 32 := Scalar.subi v1358 c4_i32_767
  let c2_i32 : BitVec 32 := 2#32
  let arg2 : BitVec 32 := BitVec.ofNat 32 (i 2).val
  let v0 : BitVec 32 := Scalar.muli c2_i32 arg2
  let v1363 : BitVec 1 := Scalar.cmpi .sge v1359 v0
  let v1364 : BitVec 32 := Scalar.extui v1363
  let c15_i32 : BitVec 32 := 15#32
  let v1 : BitVec 32 := Scalar.subi c15_i32 v0
  let v1360 : BitVec 32 := Scalar.addi v0 v1
  let v1365 : BitVec 1 := Scalar.cmpi .sge v1359 v1360
  let v1366 : BitVec 32 := Scalar.extui v1365
  let v1367 : BitVec 32 := Scalar.addi v1364 v1366
  let v1361 : BitVec 32 := Scalar.addi v0 v1
  let c1_i32 : BitVec 32 := 1#32
  let v2 : BitVec 32 := Scalar.addi v0 c1_i32
  let v1362 : BitVec 32 := Scalar.addi v1361 v2
  let v1368 : BitVec 1 := Scalar.cmpi .sge v1359 v1362
  let v1369 : BitVec 32 := Scalar.extui v1368
  let v1370 : BitVec 32 := Scalar.addi v1367 v1369
  let c0_i32_768 : BitVec 32 := 0#32
  let v1371 : BitVec 1 := Scalar.cmpi .eq v1370 c0_i32_768
  let c0_i32_771 : BitVec 32 := 0#32
  let c1_i32_769 : BitVec 32 := 1#32
  let v1372 : BitVec 1 := Scalar.cmpi .eq v1370 c1_i32_769
  let c2_i32_770 : BitVec 32 := 2#32
  let v1373 : BitVec 1 := Scalar.cmpi .eq v1370 c2_i32_770
  let v1374 : BitVec 32 := Scalar.select v1373 v1360 v1362
  let v1375 : BitVec 32 := Scalar.select v1372 v0 v1374
  let v1376 : BitVec 32 := Scalar.select v1371 c0_i32_771 v1375
  let v1383 : BitVec 32 := Scalar.subi v1359 v1376
  let c512_i32_775 : BitVec 32 := 512#32
  let v1384 : BitVec 32 := Scalar.muli v1383 c512_i32_775
  v1384
def k0_mult10 (i : grid0.Coords) (k0_t1 : Fin k0_t1_loop.trips) : BitVec 32 :=
  let c2_i32_838 : BitVec 32 := 2#32
  let c2_i32_836 : BitVec 32 := 2#32
  let c7_i32_835 : BitVec 32 := 7#32
  let c0_i32_385 : BitVec 32 := 0#32
  let c1_i32_387 : BitVec 32 := 1#32
  let arg13 : BitVec 32 := Scf.iv c0_i32_385 c1_i32_387 k0_t1
  let v1497 : BitVec 32 := Scalar.muli c7_i32_835 arg13
  let v1498 : BitVec 32 := Scalar.addi c2_i32_836 v1497
  let c2_i32_837 : BitVec 32 := 2#32
  let v1499 : BitVec 32 := Scalar.addi v1498 c2_i32_837
  let v1500 : BitVec 32 := Scalar.muli c2_i32_838 v1499
  let c1_i32_839 : BitVec 32 := 1#32
  let v1501 : BitVec 32 := Scalar.addi v1500 c1_i32_839
  let c4_i32_840 : BitVec 32 := 4#32
  let v1502 : BitVec 32 := Scalar.subi v1501 c4_i32_840
  let c2_i32 : BitVec 32 := 2#32
  let arg2 : BitVec 32 := BitVec.ofNat 32 (i 2).val
  let v0 : BitVec 32 := Scalar.muli c2_i32 arg2
  let v1506 : BitVec 1 := Scalar.cmpi .sge v1502 v0
  let v1507 : BitVec 32 := Scalar.extui v1506
  let c15_i32 : BitVec 32 := 15#32
  let v1 : BitVec 32 := Scalar.subi c15_i32 v0
  let v1503 : BitVec 32 := Scalar.addi v0 v1
  let v1508 : BitVec 1 := Scalar.cmpi .sge v1502 v1503
  let v1509 : BitVec 32 := Scalar.extui v1508
  let v1510 : BitVec 32 := Scalar.addi v1507 v1509
  let v1504 : BitVec 32 := Scalar.addi v0 v1
  let c1_i32 : BitVec 32 := 1#32
  let v2 : BitVec 32 := Scalar.addi v0 c1_i32
  let v1505 : BitVec 32 := Scalar.addi v1504 v2
  let v1511 : BitVec 1 := Scalar.cmpi .sge v1502 v1505
  let v1512 : BitVec 32 := Scalar.extui v1511
  let v1513 : BitVec 32 := Scalar.addi v1510 v1512
  let c0_i32_841 : BitVec 32 := 0#32
  let v1514 : BitVec 1 := Scalar.cmpi .eq v1513 c0_i32_841
  let c0_i32_844 : BitVec 32 := 0#32
  let c1_i32_842 : BitVec 32 := 1#32
  let v1515 : BitVec 1 := Scalar.cmpi .eq v1513 c1_i32_842
  let c2_i32_843 : BitVec 32 := 2#32
  let v1516 : BitVec 1 := Scalar.cmpi .eq v1513 c2_i32_843
  let v1517 : BitVec 32 := Scalar.select v1516 v1503 v1505
  let v1518 : BitVec 32 := Scalar.select v1515 v0 v1517
  let v1519 : BitVec 32 := Scalar.select v1514 c0_i32_844 v1518
  let v1526 : BitVec 32 := Scalar.subi v1502 v1519
  let c512_i32_848 : BitVec 32 := 512#32
  let v1527 : BitVec 32 := Scalar.muli v1526 c512_i32_848
  v1527
def k0_mult11 (i : grid0.Coords) (k0_t1 : Fin k0_t1_loop.trips) : BitVec 32 :=
  let c2_i32_907 : BitVec 32 := 2#32
  let c2_i32_836 : BitVec 32 := 2#32
  let c7_i32_835 : BitVec 32 := 7#32
  let c0_i32_385 : BitVec 32 := 0#32
  let c1_i32_387 : BitVec 32 := 1#32
  let arg13 : BitVec 32 := Scf.iv c0_i32_385 c1_i32_387 k0_t1
  let v1497 : BitVec 32 := Scalar.muli c7_i32_835 arg13
  let v1498 : BitVec 32 := Scalar.addi c2_i32_836 v1497
  let c2_i32_837 : BitVec 32 := 2#32
  let v1499 : BitVec 32 := Scalar.addi v1498 c2_i32_837
  let v1639 : BitVec 32 := Scalar.muli c2_i32_907 v1499
  let c2_i32_908 : BitVec 32 := 2#32
  let v1640 : BitVec 32 := Scalar.addi v1639 c2_i32_908
  let c4_i32_909 : BitVec 32 := 4#32
  let v1641 : BitVec 32 := Scalar.subi v1640 c4_i32_909
  let c2_i32 : BitVec 32 := 2#32
  let arg2 : BitVec 32 := BitVec.ofNat 32 (i 2).val
  let v0 : BitVec 32 := Scalar.muli c2_i32 arg2
  let v1645 : BitVec 1 := Scalar.cmpi .sge v1641 v0
  let v1646 : BitVec 32 := Scalar.extui v1645
  let c15_i32 : BitVec 32 := 15#32
  let v1 : BitVec 32 := Scalar.subi c15_i32 v0
  let v1642 : BitVec 32 := Scalar.addi v0 v1
  let v1647 : BitVec 1 := Scalar.cmpi .sge v1641 v1642
  let v1648 : BitVec 32 := Scalar.extui v1647
  let v1649 : BitVec 32 := Scalar.addi v1646 v1648
  let v1643 : BitVec 32 := Scalar.addi v0 v1
  let c1_i32 : BitVec 32 := 1#32
  let v2 : BitVec 32 := Scalar.addi v0 c1_i32
  let v1644 : BitVec 32 := Scalar.addi v1643 v2
  let v1650 : BitVec 1 := Scalar.cmpi .sge v1641 v1644
  let v1651 : BitVec 32 := Scalar.extui v1650
  let v1652 : BitVec 32 := Scalar.addi v1649 v1651
  let c0_i32_910 : BitVec 32 := 0#32
  let v1653 : BitVec 1 := Scalar.cmpi .eq v1652 c0_i32_910
  let c0_i32_913 : BitVec 32 := 0#32
  let c1_i32_911 : BitVec 32 := 1#32
  let v1654 : BitVec 1 := Scalar.cmpi .eq v1652 c1_i32_911
  let c2_i32_912 : BitVec 32 := 2#32
  let v1655 : BitVec 1 := Scalar.cmpi .eq v1652 c2_i32_912
  let v1656 : BitVec 32 := Scalar.select v1655 v1642 v1644
  let v1657 : BitVec 32 := Scalar.select v1654 v0 v1656
  let v1658 : BitVec 32 := Scalar.select v1653 c0_i32_913 v1657
  let v1665 : BitVec 32 := Scalar.subi v1641 v1658
  let c512_i32_917 : BitVec 32 := 512#32
  let v1666 : BitVec 32 := Scalar.muli v1665 c512_i32_917
  v1666
def k0_mult12 (i : grid0.Coords) (k0_t1 : Fin k0_t1_loop.trips) : BitVec 32 :=
  let c2_i32_979 : BitVec 32 := 2#32
  let c2_i32_978 : BitVec 32 := 2#32
  let c7_i32_977 : BitVec 32 := 7#32
  let c0_i32_385 : BitVec 32 := 0#32
  let c1_i32_387 : BitVec 32 := 1#32
  let arg13 : BitVec 32 := Scf.iv c0_i32_385 c1_i32_387 k0_t1
  let v1779 : BitVec 32 := Scalar.muli c7_i32_977 arg13
  let v1780 : BitVec 32 := Scalar.addi c2_i32_978 v1779
  let c3_i32 : BitVec 32 := 3#32
  let v1781 : BitVec 32 := Scalar.addi v1780 c3_i32
  let v1782 : BitVec 32 := Scalar.muli c2_i32_979 v1781
  let c1_i32_980 : BitVec 32 := 1#32
  let v1783 : BitVec 32 := Scalar.addi v1782 c1_i32_980
  let c4_i32_981 : BitVec 32 := 4#32
  let v1784 : BitVec 32 := Scalar.subi v1783 c4_i32_981
  let c2_i32 : BitVec 32 := 2#32
  let arg2 : BitVec 32 := BitVec.ofNat 32 (i 2).val
  let v0 : BitVec 32 := Scalar.muli c2_i32 arg2
  let v1788 : BitVec 1 := Scalar.cmpi .sge v1784 v0
  let v1789 : BitVec 32 := Scalar.extui v1788
  let c15_i32 : BitVec 32 := 15#32
  let v1 : BitVec 32 := Scalar.subi c15_i32 v0
  let v1785 : BitVec 32 := Scalar.addi v0 v1
  let v1790 : BitVec 1 := Scalar.cmpi .sge v1784 v1785
  let v1791 : BitVec 32 := Scalar.extui v1790
  let v1792 : BitVec 32 := Scalar.addi v1789 v1791
  let v1786 : BitVec 32 := Scalar.addi v0 v1
  let c1_i32 : BitVec 32 := 1#32
  let v2 : BitVec 32 := Scalar.addi v0 c1_i32
  let v1787 : BitVec 32 := Scalar.addi v1786 v2
  let v1793 : BitVec 1 := Scalar.cmpi .sge v1784 v1787
  let v1794 : BitVec 32 := Scalar.extui v1793
  let v1795 : BitVec 32 := Scalar.addi v1792 v1794
  let c0_i32_982 : BitVec 32 := 0#32
  let v1796 : BitVec 1 := Scalar.cmpi .eq v1795 c0_i32_982
  let c0_i32_985 : BitVec 32 := 0#32
  let c1_i32_983 : BitVec 32 := 1#32
  let v1797 : BitVec 1 := Scalar.cmpi .eq v1795 c1_i32_983
  let c2_i32_984 : BitVec 32 := 2#32
  let v1798 : BitVec 1 := Scalar.cmpi .eq v1795 c2_i32_984
  let v1799 : BitVec 32 := Scalar.select v1798 v1785 v1787
  let v1800 : BitVec 32 := Scalar.select v1797 v0 v1799
  let v1801 : BitVec 32 := Scalar.select v1796 c0_i32_985 v1800
  let v1808 : BitVec 32 := Scalar.subi v1784 v1801
  let c512_i32_989 : BitVec 32 := 512#32
  let v1809 : BitVec 32 := Scalar.muli v1808 c512_i32_989
  v1809
def k0_mult13 (i : grid0.Coords) (k0_t1 : Fin k0_t1_loop.trips) : BitVec 32 :=
  let c2_i32_1048 : BitVec 32 := 2#32
  let c2_i32_978 : BitVec 32 := 2#32
  let c7_i32_977 : BitVec 32 := 7#32
  let c0_i32_385 : BitVec 32 := 0#32
  let c1_i32_387 : BitVec 32 := 1#32
  let arg13 : BitVec 32 := Scf.iv c0_i32_385 c1_i32_387 k0_t1
  let v1779 : BitVec 32 := Scalar.muli c7_i32_977 arg13
  let v1780 : BitVec 32 := Scalar.addi c2_i32_978 v1779
  let c3_i32 : BitVec 32 := 3#32
  let v1781 : BitVec 32 := Scalar.addi v1780 c3_i32
  let v1921 : BitVec 32 := Scalar.muli c2_i32_1048 v1781
  let c2_i32_1049 : BitVec 32 := 2#32
  let v1922 : BitVec 32 := Scalar.addi v1921 c2_i32_1049
  let c4_i32_1050 : BitVec 32 := 4#32
  let v1923 : BitVec 32 := Scalar.subi v1922 c4_i32_1050
  let c2_i32 : BitVec 32 := 2#32
  let arg2 : BitVec 32 := BitVec.ofNat 32 (i 2).val
  let v0 : BitVec 32 := Scalar.muli c2_i32 arg2
  let v1927 : BitVec 1 := Scalar.cmpi .sge v1923 v0
  let v1928 : BitVec 32 := Scalar.extui v1927
  let c15_i32 : BitVec 32 := 15#32
  let v1 : BitVec 32 := Scalar.subi c15_i32 v0
  let v1924 : BitVec 32 := Scalar.addi v0 v1
  let v1929 : BitVec 1 := Scalar.cmpi .sge v1923 v1924
  let v1930 : BitVec 32 := Scalar.extui v1929
  let v1931 : BitVec 32 := Scalar.addi v1928 v1930
  let v1925 : BitVec 32 := Scalar.addi v0 v1
  let c1_i32 : BitVec 32 := 1#32
  let v2 : BitVec 32 := Scalar.addi v0 c1_i32
  let v1926 : BitVec 32 := Scalar.addi v1925 v2
  let v1932 : BitVec 1 := Scalar.cmpi .sge v1923 v1926
  let v1933 : BitVec 32 := Scalar.extui v1932
  let v1934 : BitVec 32 := Scalar.addi v1931 v1933
  let c0_i32_1051 : BitVec 32 := 0#32
  let v1935 : BitVec 1 := Scalar.cmpi .eq v1934 c0_i32_1051
  let c0_i32_1054 : BitVec 32 := 0#32
  let c1_i32_1052 : BitVec 32 := 1#32
  let v1936 : BitVec 1 := Scalar.cmpi .eq v1934 c1_i32_1052
  let c2_i32_1053 : BitVec 32 := 2#32
  let v1937 : BitVec 1 := Scalar.cmpi .eq v1934 c2_i32_1053
  let v1938 : BitVec 32 := Scalar.select v1937 v1924 v1926
  let v1939 : BitVec 32 := Scalar.select v1936 v0 v1938
  let v1940 : BitVec 32 := Scalar.select v1935 c0_i32_1054 v1939
  let v1947 : BitVec 32 := Scalar.subi v1923 v1940
  let c512_i32_1058 : BitVec 32 := 512#32
  let v1948 : BitVec 32 := Scalar.muli v1947 c512_i32_1058
  v1948
def k0_mult14 (i : grid0.Coords) (k0_t1 : Fin k0_t1_loop.trips) : BitVec 32 :=
  let c2_i32_1121 : BitVec 32 := 2#32
  let c2_i32_1119 : BitVec 32 := 2#32
  let c7_i32_1118 : BitVec 32 := 7#32
  let c0_i32_385 : BitVec 32 := 0#32
  let c1_i32_387 : BitVec 32 := 1#32
  let arg13 : BitVec 32 := Scf.iv c0_i32_385 c1_i32_387 k0_t1
  let v2061 : BitVec 32 := Scalar.muli c7_i32_1118 arg13
  let v2062 : BitVec 32 := Scalar.addi c2_i32_1119 v2061
  let c4_i32_1120 : BitVec 32 := 4#32
  let v2063 : BitVec 32 := Scalar.addi v2062 c4_i32_1120
  let v2064 : BitVec 32 := Scalar.muli c2_i32_1121 v2063
  let c1_i32_1122 : BitVec 32 := 1#32
  let v2065 : BitVec 32 := Scalar.addi v2064 c1_i32_1122
  let c4_i32_1123 : BitVec 32 := 4#32
  let v2066 : BitVec 32 := Scalar.subi v2065 c4_i32_1123
  let c2_i32 : BitVec 32 := 2#32
  let arg2 : BitVec 32 := BitVec.ofNat 32 (i 2).val
  let v0 : BitVec 32 := Scalar.muli c2_i32 arg2
  let v2070 : BitVec 1 := Scalar.cmpi .sge v2066 v0
  let v2071 : BitVec 32 := Scalar.extui v2070
  let c15_i32 : BitVec 32 := 15#32
  let v1 : BitVec 32 := Scalar.subi c15_i32 v0
  let v2067 : BitVec 32 := Scalar.addi v0 v1
  let v2072 : BitVec 1 := Scalar.cmpi .sge v2066 v2067
  let v2073 : BitVec 32 := Scalar.extui v2072
  let v2074 : BitVec 32 := Scalar.addi v2071 v2073
  let v2068 : BitVec 32 := Scalar.addi v0 v1
  let c1_i32 : BitVec 32 := 1#32
  let v2 : BitVec 32 := Scalar.addi v0 c1_i32
  let v2069 : BitVec 32 := Scalar.addi v2068 v2
  let v2075 : BitVec 1 := Scalar.cmpi .sge v2066 v2069
  let v2076 : BitVec 32 := Scalar.extui v2075
  let v2077 : BitVec 32 := Scalar.addi v2074 v2076
  let c0_i32_1124 : BitVec 32 := 0#32
  let v2078 : BitVec 1 := Scalar.cmpi .eq v2077 c0_i32_1124
  let c0_i32_1127 : BitVec 32 := 0#32
  let c1_i32_1125 : BitVec 32 := 1#32
  let v2079 : BitVec 1 := Scalar.cmpi .eq v2077 c1_i32_1125
  let c2_i32_1126 : BitVec 32 := 2#32
  let v2080 : BitVec 1 := Scalar.cmpi .eq v2077 c2_i32_1126
  let v2081 : BitVec 32 := Scalar.select v2080 v2067 v2069
  let v2082 : BitVec 32 := Scalar.select v2079 v0 v2081
  let v2083 : BitVec 32 := Scalar.select v2078 c0_i32_1127 v2082
  let v2090 : BitVec 32 := Scalar.subi v2066 v2083
  let c512_i32_1131 : BitVec 32 := 512#32
  let v2091 : BitVec 32 := Scalar.muli v2090 c512_i32_1131
  v2091
def k0_mult15 (i : grid0.Coords) (k0_t1 : Fin k0_t1_loop.trips) : BitVec 32 :=
  let c2_i32_1190 : BitVec 32 := 2#32
  let c2_i32_1119 : BitVec 32 := 2#32
  let c7_i32_1118 : BitVec 32 := 7#32
  let c0_i32_385 : BitVec 32 := 0#32
  let c1_i32_387 : BitVec 32 := 1#32
  let arg13 : BitVec 32 := Scf.iv c0_i32_385 c1_i32_387 k0_t1
  let v2061 : BitVec 32 := Scalar.muli c7_i32_1118 arg13
  let v2062 : BitVec 32 := Scalar.addi c2_i32_1119 v2061
  let c4_i32_1120 : BitVec 32 := 4#32
  let v2063 : BitVec 32 := Scalar.addi v2062 c4_i32_1120
  let v2203 : BitVec 32 := Scalar.muli c2_i32_1190 v2063
  let c2_i32_1191 : BitVec 32 := 2#32
  let v2204 : BitVec 32 := Scalar.addi v2203 c2_i32_1191
  let c4_i32_1192 : BitVec 32 := 4#32
  let v2205 : BitVec 32 := Scalar.subi v2204 c4_i32_1192
  let c2_i32 : BitVec 32 := 2#32
  let arg2 : BitVec 32 := BitVec.ofNat 32 (i 2).val
  let v0 : BitVec 32 := Scalar.muli c2_i32 arg2
  let v2209 : BitVec 1 := Scalar.cmpi .sge v2205 v0
  let v2210 : BitVec 32 := Scalar.extui v2209
  let c15_i32 : BitVec 32 := 15#32
  let v1 : BitVec 32 := Scalar.subi c15_i32 v0
  let v2206 : BitVec 32 := Scalar.addi v0 v1
  let v2211 : BitVec 1 := Scalar.cmpi .sge v2205 v2206
  let v2212 : BitVec 32 := Scalar.extui v2211
  let v2213 : BitVec 32 := Scalar.addi v2210 v2212
  let v2207 : BitVec 32 := Scalar.addi v0 v1
  let c1_i32 : BitVec 32 := 1#32
  let v2 : BitVec 32 := Scalar.addi v0 c1_i32
  let v2208 : BitVec 32 := Scalar.addi v2207 v2
  let v2214 : BitVec 1 := Scalar.cmpi .sge v2205 v2208
  let v2215 : BitVec 32 := Scalar.extui v2214
  let v2216 : BitVec 32 := Scalar.addi v2213 v2215
  let c0_i32_1193 : BitVec 32 := 0#32
  let v2217 : BitVec 1 := Scalar.cmpi .eq v2216 c0_i32_1193
  let c0_i32_1196 : BitVec 32 := 0#32
  let c1_i32_1194 : BitVec 32 := 1#32
  let v2218 : BitVec 1 := Scalar.cmpi .eq v2216 c1_i32_1194
  let c2_i32_1195 : BitVec 32 := 2#32
  let v2219 : BitVec 1 := Scalar.cmpi .eq v2216 c2_i32_1195
  let v2220 : BitVec 32 := Scalar.select v2219 v2206 v2208
  let v2221 : BitVec 32 := Scalar.select v2218 v0 v2220
  let v2222 : BitVec 32 := Scalar.select v2217 c0_i32_1196 v2221
  let v2229 : BitVec 32 := Scalar.subi v2205 v2222
  let c512_i32_1200 : BitVec 32 := 512#32
  let v2230 : BitVec 32 := Scalar.muli v2229 c512_i32_1200
  v2230
def k0_mult16 (i : grid0.Coords) (k0_t1 : Fin k0_t1_loop.trips) : BitVec 32 :=
  let c2_i32_1262 : BitVec 32 := 2#32
  let c2_i32_1261 : BitVec 32 := 2#32
  let c7_i32_1260 : BitVec 32 := 7#32
  let c0_i32_385 : BitVec 32 := 0#32
  let c1_i32_387 : BitVec 32 := 1#32
  let arg13 : BitVec 32 := Scf.iv c0_i32_385 c1_i32_387 k0_t1
  let v2343 : BitVec 32 := Scalar.muli c7_i32_1260 arg13
  let v2344 : BitVec 32 := Scalar.addi c2_i32_1261 v2343
  let c5_i32 : BitVec 32 := 5#32
  let v2345 : BitVec 32 := Scalar.addi v2344 c5_i32
  let v2346 : BitVec 32 := Scalar.muli c2_i32_1262 v2345
  let c1_i32_1263 : BitVec 32 := 1#32
  let v2347 : BitVec 32 := Scalar.addi v2346 c1_i32_1263
  let c4_i32_1264 : BitVec 32 := 4#32
  let v2348 : BitVec 32 := Scalar.subi v2347 c4_i32_1264
  let c2_i32 : BitVec 32 := 2#32
  let arg2 : BitVec 32 := BitVec.ofNat 32 (i 2).val
  let v0 : BitVec 32 := Scalar.muli c2_i32 arg2
  let v2352 : BitVec 1 := Scalar.cmpi .sge v2348 v0
  let v2353 : BitVec 32 := Scalar.extui v2352
  let c15_i32 : BitVec 32 := 15#32
  let v1 : BitVec 32 := Scalar.subi c15_i32 v0
  let v2349 : BitVec 32 := Scalar.addi v0 v1
  let v2354 : BitVec 1 := Scalar.cmpi .sge v2348 v2349
  let v2355 : BitVec 32 := Scalar.extui v2354
  let v2356 : BitVec 32 := Scalar.addi v2353 v2355
  let v2350 : BitVec 32 := Scalar.addi v0 v1
  let c1_i32 : BitVec 32 := 1#32
  let v2 : BitVec 32 := Scalar.addi v0 c1_i32
  let v2351 : BitVec 32 := Scalar.addi v2350 v2
  let v2357 : BitVec 1 := Scalar.cmpi .sge v2348 v2351
  let v2358 : BitVec 32 := Scalar.extui v2357
  let v2359 : BitVec 32 := Scalar.addi v2356 v2358
  let c0_i32_1265 : BitVec 32 := 0#32
  let v2360 : BitVec 1 := Scalar.cmpi .eq v2359 c0_i32_1265
  let c0_i32_1268 : BitVec 32 := 0#32
  let c1_i32_1266 : BitVec 32 := 1#32
  let v2361 : BitVec 1 := Scalar.cmpi .eq v2359 c1_i32_1266
  let c2_i32_1267 : BitVec 32 := 2#32
  let v2362 : BitVec 1 := Scalar.cmpi .eq v2359 c2_i32_1267
  let v2363 : BitVec 32 := Scalar.select v2362 v2349 v2351
  let v2364 : BitVec 32 := Scalar.select v2361 v0 v2363
  let v2365 : BitVec 32 := Scalar.select v2360 c0_i32_1268 v2364
  let v2372 : BitVec 32 := Scalar.subi v2348 v2365
  let c512_i32_1272 : BitVec 32 := 512#32
  let v2373 : BitVec 32 := Scalar.muli v2372 c512_i32_1272
  v2373
def k0_mult17 (i : grid0.Coords) (k0_t1 : Fin k0_t1_loop.trips) : BitVec 32 :=
  let c2_i32_1331 : BitVec 32 := 2#32
  let c2_i32_1261 : BitVec 32 := 2#32
  let c7_i32_1260 : BitVec 32 := 7#32
  let c0_i32_385 : BitVec 32 := 0#32
  let c1_i32_387 : BitVec 32 := 1#32
  let arg13 : BitVec 32 := Scf.iv c0_i32_385 c1_i32_387 k0_t1
  let v2343 : BitVec 32 := Scalar.muli c7_i32_1260 arg13
  let v2344 : BitVec 32 := Scalar.addi c2_i32_1261 v2343
  let c5_i32 : BitVec 32 := 5#32
  let v2345 : BitVec 32 := Scalar.addi v2344 c5_i32
  let v2485 : BitVec 32 := Scalar.muli c2_i32_1331 v2345
  let c2_i32_1332 : BitVec 32 := 2#32
  let v2486 : BitVec 32 := Scalar.addi v2485 c2_i32_1332
  let c4_i32_1333 : BitVec 32 := 4#32
  let v2487 : BitVec 32 := Scalar.subi v2486 c4_i32_1333
  let c2_i32 : BitVec 32 := 2#32
  let arg2 : BitVec 32 := BitVec.ofNat 32 (i 2).val
  let v0 : BitVec 32 := Scalar.muli c2_i32 arg2
  let v2491 : BitVec 1 := Scalar.cmpi .sge v2487 v0
  let v2492 : BitVec 32 := Scalar.extui v2491
  let c15_i32 : BitVec 32 := 15#32
  let v1 : BitVec 32 := Scalar.subi c15_i32 v0
  let v2488 : BitVec 32 := Scalar.addi v0 v1
  let v2493 : BitVec 1 := Scalar.cmpi .sge v2487 v2488
  let v2494 : BitVec 32 := Scalar.extui v2493
  let v2495 : BitVec 32 := Scalar.addi v2492 v2494
  let v2489 : BitVec 32 := Scalar.addi v0 v1
  let c1_i32 : BitVec 32 := 1#32
  let v2 : BitVec 32 := Scalar.addi v0 c1_i32
  let v2490 : BitVec 32 := Scalar.addi v2489 v2
  let v2496 : BitVec 1 := Scalar.cmpi .sge v2487 v2490
  let v2497 : BitVec 32 := Scalar.extui v2496
  let v2498 : BitVec 32 := Scalar.addi v2495 v2497
  let c0_i32_1334 : BitVec 32 := 0#32
  let v2499 : BitVec 1 := Scalar.cmpi .eq v2498 c0_i32_1334
  let c0_i32_1337 : BitVec 32 := 0#32
  let c1_i32_1335 : BitVec 32 := 1#32
  let v2500 : BitVec 1 := Scalar.cmpi .eq v2498 c1_i32_1335
  let c2_i32_1336 : BitVec 32 := 2#32
  let v2501 : BitVec 1 := Scalar.cmpi .eq v2498 c2_i32_1336
  let v2502 : BitVec 32 := Scalar.select v2501 v2488 v2490
  let v2503 : BitVec 32 := Scalar.select v2500 v0 v2502
  let v2504 : BitVec 32 := Scalar.select v2499 c0_i32_1337 v2503
  let v2511 : BitVec 32 := Scalar.subi v2487 v2504
  let c512_i32_1341 : BitVec 32 := 512#32
  let v2512 : BitVec 32 := Scalar.muli v2511 c512_i32_1341
  v2512
def k0_mult18 (i : grid0.Coords) (k0_t1 : Fin k0_t1_loop.trips) : BitVec 32 :=
  let c2_i32_1403 : BitVec 32 := 2#32
  let c2_i32_1402 : BitVec 32 := 2#32
  let c7_i32_1401 : BitVec 32 := 7#32
  let c0_i32_385 : BitVec 32 := 0#32
  let c1_i32_387 : BitVec 32 := 1#32
  let arg13 : BitVec 32 := Scf.iv c0_i32_385 c1_i32_387 k0_t1
  let v2625 : BitVec 32 := Scalar.muli c7_i32_1401 arg13
  let v2626 : BitVec 32 := Scalar.addi c2_i32_1402 v2625
  let c6_i32 : BitVec 32 := 6#32
  let v2627 : BitVec 32 := Scalar.addi v2626 c6_i32
  let v2628 : BitVec 32 := Scalar.muli c2_i32_1403 v2627
  let c1_i32_1404 : BitVec 32 := 1#32
  let v2629 : BitVec 32 := Scalar.addi v2628 c1_i32_1404
  let c4_i32_1405 : BitVec 32 := 4#32
  let v2630 : BitVec 32 := Scalar.subi v2629 c4_i32_1405
  let c2_i32 : BitVec 32 := 2#32
  let arg2 : BitVec 32 := BitVec.ofNat 32 (i 2).val
  let v0 : BitVec 32 := Scalar.muli c2_i32 arg2
  let v2634 : BitVec 1 := Scalar.cmpi .sge v2630 v0
  let v2635 : BitVec 32 := Scalar.extui v2634
  let c15_i32 : BitVec 32 := 15#32
  let v1 : BitVec 32 := Scalar.subi c15_i32 v0
  let v2631 : BitVec 32 := Scalar.addi v0 v1
  let v2636 : BitVec 1 := Scalar.cmpi .sge v2630 v2631
  let v2637 : BitVec 32 := Scalar.extui v2636
  let v2638 : BitVec 32 := Scalar.addi v2635 v2637
  let v2632 : BitVec 32 := Scalar.addi v0 v1
  let c1_i32 : BitVec 32 := 1#32
  let v2 : BitVec 32 := Scalar.addi v0 c1_i32
  let v2633 : BitVec 32 := Scalar.addi v2632 v2
  let v2639 : BitVec 1 := Scalar.cmpi .sge v2630 v2633
  let v2640 : BitVec 32 := Scalar.extui v2639
  let v2641 : BitVec 32 := Scalar.addi v2638 v2640
  let c0_i32_1406 : BitVec 32 := 0#32
  let v2642 : BitVec 1 := Scalar.cmpi .eq v2641 c0_i32_1406
  let c0_i32_1409 : BitVec 32 := 0#32
  let c1_i32_1407 : BitVec 32 := 1#32
  let v2643 : BitVec 1 := Scalar.cmpi .eq v2641 c1_i32_1407
  let c2_i32_1408 : BitVec 32 := 2#32
  let v2644 : BitVec 1 := Scalar.cmpi .eq v2641 c2_i32_1408
  let v2645 : BitVec 32 := Scalar.select v2644 v2631 v2633
  let v2646 : BitVec 32 := Scalar.select v2643 v0 v2645
  let v2647 : BitVec 32 := Scalar.select v2642 c0_i32_1409 v2646
  let v2654 : BitVec 32 := Scalar.subi v2630 v2647
  let c512_i32_1413 : BitVec 32 := 512#32
  let v2655 : BitVec 32 := Scalar.muli v2654 c512_i32_1413
  v2655
def k0_mult19 (i : grid0.Coords) (k0_t1 : Fin k0_t1_loop.trips) : BitVec 32 :=
  let c2_i32_1472 : BitVec 32 := 2#32
  let c2_i32_1402 : BitVec 32 := 2#32
  let c7_i32_1401 : BitVec 32 := 7#32
  let c0_i32_385 : BitVec 32 := 0#32
  let c1_i32_387 : BitVec 32 := 1#32
  let arg13 : BitVec 32 := Scf.iv c0_i32_385 c1_i32_387 k0_t1
  let v2625 : BitVec 32 := Scalar.muli c7_i32_1401 arg13
  let v2626 : BitVec 32 := Scalar.addi c2_i32_1402 v2625
  let c6_i32 : BitVec 32 := 6#32
  let v2627 : BitVec 32 := Scalar.addi v2626 c6_i32
  let v2767 : BitVec 32 := Scalar.muli c2_i32_1472 v2627
  let c2_i32_1473 : BitVec 32 := 2#32
  let v2768 : BitVec 32 := Scalar.addi v2767 c2_i32_1473
  let c4_i32_1474 : BitVec 32 := 4#32
  let v2769 : BitVec 32 := Scalar.subi v2768 c4_i32_1474
  let c2_i32 : BitVec 32 := 2#32
  let arg2 : BitVec 32 := BitVec.ofNat 32 (i 2).val
  let v0 : BitVec 32 := Scalar.muli c2_i32 arg2
  let v2773 : BitVec 1 := Scalar.cmpi .sge v2769 v0
  let v2774 : BitVec 32 := Scalar.extui v2773
  let c15_i32 : BitVec 32 := 15#32
  let v1 : BitVec 32 := Scalar.subi c15_i32 v0
  let v2770 : BitVec 32 := Scalar.addi v0 v1
  let v2775 : BitVec 1 := Scalar.cmpi .sge v2769 v2770
  let v2776 : BitVec 32 := Scalar.extui v2775
  let v2777 : BitVec 32 := Scalar.addi v2774 v2776
  let v2771 : BitVec 32 := Scalar.addi v0 v1
  let c1_i32 : BitVec 32 := 1#32
  let v2 : BitVec 32 := Scalar.addi v0 c1_i32
  let v2772 : BitVec 32 := Scalar.addi v2771 v2
  let v2778 : BitVec 1 := Scalar.cmpi .sge v2769 v2772
  let v2779 : BitVec 32 := Scalar.extui v2778
  let v2780 : BitVec 32 := Scalar.addi v2777 v2779
  let c0_i32_1475 : BitVec 32 := 0#32
  let v2781 : BitVec 1 := Scalar.cmpi .eq v2780 c0_i32_1475
  let c0_i32_1478 : BitVec 32 := 0#32
  let c1_i32_1476 : BitVec 32 := 1#32
  let v2782 : BitVec 1 := Scalar.cmpi .eq v2780 c1_i32_1476
  let c2_i32_1477 : BitVec 32 := 2#32
  let v2783 : BitVec 1 := Scalar.cmpi .eq v2780 c2_i32_1477
  let v2784 : BitVec 32 := Scalar.select v2783 v2770 v2772
  let v2785 : BitVec 32 := Scalar.select v2782 v0 v2784
  let v2786 : BitVec 32 := Scalar.select v2781 c0_i32_1478 v2785
  let v2793 : BitVec 32 := Scalar.subi v2769 v2786
  let c512_i32_1482 : BitVec 32 := 512#32
  let v2794 : BitVec 32 := Scalar.muli v2793 c512_i32_1482
  v2794
def k0_mult20 (i : grid0.Coords) : BitVec 32 :=
  let c29_i32_398 : BitVec 32 := 29#32
  let c2_i32 : BitVec 32 := 2#32
  let arg2 : BitVec 32 := BitVec.ofNat 32 (i 2).val
  let v0 : BitVec 32 := Scalar.muli c2_i32 arg2
  let c29_i32 : BitVec 32 := 29#32
  let v646 : BitVec 1 := Scalar.cmpi .sle v0 c29_i32
  let v647 : BitVec 32 := Scalar.extui v646
  let c15_i32 : BitVec 32 := 15#32
  let v1 : BitVec 32 := Scalar.subi c15_i32 v0
  let v643 : BitVec 32 := Scalar.addi v0 v1
  let c29_i32_389 : BitVec 32 := 29#32
  let v648 : BitVec 1 := Scalar.cmpi .sle v643 c29_i32_389
  let v649 : BitVec 32 := Scalar.extui v648
  let v650 : BitVec 32 := Scalar.addi v647 v649
  let v644 : BitVec 32 := Scalar.addi v0 v1
  let c1_i32 : BitVec 32 := 1#32
  let v2 : BitVec 32 := Scalar.addi v0 c1_i32
  let v645 : BitVec 32 := Scalar.addi v644 v2
  let c29_i32_390 : BitVec 32 := 29#32
  let v651 : BitVec 1 := Scalar.cmpi .sle v645 c29_i32_390
  let v652 : BitVec 32 := Scalar.extui v651
  let v653 : BitVec 32 := Scalar.addi v650 v652
  let c0_i32_391 : BitVec 32 := 0#32
  let v654 : BitVec 1 := Scalar.cmpi .eq v653 c0_i32_391
  let c0_i32_394 : BitVec 32 := 0#32
  let c1_i32_392 : BitVec 32 := 1#32
  let v655 : BitVec 1 := Scalar.cmpi .eq v653 c1_i32_392
  let c2_i32_393 : BitVec 32 := 2#32
  let v656 : BitVec 1 := Scalar.cmpi .eq v653 c2_i32_393
  let v657 : BitVec 32 := Scalar.select v656 v643 v645
  let v658 : BitVec 32 := Scalar.select v655 v0 v657
  let v659 : BitVec 32 := Scalar.select v654 c0_i32_394 v658
  let v666 : BitVec 32 := Scalar.subi c29_i32_398 v659
  let c512_i32_399 : BitVec 32 := 512#32
  let v667 : BitVec 32 := Scalar.muli v666 c512_i32_399
  v667
def k0_off45 (i : grid0.Coords) (c28_i32 : BitVec 32) (c28_i32_420 : BitVec 32) (c28_i32_421 : BitVec 32) : Fin 3 → Nat :=
  let c2_i32 : BitVec 32 := 2#32
  let arg2 : BitVec 32 := BitVec.ofNat 32 (i 2).val
  let v0 : BitVec 32 := Scalar.muli c2_i32 arg2
  let v700 : BitVec 1 := Scalar.cmpi .sle v0 c28_i32
  let v701 : BitVec 32 := Scalar.extui v700
  let c15_i32 : BitVec 32 := 15#32
  let v1 : BitVec 32 := Scalar.subi c15_i32 v0
  let v697 : BitVec 32 := Scalar.addi v0 v1
  let v702 : BitVec 1 := Scalar.cmpi .sle v697 c28_i32_420
  let v703 : BitVec 32 := Scalar.extui v702
  let v704 : BitVec 32 := Scalar.addi v701 v703
  let v698 : BitVec 32 := Scalar.addi v0 v1
  let c1_i32 : BitVec 32 := 1#32
  let v2 : BitVec 32 := Scalar.addi v0 c1_i32
  let v699 : BitVec 32 := Scalar.addi v698 v2
  let v705 : BitVec 1 := Scalar.cmpi .sle v699 c28_i32_421
  let v706 : BitVec 32 := Scalar.extui v705
  let v707 : BitVec 32 := Scalar.addi v704 v706
  let v715 : Index := Scalar.indexCast v707
  let c0_427 : Index := 0#32
  let c0_428 : Index := 0#32
  ![v715.toNat, 0, 0]
def k0_off45_at (r : Fin 2) : BitVec 32 × BitVec 32 × BitVec 32 :=
  if r.val < 1 then
    (28#32, 28#32, 28#32)
  else
    (29#32, 29#32, 29#32)
def k0_off46 (i : grid0.Coords) (c28_i32_426 : BitVec 32) (c28_i32 : BitVec 32) (c28_i32_420 : BitVec 32) (c28_i32_421 : BitVec 32) : Fin 3 → Nat :=
  let c2_i32 : BitVec 32 := 2#32
  let arg2 : BitVec 32 := BitVec.ofNat 32 (i 2).val
  let v0 : BitVec 32 := Scalar.muli c2_i32 arg2
  let v700 : BitVec 1 := Scalar.cmpi .sle v0 c28_i32
  let v701 : BitVec 32 := Scalar.extui v700
  let c15_i32 : BitVec 32 := 15#32
  let v1 : BitVec 32 := Scalar.subi c15_i32 v0
  let v697 : BitVec 32 := Scalar.addi v0 v1
  let v702 : BitVec 1 := Scalar.cmpi .sle v697 c28_i32_420
  let v703 : BitVec 32 := Scalar.extui v702
  let v704 : BitVec 32 := Scalar.addi v701 v703
  let v698 : BitVec 32 := Scalar.addi v0 v1
  let c1_i32 : BitVec 32 := 1#32
  let v2 : BitVec 32 := Scalar.addi v0 c1_i32
  let v699 : BitVec 32 := Scalar.addi v698 v2
  let v705 : BitVec 1 := Scalar.cmpi .sle v699 c28_i32_421
  let v706 : BitVec 32 := Scalar.extui v705
  let v707 : BitVec 32 := Scalar.addi v704 v706
  let c0_i32_422 : BitVec 32 := 0#32
  let v708 : BitVec 1 := Scalar.cmpi .eq v707 c0_i32_422
  let c0_i32_425 : BitVec 32 := 0#32
  let c1_i32_423 : BitVec 32 := 1#32
  let v709 : BitVec 1 := Scalar.cmpi .eq v707 c1_i32_423
  let c2_i32_424 : BitVec 32 := 2#32
  let v710 : BitVec 1 := Scalar.cmpi .eq v707 c2_i32_424
  let v711 : BitVec 32 := Scalar.select v710 v697 v699
  let v712 : BitVec 32 := Scalar.select v709 v0 v711
  let v713 : BitVec 32 := Scalar.select v708 c0_i32_425 v712
  let v714 : BitVec 32 := Scalar.subi c28_i32_426 v713
  let v732 : Index := Scalar.indexCast v714
  let c0_436 : Index := 0#32
  let c0_437 : Index := 0#32
  ![v732.toNat, 0, 0]
def k0_off46_at (r : Fin 2) : BitVec 32 × BitVec 32 × BitVec 32 × BitVec 32 :=
  if r.val < 1 then
    (28#32, 28#32, 28#32, 28#32)
  else
    (29#32, 29#32, 29#32, 29#32)
def k0_off47 (i : grid0.Coords) (c28_i32 : BitVec 32) (c28_i32_420 : BitVec 32) (c28_i32_421 : BitVec 32) : Fin 3 → Nat :=
  let c2_i32 : BitVec 32 := 2#32
  let arg2 : BitVec 32 := BitVec.ofNat 32 (i 2).val
  let v0 : BitVec 32 := Scalar.muli c2_i32 arg2
  let v700 : BitVec 1 := Scalar.cmpi .sle v0 c28_i32
  let v701 : BitVec 32 := Scalar.extui v700
  let c15_i32 : BitVec 32 := 15#32
  let v1 : BitVec 32 := Scalar.subi c15_i32 v0
  let v697 : BitVec 32 := Scalar.addi v0 v1
  let v702 : BitVec 1 := Scalar.cmpi .sle v697 c28_i32_420
  let v703 : BitVec 32 := Scalar.extui v702
  let v704 : BitVec 32 := Scalar.addi v701 v703
  let v698 : BitVec 32 := Scalar.addi v0 v1
  let c1_i32 : BitVec 32 := 1#32
  let v2 : BitVec 32 := Scalar.addi v0 c1_i32
  let v699 : BitVec 32 := Scalar.addi v698 v2
  let v705 : BitVec 1 := Scalar.cmpi .sle v699 c28_i32_421
  let v706 : BitVec 32 := Scalar.extui v705
  let v707 : BitVec 32 := Scalar.addi v704 v706
  let v736 : Index := Scalar.indexCast v707
  let c0_439 : Index := 0#32
  let c0_440 : Index := 0#32
  ![v736.toNat, 0, 0]
def k0_off47_at (r : Fin 2) : BitVec 32 × BitVec 32 × BitVec 32 :=
  if r.val < 1 then
    (28#32, 28#32, 28#32)
  else
    (29#32, 29#32, 29#32)
def k0_off48 (i : grid0.Coords) (c28_i32 : BitVec 32) (c28_i32_420 : BitVec 32) (c28_i32_421 : BitVec 32) : Fin 3 → Nat :=
  let c2_i32 : BitVec 32 := 2#32
  let arg2 : BitVec 32 := BitVec.ofNat 32 (i 2).val
  let v0 : BitVec 32 := Scalar.muli c2_i32 arg2
  let v700 : BitVec 1 := Scalar.cmpi .sle v0 c28_i32
  let v701 : BitVec 32 := Scalar.extui v700
  let c15_i32 : BitVec 32 := 15#32
  let v1 : BitVec 32 := Scalar.subi c15_i32 v0
  let v697 : BitVec 32 := Scalar.addi v0 v1
  let v702 : BitVec 1 := Scalar.cmpi .sle v697 c28_i32_420
  let v703 : BitVec 32 := Scalar.extui v702
  let v704 : BitVec 32 := Scalar.addi v701 v703
  let v698 : BitVec 32 := Scalar.addi v0 v1
  let c1_i32 : BitVec 32 := 1#32
  let v2 : BitVec 32 := Scalar.addi v0 c1_i32
  let v699 : BitVec 32 := Scalar.addi v698 v2
  let v705 : BitVec 1 := Scalar.cmpi .sle v699 c28_i32_421
  let v706 : BitVec 32 := Scalar.extui v705
  let v707 : BitVec 32 := Scalar.addi v704 v706
  let v746 : Index := Scalar.indexCast v707
  let c1_443 : Index := 1#32
  let c0_444 : Index := 0#32
  ![v746.toNat, 1, 0]
def k0_off48_at (r : Fin 2) : BitVec 32 × BitVec 32 × BitVec 32 :=
  if r.val < 1 then
    (28#32, 28#32, 28#32)
  else
    (29#32, 29#32, 29#32)
def k0_off49 (i : grid0.Coords) (c28_i32_426 : BitVec 32) (c28_i32 : BitVec 32) (c28_i32_420 : BitVec 32) (c28_i32_421 : BitVec 32) : Fin 3 → Nat :=
  let c2_i32 : BitVec 32 := 2#32
  let arg2 : BitVec 32 := BitVec.ofNat 32 (i 2).val
  let v0 : BitVec 32 := Scalar.muli c2_i32 arg2
  let v700 : BitVec 1 := Scalar.cmpi .sle v0 c28_i32
  let v701 : BitVec 32 := Scalar.extui v700
  let c15_i32 : BitVec 32 := 15#32
  let v1 : BitVec 32 := Scalar.subi c15_i32 v0
  let v697 : BitVec 32 := Scalar.addi v0 v1
  let v702 : BitVec 1 := Scalar.cmpi .sle v697 c28_i32_420
  let v703 : BitVec 32 := Scalar.extui v702
  let v704 : BitVec 32 := Scalar.addi v701 v703
  let v698 : BitVec 32 := Scalar.addi v0 v1
  let c1_i32 : BitVec 32 := 1#32
  let v2 : BitVec 32 := Scalar.addi v0 c1_i32
  let v699 : BitVec 32 := Scalar.addi v698 v2
  let v705 : BitVec 1 := Scalar.cmpi .sle v699 c28_i32_421
  let v706 : BitVec 32 := Scalar.extui v705
  let v707 : BitVec 32 := Scalar.addi v704 v706
  let c0_i32_422 : BitVec 32 := 0#32
  let v708 : BitVec 1 := Scalar.cmpi .eq v707 c0_i32_422
  let c0_i32_425 : BitVec 32 := 0#32
  let c1_i32_423 : BitVec 32 := 1#32
  let v709 : BitVec 1 := Scalar.cmpi .eq v707 c1_i32_423
  let c2_i32_424 : BitVec 32 := 2#32
  let v710 : BitVec 1 := Scalar.cmpi .eq v707 c2_i32_424
  let v711 : BitVec 32 := Scalar.select v710 v697 v699
  let v712 : BitVec 32 := Scalar.select v709 v0 v711
  let v713 : BitVec 32 := Scalar.select v708 c0_i32_425 v712
  let v714 : BitVec 32 := Scalar.subi c28_i32_426 v713
  let v763 : Index := Scalar.indexCast v714
  let c80_452 : Index := 80#32
  let c0_453 : Index := 0#32
  ![v763.toNat, 80, 0]
def k0_off49_at (r : Fin 2) : BitVec 32 × BitVec 32 × BitVec 32 × BitVec 32 :=
  if r.val < 1 then
    (28#32, 28#32, 28#32, 28#32)
  else
    (29#32, 29#32, 29#32, 29#32)
def k0_off50 (i : grid0.Coords) (c28_i32 : BitVec 32) (c28_i32_420 : BitVec 32) (c28_i32_421 : BitVec 32) : Fin 3 → Nat :=
  let c2_i32 : BitVec 32 := 2#32
  let arg2 : BitVec 32 := BitVec.ofNat 32 (i 2).val
  let v0 : BitVec 32 := Scalar.muli c2_i32 arg2
  let v700 : BitVec 1 := Scalar.cmpi .sle v0 c28_i32
  let v701 : BitVec 32 := Scalar.extui v700
  let c15_i32 : BitVec 32 := 15#32
  let v1 : BitVec 32 := Scalar.subi c15_i32 v0
  let v697 : BitVec 32 := Scalar.addi v0 v1
  let v702 : BitVec 1 := Scalar.cmpi .sle v697 c28_i32_420
  let v703 : BitVec 32 := Scalar.extui v702
  let v704 : BitVec 32 := Scalar.addi v701 v703
  let v698 : BitVec 32 := Scalar.addi v0 v1
  let c1_i32 : BitVec 32 := 1#32
  let v2 : BitVec 32 := Scalar.addi v0 c1_i32
  let v699 : BitVec 32 := Scalar.addi v698 v2
  let v705 : BitVec 1 := Scalar.cmpi .sle v699 c28_i32_421
  let v706 : BitVec 32 := Scalar.extui v705
  let v707 : BitVec 32 := Scalar.addi v704 v706
  let v767 : Index := Scalar.indexCast v707
  let c80_455 : Index := 80#32
  let c0_456 : Index := 0#32
  ![v767.toNat, 80, 0]
def k0_off50_at (r : Fin 2) : BitVec 32 × BitVec 32 × BitVec 32 :=
  if r.val < 1 then
    (28#32, 28#32, 28#32)
  else
    (29#32, 29#32, 29#32)
def k0_mult21 (i : grid0.Coords) : BitVec 32 :=
  let c2_i32 : BitVec 32 := 2#32
  let arg2 : BitVec 32 := BitVec.ofNat 32 (i 2).val
  let v0 : BitVec 32 := Scalar.muli c2_i32 arg2
  let c512_i32_509 : BitVec 32 := 512#32
  let v869 : BitVec 32 := Scalar.muli v0 c512_i32_509
  v869
def k0_off51 (i : grid0.Coords) : Fin 2 → Nat :=
  let c2_i32 : BitVec 32 := 2#32
  let arg2 : BitVec 32 := BitVec.ofNat 32 (i 2).val
  let v0 : BitVec 32 := Scalar.muli c2_i32 arg2
  let c512_i32_509 : BitVec 32 := 512#32
  let v869 : BitVec 32 := Scalar.muli v0 c512_i32_509
  let v870 : BitVec 32 := v869
  let v874 : Index := Scalar.indexCast v870
  let c0_510 : Index := 0#32
  ![v874.toNat, 0]
def k0_mult22 (i : grid0.Coords) : BitVec 32 :=
  let c15_i32 : BitVec 32 := 15#32
  let c2_i32 : BitVec 32 := 2#32
  let arg2 : BitVec 32 := BitVec.ofNat 32 (i 2).val
  let v0 : BitVec 32 := Scalar.muli c2_i32 arg2
  let v1 : BitVec 32 := Scalar.subi c15_i32 v0
  let c512_i32_523 : BitVec 32 := 512#32
  let v888 : BitVec 32 := Scalar.muli v1 c512_i32_523
  v888
def k0_off52 (i : grid0.Coords) (c15_i32 : BitVec 32) : Fin 2 → Nat :=
  let c2_i32 : BitVec 32 := 2#32
  let arg2 : BitVec 32 := BitVec.ofNat 32 (i 2).val
  let v0 : BitVec 32 := Scalar.muli c2_i32 arg2
  let v1 : BitVec 32 := Scalar.subi c15_i32 v0
  let c512_i32_523 : BitVec 32 := 512#32
  let v888 : BitVec 32 := Scalar.muli v1 c512_i32_523
  let v889 : BitVec 32 := v888
  let v893 : Index := Scalar.indexCast v889
  let c0_524 : Index := 0#32
  ![v893.toNat, 0]
def k0_mult23 (i : grid0.Coords) : BitVec 32 :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let c512_i32_537 : BitVec 32 := 512#32
  let v907 : BitVec 32 := Scalar.muli v2 c512_i32_537
  v907
def k0_off53 (i : grid0.Coords) : Fin 2 → Nat :=
  let c2_i32 : BitVec 32 := 2#32
  let arg2 : BitVec 32 := BitVec.ofNat 32 (i 2).val
  let v0 : BitVec 32 := Scalar.muli c2_i32 arg2
  let c1_i32 : BitVec 32 := 1#32
  let v2 : BitVec 32 := Scalar.addi v0 c1_i32
  let c512_i32_537 : BitVec 32 := 512#32
  let v907 : BitVec 32 := Scalar.muli v2 c512_i32_537
  let v908 : BitVec 32 := v907
  let v912 : Index := Scalar.indexCast v908
  let c0_538 : Index := 0#32
  ![v912.toNat, 0]
def k0_mult24 (i : grid0.Coords) : BitVec 32 :=
  let c14_i32 : BitVec 32 := 14#32
  let c2_i32 : BitVec 32 := 2#32
  let arg2 : BitVec 32 := BitVec.ofNat 32 (i 2).val
  let v0 : BitVec 32 := Scalar.muli c2_i32 arg2
  let v3 : BitVec 32 := Scalar.subi c14_i32 v0
  let c512_i32_551 : BitVec 32 := 512#32
  let v926 : BitVec 32 := Scalar.muli v3 c512_i32_551
  v926
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16x160x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S64x2048x512 : Shape := ⟨3, ![64, 2048, 512]⟩
abbrev S32768x2048 : Shape := ⟨2, ![32768, 2048]⟩
abbrev S64x1280x512 : Shape := ⟨3, ![64, 1280, 512]⟩
abbrev S4x16x16x128x512 : Shape := ⟨5, ![4, 16, 16, 128, 512]⟩
abbrev S4x16x512x16x128 : Shape := ⟨5, ![4, 16, 512, 16, 128]⟩
abbrev S4x8192x16x128 : Shape := ⟨4, ![4, 8192, 16, 128]⟩
abbrev S4x16x16x80x512 : Shape := ⟨5, ![4, 16, 16, 80, 512]⟩
abbrev S4x16x16x64x512 : Shape := ⟨5, ![4, 16, 16, 64, 512]⟩
abbrev S4x16x512x16x64 : Shape := ⟨5, ![4, 16, 512, 16, 64]⟩
abbrev S4x8192x16x64 : Shape := ⟨4, ![4, 8192, 16, 64]⟩
abbrev S8192 : Shape := ⟨1, ![8192]⟩
abbrev S4x16x8192x8192 : Shape := ⟨4, ![4, 16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S64x2048x512, .bf16⟩
  | .hbm, ⟨1, _⟩ => ⟨S32768x2048, .bf16⟩
  | .hbm, ⟨2, _⟩ => ⟨S64x1280x512, .bf16⟩
  | .hbm, ⟨3, _⟩ => ⟨S4x16x16x128x512, .bf16⟩
  | .hbm, ⟨4, _⟩ => ⟨S4x16x512x16x128, .bf16⟩
  | .hbm, ⟨5, _⟩ => ⟨S4x8192x16x128, .bf16⟩
  | .hbm, ⟨6, _⟩ => ⟨S4x8192x16x128, .f32⟩
  | .hbm, ⟨7, _⟩ => ⟨S4x8192x16x128, .bf16⟩
  | .hbm, ⟨8, _⟩ => ⟨S4x8192x16x128, .f32⟩
  | .hbm, ⟨9, _⟩ => ⟨S4x16x16x80x512, .bf16⟩
  | .hbm, ⟨10, _⟩ => ⟨S4x16x16x64x512, .bf16⟩
  | .hbm, ⟨11, _⟩ => ⟨S4x16x512x16x64, .bf16⟩
  | .hbm, ⟨12, _⟩ => ⟨S4x8192x16x64, .bf16⟩
  | .hbm, ⟨13, _⟩ => ⟨S4x8192x16x64, .f32⟩
  | .hbm, ⟨14, _⟩ => ⟨S8192, .i32⟩
  | .hbm, ⟨15, _⟩ => ⟨S4x16x8192x8192, .f32⟩
  | .hbm, ⟨16, _⟩ => ⟨S_, .f32⟩
  | .hbm, ⟨17, _⟩ => ⟨S_, .f32⟩
  | .hbm, ⟨18, _⟩ => ⟨S4x16x8192x8192, .f32⟩
  | .hbm, ⟨19, _⟩ => ⟨S4x16x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x16x8192x8192, .i1⟩
  | .hbm, ⟨28, _⟩ => ⟨S4x16x8192x8192, .f32⟩
  | .hbm, ⟨29, _⟩ => ⟨S4x16x8192x8192, .f32⟩
  | .hbm, ⟨30, _⟩ => ⟨S_, .f32⟩
  | .hbm, ⟨31, _⟩ => ⟨S4x16x8192, .f32⟩
  | .hbm, ⟨32, _⟩ => ⟨S_, .f32⟩
  | .hbm, ⟨33, _⟩ => ⟨S4x16x8192, .f32⟩
  | .hbm, ⟨34, _⟩ => ⟨S4x16x8192, .f32⟩
  | .hbm, ⟨35, _⟩ => ⟨S4x16x8192x1, .f32⟩
  | .hbm, ⟨36, _⟩ => ⟨S4x16x8192x8192, .f32⟩
  | .hbm, ⟨37, _⟩ => ⟨S4x16x8192x8192, .f32⟩
  | .hbm, ⟨38, _⟩ => ⟨S4x16x8192x8192, .f32⟩
  | .hbm, ⟨39, _⟩ => ⟨S_, .f32⟩
  | .hbm, ⟨40, _⟩ => ⟨S4x16x8192, .f32⟩
  | .hbm, ⟨41, _⟩ => ⟨S4x16x8192x1, .f32⟩
  | .hbm, ⟨42, _⟩ => ⟨S4x16x8192x8192, .f32⟩
  | .hbm, ⟨43, _⟩ => ⟨S4x16x8192x8192, .f32⟩
  | .hbm, ⟨44, _⟩ => ⟨S4x16x64x8192, .f32⟩
  | .hbm, ⟨45, _⟩ => ⟨S4x8192x16x64, .f32⟩
  | .hbm, ⟨46, _⟩ => ⟨S32768x1024, .f32⟩
  | .hbm, ⟨47, _⟩ => ⟨S32768x1024, .bf16⟩
  | _, _ => ⟨S64x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel2.lean ====
abbrev S32768x1024 : Shape := ⟨2, ![32768, 1024]⟩
abbrev S32768x7168 : Shape := ⟨2, ![32768, 7168]⟩
abbrev S2x5x1024x1024 : Shape := ⟨4, ![2, 5, 1024, 1024]⟩
abbrev S1x1024 : Shape := ⟨2, ![1, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x7168, .bf16⟩
  | .hbm, ⟨5, _⟩ => ⟨S2x5x1024x1024, .bf16⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1x1024x1024, .bf16⟩
  | .local _ .vmem, ⟨17, _⟩ => ⟨S1x1x1024x1024, .bf16⟩
  | .local _ .vmem, ⟨18, _⟩ => ⟨S1x1x1024x1024, .bf16⟩
  | .local _ .vmem, ⟨19, _⟩ => ⟨S1x1x1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_10 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_11 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S32768x7168 : Shape := ⟨2, ![32768, 7168]⟩
abbrev S2x5x1024x1024 : Shape := ⟨4, ![2, 5, 1024, 1024]⟩
abbrev S1x1024 : Shape := ⟨2, ![1, 1024]⟩
abbrev S1x1x1024x1024 : Shape := ⟨4, ![1, 1, 1024, 1024]⟩
abbrev S1024x1024 : Shape := ⟨2, ![1024, 1024]⟩
abbrev S_ : Shape := ⟨0, ![]⟩
abbrev S32768x3072 : Shape := ⟨2, ![32768, 3072]⟩
abbrev S32768x3x1024 : Shape := ⟨3, ![32768, 3, 1024]⟩
abbrev S32768x1x1024 : Shape := ⟨3, ![32768, 1, 1024]⟩
abbrev S1024 : Shape := ⟨1, ![1024]⟩
abbrev S32768 : Shape := ⟨1, ![32768]⟩
abbrev S32768x1 : Shape := ⟨2, ![32768, 1]⟩

abbrev nBuf : Space → Nat
  | .hbm => 78
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x7168, .bf16⟩
  | .hbm, ⟨5, _⟩ => ⟨S2x5x1024x1024, .bf16⟩
  | .hbm, ⟨6, _⟩ => ⟨S1x1024, .f32⟩
  | .hbm, ⟨7, _⟩ => ⟨S1x1x1024x1024, .bf16⟩
  | .hbm, ⟨8, _⟩ => ⟨S1024x1024, .bf16⟩
  | .hbm, ⟨9, _⟩ => ⟨S1024x1024, .f32⟩
  | .hbm, ⟨10, _⟩ => ⟨S1x1x1024x1024, .bf16⟩
  | .hbm, ⟨11, _⟩ => ⟨S1024x1024, .bf16⟩
  | .hbm, ⟨12, _⟩ => ⟨S1024x1024, .f32⟩
  | .hbm, ⟨13, _⟩ => ⟨S1x1x1024x1024, .bf16⟩
  | .hbm, ⟨14, _⟩ => ⟨S1024x1024, .bf16⟩
  | .hbm, ⟨15, _⟩ => ⟨S1024x1024, .f32⟩
  | .hbm, ⟨16, _⟩ => ⟨S1x1x1024x1024, .bf16⟩
  | .hbm, ⟨17, _⟩ => ⟨S1024x1024, .bf16⟩
  | .hbm, ⟨18, _⟩ => ⟨S1024x1024, .f32⟩
  | .hbm, ⟨19, _⟩ => ⟨S32768x1024, .bf16⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x3072, .bf16⟩
  | .hbm, ⟨33, _⟩ => ⟨S32768x3072, .f32⟩
  | .hbm, ⟨34, _⟩ => ⟨S32768x3072, .f32⟩
  | .hbm, ⟨35, _⟩ => ⟨S32768x3072, .f32⟩
  | .hbm, ⟨36, _⟩ => ⟨S_, .f32⟩
  | .hbm, ⟨37, _⟩ => ⟨S32768x3072, .f32⟩
  | .hbm, ⟨38, _⟩ => ⟨S32768x3072, .f32⟩
  | .hbm, ⟨39, _⟩ => ⟨S_, .f32⟩
  | .hbm, ⟨40, _⟩ => ⟨S32768x3072, .f32⟩
  | .hbm, ⟨41, _⟩ => ⟨S32768x3072, .f32⟩
  | .hbm, ⟨42, _⟩ => ⟨S32768x3x1024, .f32⟩
  | .hbm, ⟨43, _⟩ => ⟨S32768x1x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S1x1024, .f32⟩
  | .hbm, ⟨75, _⟩ => ⟨S32768x1024, .f32⟩
  | .hbm, ⟨76, _⟩ => ⟨S32768x1024, .f32⟩
  | .hbm, ⟨77, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel3.lean ====
abbrev S32768x1024 : Shape := ⟨2, ![32768, 1024]⟩
abbrev S1x1024 : Shape := ⟨2, ![1, 1024]⟩
abbrev S2x1024x8192 : Shape := ⟨3, ![2, 1024, 8192]⟩
abbrev S2x2048x1024 : Shape := ⟨3, ![2, 2048, 1024]⟩
abbrev S32768x7168 : Shape := ⟨2, ![32768, 7168]⟩
abbrev S2048x32768 : Shape := ⟨2, ![2048, 32768]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S2x1024x8192, .bf16⟩
  | .hbm, ⟨3, _⟩ => ⟨S2x2048x1024, .bf16⟩
  | .hbm, ⟨4, _⟩ => ⟨S32768x7168, .bf16⟩
  | .hbm, ⟨5, _⟩ => ⟨S32768x1024, .f32⟩
  | .hbm, ⟨6, _⟩ => ⟨S2048x32768, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 10], ![false, false]⟩

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .eq arg1 c7_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c7_i32_4 : BitVec 32 := 7#32
  let v9 : BitVec 1 := Scalar.cmpi .sgt arg1 c7_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![v2.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32768x1024 : Shape := ⟨2, ![32768, 1024]⟩
abbrev S1x1024 : Shape := ⟨2, ![1, 1024]⟩
abbrev S2x1024x8192 : Shape := ⟨3, ![2, 1024, 8192]⟩
abbrev S2x2048x1024 : Shape := ⟨3, ![2, 2048, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x8192 : Shape := ⟨3, ![1, 1024, 8192]⟩
abbrev S1024x8192 : Shape := ⟨2, ![1024, 8192]⟩
abbrev S32768x8192 : Shape := ⟨2, ![32768, 8192]⟩
abbrev S1x2048x1024 : Shape := ⟨3, ![1, 2048, 1024]⟩
abbrev S2048x1024 : Shape := ⟨2, ![2048, 1024]⟩
abbrev S1024x2048 : Shape := ⟨2, ![1024, 2048]⟩
abbrev S32768x2048 : Shape := ⟨2, ![32768, 2048]⟩
abbrev S32768x7168 : Shape := ⟨2, ![32768, 7168]⟩
abbrev S2048x32768 : Shape := ⟨2, ![2048, 32768]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S2x1024x8192, .bf16⟩
  | .hbm, ⟨3, _⟩ => ⟨S2x2048x1024, .bf16⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x8192, .bf16⟩
  | .hbm, ⟨22, _⟩ => ⟨S1024x8192, .bf16⟩
  | .hbm, ⟨23, _⟩ => ⟨S1024x8192, .f32⟩
  | .hbm, ⟨24, _⟩ => ⟨S32768x8192, .f32⟩
  | .hbm, ⟨25, _⟩ => ⟨S1x2048x1024, .bf16⟩
  | .hbm, ⟨26, _⟩ => ⟨S2048x1024, .bf16⟩
  | .hbm, ⟨27, _⟩ => ⟨S2048x1024, .f32⟩
  | .hbm, ⟨28, _⟩ => ⟨S1024x2048, .f32⟩
  | .hbm, ⟨29, _⟩ => ⟨S32768x2048, .f32⟩
  | .hbm, ⟨30, _⟩ => ⟨S32768x7168, .f32⟩
  | .hbm, ⟨31, _⟩ => ⟨S32768x7168, .bf16⟩
  | .hbm, ⟨32, _⟩ => ⟨S32768x1024, .f32⟩
  | .hbm, ⟨33, _⟩ => ⟨S2048x32768, .f32⟩
  | .hbm, ⟨34, _⟩ => ⟨S2048x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel4.lean ====
abbrev S1024x32768 : Shape := ⟨2, ![1024, 32768]⟩
abbrev S2048x32768 : Shape := ⟨2, ![2048, 32768]⟩
abbrev S1024x1 : Shape := ⟨2, ![1024, 1]⟩
abbrev S2x5x1024x1024 : Shape := ⟨4, ![2, 5, 1024, 1024]⟩
abbrev S32768x1024 : Shape := ⟨2, ![32768, 1024]⟩
abbrev S1024x512 : Shape := ⟨2, ![1024, 512]⟩
abbrev S1x1x1024x1024 : Shape := ⟨4, ![1, 1, 1024, 1024]⟩
abbrev S512x1024 : Shape := ⟨2, ![512, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1024x32768, .bf16⟩
  | .hbm, ⟨1, _⟩ => ⟨S2048x32768, .bf16⟩
  | .hbm, ⟨2, _⟩ => ⟨S1024x1, .f32⟩
  | .hbm, ⟨3, _⟩ => ⟨S2x5x1024x1024, .bf16⟩
  | .hbm, ⟨4, _⟩ => ⟨S1024x1, .f32⟩
  | .hbm, ⟨5, _⟩ => ⟨S32768x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1, .f32⟩
  | .local _ .vmem, ⟨7, _⟩ => ⟨S1x1x1024x1024, .bf16⟩
  | .local _ .vmem, ⟨8, _⟩ => ⟨S1024x1, .f32⟩
  | .local _ .vmem, ⟨9, _⟩ => ⟨S512x1024, .bf16⟩
  | .local _ .vmem, ⟨10, _⟩ => ⟨S512x1024, .bf16⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, c4_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S1024x32768 : Shape := ⟨2, ![1024, 32768]⟩
abbrev S2048x32768 : Shape := ⟨2, ![2048, 32768]⟩
abbrev S1024x1 : Shape := ⟨2, ![1024, 1]⟩
abbrev S2x5x1024x1024 : Shape := ⟨4, ![2, 5, 1024, 1024]⟩
abbrev S32768x1024 : Shape := ⟨2, ![32768, 1024]⟩
abbrev S1x1x1024x1024 : Shape := ⟨4, ![1, 1, 1024, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S2048x32768, .bf16⟩
  | .hbm, ⟨2, _⟩ => ⟨S1024x1, .f32⟩
  | .hbm, ⟨3, _⟩ => ⟨S2x5x1024x1024, .bf16⟩
  | .hbm, ⟨4, _⟩ => ⟨S1024x1, .f32⟩
  | .hbm, ⟨5, _⟩ => ⟨S1024x32768, .bf16⟩
  | .hbm, ⟨6, _⟩ => ⟨S32768x1024, .bf16⟩
  | .hbm, ⟨7, _⟩ => ⟨S32768x1024, .f32⟩
  | .hbm, ⟨8, _⟩ => ⟨S1024x32768, .bf16⟩
  | .hbm, ⟨9, _⟩ => ⟨S32768x1024, .bf16⟩
  | .hbm, ⟨10, _⟩ => ⟨S32768x1024, .f32⟩
  | .hbm, ⟨11, _⟩ => ⟨S1x1x1024x1024, .bf16⟩
  | .hbm, ⟨12, _⟩ => ⟨S1024x1024, .bf16⟩
  | .hbm, ⟨13, _⟩ => ⟨S1024x1024, .bf16⟩
  | .hbm, ⟨14, _⟩ => ⟨S1024x1024, .f32⟩
  | .hbm, ⟨15, _⟩ => ⟨S32768x1024, .bf16⟩
  | .hbm, ⟨16, _⟩ => ⟨S32768x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .bf16⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Steps.lean ====
/-
  The steps of the attention kernel, each written once over the buffers it is handed: a masked block of scores (a key
  tile against the query tile at the same position), a full block of scores, an update of a query tile's running maximum
  and weighted sums from a block of scores, and the division that writes a query tile's result. Every access is at an
  offset given with its bound, and the scores go to one of two buffers, chosen by a Boolean. Nothing here depends on the
  memory's signature: both printed programs are sequences of these steps (Program.lean).
-/
module

public import proofs.«01_k».proof.Proof.Gen.KernelIdeal

@[expose] public section

set_option synthInstance.maxSize 4096

noncomputable section

namespace Cert.Attn

open Cert.KernelIdeal Cert.KernelIdeal.Gen
open Idealize.ShloMosaic Idealize.SL.Sem

variable {F : FTy → Type} [FloatOps F]

/-! ## The pure values of a step -/

/-- A key tile's scores against a query tile. -/
def fullTile (k : Vec F S512x128 .bf16) (q : Vec F S1x128x512 .bf16) : FVec F S512x512 .f32 :=
  matmul dot_S512x128_S128x512_S512x512_1_0_0_1_n_n none k (shapeCast S128x512 q shapeCasts_S1x128x512_S128x512)
    (constant S512x512 .f32 0x00000000#32)

/-- The largest score of each query of the tile. -/
def fullMax (s : FVec F S512x512 .f32) : FVec F S1x512 .f32 :=
  shapeCast S1x512 (shapeCast S1x512 (multiReduction .maximumf [0] S512 s 0xFF800000#32 reduces_S512x512_S512 (.inl rfl) rfl)
    shapeCasts_S512_S1x512) shapeCasts_S1x512_S1x512

/-- The first half of the keys of a tile on the diagonal, against all its queries, masked above the diagonal. -/
def topTile (mask : F .f32) (k : Vec F S256x128 .bf16) (q : Vec F S1x128x512 .bf16) : FVec F S256x512 .f32 :=
  select (cmpi .sle (iota .tc S256x512 32 [0] iota_S256x512_d0_w32) (iota .tc S256x512 32 [1] iota_S256x512_d1_w32))
    (matmul dot_S256x128_S128x512_S256x512_1_0_0_1_n_n none k (shapeCast S128x512 q shapeCasts_S1x128x512_S128x512)
      (constant S256x512 .f32 0x00000000#32))
    (broadcast S256x512 mask)

/-- The second half of the keys, against the second half of the queries, masked above the diagonal. -/
def lowTile (mask : F .f32) (k : Vec F S256x128 .bf16) (q : Vec F S1x128x512 .bf16) : FVec F S256x256 .f32 :=
  select (cmpi .sle (iota .tc S256x256 32 [0] iota_S256x256_d0_w32) (iota .tc S256x256 32 [1] iota_S256x256_d1_w32))
    (matmul dot_S256x128_S128x256_S256x256_1_0_0_1_n_n none k
      (extractStridedSlice S128x256 ![0, 256] (shapeCast S128x512 q shapeCasts_S1x128x512_S128x512) slices_S128x512_o0_256_S128x256)
      (constant S256x256 .f32 0x00000000#32))
    (broadcast S256x256 mask)

/-- The largest score of each query of a tile on the diagonal, from its two halves. -/
def diagMax (top : FVec F S256x512 .f32) (low : FVec F S256x256 .f32) : FVec F S1x512 .f32 :=
  shapeCast S1x512 (concatenate S1x512 1
    [⟨S1x256, shapeCast S1x256 (multiReduction .maximumf [0] S256
        (extractStridedSlice S256x256 ![0, 0] top slices_S256x512_o0_0_S256x256) 0xFF800000#32 reduces_S256x256_S256 (.inl rfl) rfl)
        shapeCasts_S256_S1x256⟩,
     ⟨S1x256, maximumf
        (shapeCast S1x256 (multiReduction .maximumf [0] S256
          (extractStridedSlice S256x256 ![0, 256] top slices_S256x512_o0_256_S256x256) 0xFF800000#32 reduces_S256x256_S256 (.inl rfl) rfl)
          shapeCasts_S256_S1x256)
        (shapeCast S1x256 (multiReduction .maximumf [0] S256 low 0xFF800000#32 reduces_S256x256_S256 (.inl rfl) rfl)
          shapeCasts_S256_S1x256)⟩] concatenates_S1x256_S1x256_S1x512_d1) shapeCasts_S1x512_S1x512

/-- The new running maximum. -/
def newMax (m : Vec F S1x1x512 .f32) (mb : Vec F S1x512 .f32) : FVec F S1x512 .f32 :=
  maximumf (shapeCast S1x512 m shapeCasts_S1x1x512_S1x512) mb

/-- The new weighted sums: the old ones rescaled to the new maximum, and the values weighted by the tile's exponentials. -/
def newAcc (m : Vec F S1x1x512 .f32) (mb : Vec F S1x512 .f32) (s : Vec F S1x512x512 .f32) (v : Vec F S1x80x512 .bf16)
    (a : Vec F S1x80x512 .f32) : FVec F S1x80x512 .f32 :=
  shapeCast S1x80x512 (addf
    (mulf (broadcastTo S80x512 (exp2 (subf (shapeCast S1x512 m shapeCasts_S1x1x512_S1x512) (newMax m mb))) broadcasts_S1x512_S80x512)
      (shapeCast S80x512 a shapeCasts_S1x80x512_S80x512))
    (matmul dot_S80x512_S512x512_S80x512_1_0_0_1_n_n none (shapeCast S80x512 v shapeCasts_S1x80x512_S80x512)
      (truncf .bf16 (exp2 (subf (shapeCast S512x512 s shapeCasts_S1x512x512_S512x512)
        (broadcastTo S512x512 (newMax m mb) broadcasts_S1x512_S512x512))) bitsLt_bf16_f32)
      (constant S80x512 .f32 0x00000000#32))) shapeCasts_S80x512_S1x80x512

/-- A head's weighted sums over the sum of its weights. -/
def quotient (a : Vec F S1x64x512 .f32) (l : Vec F S1x1x512 .f32) : FVec F S64x512 .f32 :=
  divf (shapeCast S64x512 a shapeCasts_S1x64x512_S64x512)
    (broadcastTo S64x512 (shapeCast S1x512 l shapeCasts_S1x1x512_S1x512) broadcasts_S1x512_S64x512)

/-- A query tile's result: the two heads' quotients beside one another, the queries as rows. -/
def outTile (a0 : Vec F S1x64x512 .f32) (l0 : Vec F S1x1x512 .f32) (a1 : Vec F S1x64x512 .f32) (l1 : Vec F S1x1x512 .f32) :
    FVec F S512x128 .bf16 :=
  truncf .bf16 (transpose S512x128 [1, 0] (concatenate S128x512 0 [⟨S64x512, quotient a0 l0⟩, ⟨S64x512, quotient a1 l1⟩]
    concatenates_S64x512_S64x512_S128x512_d0) transposes_S128x512_p1_0_S512x128) bitsLt_bf16_f32

/-! ## The buffers and the offsets -/

variable {nD : Nat} {τ : Topo} {sig : RefSig} {Λ : Labels}

/-- The buffers of the kernel: the queries, keys, values and the result it is handed, and its scratch — the weighted sums,
the running maxima, and two buffers each of scores and of their maxima. -/
structure Bufs (sig : RefSig) where
  q : Memref sig .tc .vmem S16x256x512 .bf16
  k : Memref sig .tc .vmem S8192x256 .bf16
  v : Memref sig .tc .vmem S16x160x512 .bf16
  o : Memref sig .tc .vmem S8192x128 .bf16
  acc : Memref sig .tc .vmem S4x160x512 .f32
  m : Memref sig .tc .vmem S4x8x512 .f32
  s : Bool → Memref sig .tc .vmem S2x512x512 .f32
  mb : Bool → Memref sig .tc .vmem S8x512 .f32

variable (B : Bufs sig)

/-! ## The steps -/

/-- The scratch at its start: no maximum, no sum. -/
def initStep (mask : F .f32) :
    Prog (TpuEff nD τ sig (Elt F) Λ .tc) PUnit := do
  let _v5 : Vec F S4x8x512 .f32 ← Prog.lift (.load B.m (Rect.unit (s := S4x8x512) ![0, 0, 0] S4x8x512.size inb_S4x8x512_S4x8x512_0_0_0).toLoadRect (View.loadsAt_vmem h_S4x8x512))
  Prog.lift (.store B.m (Rect.unit (s := S4x8x512) ![0, 0, 0] S4x8x512.size inb_S4x8x512_S4x8x512_0_0_0) (shapeCast S4x8x512 (broadcast S4x8x512 mask) shapeCasts_S4x8x512_S4x8x512) Finset.univ (View.stores_vmem_bits_univ h_S4x8x512 rfl) (.inl rfl))
  let _v9 : Vec F S4x160x512 .f32 ← Prog.lift (.load B.acc (Rect.unit (s := S4x160x512) ![0, 0, 0] S4x160x512.size inb_S4x160x512_S4x160x512_0_0_0).toLoadRect (View.loadsAt_vmem h_S4x160x512))
  Prog.lift (.store B.acc (Rect.unit (s := S4x160x512) ![0, 0, 0] S4x160x512.size inb_S4x160x512_S4x160x512_0_0_0) (shapeCast S4x160x512 (broadcast S4x160x512 (Scalar.ofBits .f32 0x00000000#32)) shapeCasts_S4x160x512_S4x160x512) Finset.univ (View.stores_vmem_bits_univ h_S4x160x512 rfl) (.inl rfl))

/-- Where head `hh`'s scores, and their maxima, lie in their buffers. -/
theorem inb_s (hh : Fin 2) : ∀ a, (![hh.val, 0, 0] : Fin 3 → ℕ) a + S1x512x512.size a ≤ S2x512x512.size a := by decide +revert
theorem inb_sTop (hh : Fin 2) : ∀ a, (![hh.val, 0, 0] : Fin 3 → ℕ) a + S1x256x512.size a ≤ S2x512x512.size a := by decide +revert
theorem inb_sLeft (hh : Fin 2) : ∀ a, (![hh.val, 256, 0] : Fin 3 → ℕ) a + S1x256x256.size a ≤ S2x512x512.size a := by decide +revert
theorem inb_sLow (hh : Fin 2) : ∀ a, (![hh.val, 256, 256] : Fin 3 → ℕ) a + S1x256x256.size a ≤ S2x512x512.size a := by decide +revert
theorem inb_mb (hh : Fin 2) : ∀ a, (![hh.val, 0] : Fin 2 → ℕ) a + S1x512.size a ≤ S8x512.size a := by decide +revert

/-- Head `hh`'s scores of a key tile against a query tile, and their maxima, into buffer `b`. -/
def fullStep (b : Bool) (hh : Fin 2) {oq : Fin 3 → ℕ} (hq : ∀ a, oq a + S1x128x512.size a ≤ S16x256x512.size a)
    {ok : Fin 2 → ℕ} (hk : ∀ a, ok a + S512x128.size a ≤ S8192x256.size a) :
    Prog (TpuEff nD τ sig (Elt F) Λ .tc) PUnit := do
  let q : Vec F S1x128x512 .bf16 ← Prog.lift (.load B.q (Rect.unit (s := S16x256x512) oq S1x128x512.size hq).toLoadRect (View.loadsAt_vmem h_S1x128x512))
  let k : Vec F S512x128 .bf16 ← Prog.lift (.load B.k (Rect.unit (s := S8192x256) ok S512x128.size hk).toLoadRect (View.loadsAt_vmem h_S512x128))
  let _s : Vec F S1x512x512 .f32 ← Prog.lift (.load (B.s b) (Rect.unit (s := S2x512x512) ![hh.val, 0, 0] S1x512x512.size (inb_s hh)).toLoadRect (View.loadsAt_vmem h_S1x512x512))
  Prog.lift (.store (B.s b) (Rect.unit (s := S2x512x512) ![hh.val, 0, 0] S1x512x512.size (inb_s hh)) (shapeCast S1x512x512 (fullTile k q) shapeCasts_S512x512_S1x512x512) Finset.univ (View.stores_vmem_bits_univ h_S1x512x512 rfl) (.inl rfl))
  let _m : Vec F S1x512 .f32 ← Prog.lift (.load (B.mb b) (Rect.unit (s := S8x512) ![hh.val, 0] S1x512.size (inb_mb hh)).toLoadRect (View.loadsAt_vmem h_S1x512))
  Prog.lift (.store (B.mb b) (Rect.unit (s := S8x512) ![hh.val, 0] S1x512.size (inb_mb hh)) (fullMax (fullTile k q)) Finset.univ (View.stores_vmem_bits_univ h_S1x512 rfl) (.inl rfl))

/-- Head `hh`'s scores of a key tile against the query tile at the same position, masked above the diagonal. -/
def diagStep (mask : F .f32) (b : Bool) (hh : Fin 2) {oq : Fin 3 → ℕ} (hq : ∀ a, oq a + S1x128x512.size a ≤ S16x256x512.size a)
    {ok : Fin 2 → ℕ} (hk : ∀ a, ok a + S256x128.size a ≤ S8192x256.size a)
    {ol : Fin 2 → ℕ} (hl : ∀ a, ol a + S256x128.size a ≤ S8192x256.size a) :
    Prog (TpuEff nD τ sig (Elt F) Λ .tc) PUnit := do
  let q : Vec F S1x128x512 .bf16 ← Prog.lift (.load B.q (Rect.unit (s := S16x256x512) oq S1x128x512.size hq).toLoadRect (View.loadsAt_vmem h_S1x128x512))
  let k : Vec F S256x128 .bf16 ← Prog.lift (.load B.k (Rect.unit (s := S8192x256) ok S256x128.size hk).toLoadRect (View.loadsAt_vmem h_S256x128))
  let l : Vec F S256x128 .bf16 ← Prog.lift (.load B.k (Rect.unit (s := S8192x256) ol S256x128.size hl).toLoadRect (View.loadsAt_vmem h_S256x128))
  let _s : Vec F S1x256x512 .f32 ← Prog.lift (.load (B.s b) (Rect.unit (s := S2x512x512) ![hh.val, 0, 0] S1x256x512.size (inb_sTop hh)).toLoadRect (View.loadsAt_vmem h_S1x256x512))
  Prog.lift (.store (B.s b) (Rect.unit (s := S2x512x512) ![hh.val, 0, 0] S1x256x512.size (inb_sTop hh)) (shapeCast S1x256x512 (topTile mask k q) shapeCasts_S256x512_S1x256x512) Finset.univ (View.stores_vmem_bits_univ h_S1x256x512 rfl) (.inl rfl))
  let _s : Vec F S1x256x256 .f32 ← Prog.lift (.load (B.s b) (Rect.unit (s := S2x512x512) ![hh.val, 256, 0] S1x256x256.size (inb_sLeft hh)).toLoadRect (View.loadsAt_vmem h_S1x256x256))
  Prog.lift (.store (B.s b) (Rect.unit (s := S2x512x512) ![hh.val, 256, 0] S1x256x256.size (inb_sLeft hh)) (shapeCast S1x256x256 (broadcast S256x256 mask) shapeCasts_S256x256_S1x256x256) Finset.univ (View.stores_vmem_bits_univ h_S1x256x256 rfl) (.inl rfl))
  let _s : Vec F S1x256x256 .f32 ← Prog.lift (.load (B.s b) (Rect.unit (s := S2x512x512) ![hh.val, 256, 256] S1x256x256.size (inb_sLow hh)).toLoadRect (View.loadsAt_vmem h_S1x256x256))
  Prog.lift (.store (B.s b) (Rect.unit (s := S2x512x512) ![hh.val, 256, 256] S1x256x256.size (inb_sLow hh)) (shapeCast S1x256x256 (lowTile mask l q) shapeCasts_S256x256_S1x256x256) Finset.univ (View.stores_vmem_bits_univ h_S1x256x256 rfl) (.inl rfl))
  let _m : Vec F S1x512 .f32 ← Prog.lift (.load (B.mb b) (Rect.unit (s := S8x512) ![hh.val, 0] S1x512.size (inb_mb hh)).toLoadRect (View.loadsAt_vmem h_S1x512))
  Prog.lift (.store (B.mb b) (Rect.unit (s := S8x512) ![hh.val, 0] S1x512.size (inb_mb hh)) (diagMax (topTile mask k q) (lowTile mask l q)) Finset.univ (View.stores_vmem_bits_univ h_S1x512 rfl) (.inl rfl))

/-- Head `hh`'s running maxima and weighted sums of a query tile, brought up to date with the scores in buffer `b`. -/
def updateStep (b : Bool) (hh : Fin 2) {om : Fin 3 → ℕ} (hm : ∀ a, om a + S1x1x512.size a ≤ S4x8x512.size a)
    {ov : Fin 3 → ℕ} (hv : ∀ a, ov a + S1x80x512.size a ≤ S16x160x512.size a)
    {oa : Fin 3 → ℕ} (ha : ∀ a, oa a + S1x80x512.size a ≤ S4x160x512.size a) :
    Prog (TpuEff nD τ sig (Elt F) Λ .tc) PUnit := do
  let m : Vec F S1x1x512 .f32 ← Prog.lift (.load B.m (Rect.unit (s := S4x8x512) om S1x1x512.size hm).toLoadRect (View.loadsAt_vmem h_S1x1x512))
  let mb : Vec F S1x512 .f32 ← Prog.lift (.load (B.mb b) (Rect.unit (s := S8x512) ![hh.val, 0] S1x512.size (inb_mb hh)).toLoadRect (View.loadsAt_vmem h_S1x512))
  let s : Vec F S1x512x512 .f32 ← Prog.lift (.load (B.s b) (Rect.unit (s := S2x512x512) ![hh.val, 0, 0] S1x512x512.size (inb_s hh)).toLoadRect (View.loadsAt_vmem h_S1x512x512))
  let _m : Vec F S1x1x512 .f32 ← Prog.lift (.load B.m (Rect.unit (s := S4x8x512) om S1x1x512.size hm).toLoadRect (View.loadsAt_vmem h_S1x1x512))
  Prog.lift (.store B.m (Rect.unit (s := S4x8x512) om S1x1x512.size hm) (shapeCast S1x1x512 (newMax m mb) shapeCasts_S1x512_S1x1x512) Finset.univ (View.stores_vmem_bits_univ h_S1x1x512 rfl) (.inl rfl))
  let v : Vec F S1x80x512 .bf16 ← Prog.lift (.load B.v (Rect.unit (s := S16x160x512) ov S1x80x512.size hv).toLoadRect (View.loadsAt_vmem h_S1x80x512))
  let a : Vec F S1x80x512 .f32 ← Prog.lift (.load B.acc (Rect.unit (s := S4x160x512) oa S1x80x512.size ha).toLoadRect (View.loadsAt_vmem h_S1x80x512))
  let _a : Vec F S1x80x512 .f32 ← Prog.lift (.load B.acc (Rect.unit (s := S4x160x512) oa S1x80x512.size ha).toLoadRect (View.loadsAt_vmem h_S1x80x512))
  Prog.lift (.store B.acc (Rect.unit (s := S4x160x512) oa S1x80x512.size ha) (newAcc m mb s v a) Finset.univ (View.stores_vmem_bits_univ h_S1x80x512 rfl) (.inl rfl))

/-- Where slot `u`'s sums and the sums of weights lie in their buffer, each head's. -/
theorem inb_a (u : Fin 4) (hh : Fin 2) : ∀ a, (![u.val, 80 * hh.val, 0] : Fin 3 → ℕ) a + S1x64x512.size a ≤ S4x160x512.size a := by decide +revert
theorem inb_l (u : Fin 4) (hh : Fin 2) : ∀ a, (![u.val, 64 + 80 * hh.val, 0] : Fin 3 → ℕ) a + S1x1x512.size a ≤ S4x160x512.size a := by decide +revert

/-- Slot `u`'s result, written to the rows of its query tile. -/
def outStep (u : Fin 4) {oo : Fin 2 → ℕ} (ho : ∀ a, oo a + S512x128.size a ≤ S8192x128.size a)
    (hx : (B.o.access (Rect.unit (s := S8192x128) oo S512x128.size ho)).Stores Finset.univ) :
    Prog (TpuEff nD τ sig (Elt F) Λ .tc) PUnit := do
  let a0 : Vec F S1x64x512 .f32 ← Prog.lift (.load B.acc (Rect.unit (s := S4x160x512) ![u.val, 80 * (0 : Fin 2).val, 0] S1x64x512.size (inb_a u 0)).toLoadRect (View.loadsAt_vmem h_S1x64x512))
  let l0 : Vec F S1x1x512 .f32 ← Prog.lift (.load B.acc (Rect.unit (s := S4x160x512) ![u.val, 64 + 80 * (0 : Fin 2).val, 0] S1x1x512.size (inb_l u 0)).toLoadRect (View.loadsAt_vmem h_S1x1x512))
  let a1 : Vec F S1x64x512 .f32 ← Prog.lift (.load B.acc (Rect.unit (s := S4x160x512) ![u.val, 80 * (1 : Fin 2).val, 0] S1x64x512.size (inb_a u 1)).toLoadRect (View.loadsAt_vmem h_S1x64x512))
  let l1 : Vec F S1x1x512 .f32 ← Prog.lift (.load B.acc (Rect.unit (s := S4x160x512) ![u.val, 64 + 80 * (1 : Fin 2).val, 0] S1x1x512.size (inb_l u 1)).toLoadRect (View.loadsAt_vmem h_S1x1x512))
  let _o : Vec F S512x128 .bf16 ← Prog.lift (.load B.o (Rect.unit (s := S8192x128) oo S512x128.size ho).toLoadRect (View.loadsAt_vmem h_S512x128))
  Prog.lift (.store B.o (Rect.unit (s := S8192x128) oo S512x128.size ho) (outTile a0 l0 a1 l1) Finset.univ hx (.inl rfl))

end Cert.Attn

end
-- ==== Proof.Program.lean ====
/-
  The attention kernel's body as a sequence of the steps of Steps.lean, at grid point `i`: the scratch at its start, the
  four blocks on the diagonal and the first pairs of blocks, the loop of the remaining pairs, the last block, and the four
  results. A pair is a block of scores into one buffer while the other's is used to update, and the same with the buffers
  exchanged. The printed programs are this one (KernelBody.lean, KernelIdealBody.lean).
-/
module

public import proofs.«01_k».proof.Proof.Steps

@[expose] public section

set_option synthInstance.maxSize 4096

noncomputable section

namespace Cert.Attn

open Cert.KernelIdeal Cert.KernelIdeal.Gen
open Idealize.ShloMosaic Idealize.SL.Sem

variable {F : FTy → Type} [FloatOps F]
variable {nD : Nat} {τ : Topo} {sig : RefSig} {Λ : Labels} (B : Bufs sig)

/-- Pair `u` of a trip `t` of the loop. -/
def pairProg (i : grid0.Coords) (t : Fin k0_t1_loop.trips) (u : Fin 7) :
    Prog (TpuEff nD τ sig (Elt F) Λ .tc) PUnit := do
  fullStep B true 0 (k0_off29_inb i t u 0) (k0_off30_inb i t u 0)
  fullStep B true 1 (k0_off31_inb i t u 0) (k0_off32_inb i t u 0)
  updateStep B false 0 (k0_off33_inb i t u) (k0_off34_inb i t u) (k0_off35_inb i t u)
  updateStep B false 1 (k0_off36_inb i t u) (k0_off37_inb i t u) (k0_off38_inb i t u)
  fullStep B false 0 (k0_off29_inb i t u 1) (k0_off30_inb i t u 1)
  fullStep B false 1 (k0_off31_inb i t u 1) (k0_off32_inb i t u 1)
  updateStep B true 0 (k0_off39_inb i t u) (k0_off40_inb i t u) (k0_off41_inb i t u)
  updateStep B true 1 (k0_off42_inb i t u) (k0_off43_inb i t u) (k0_off44_inb i t u)

/-- A trip of the loop: seven pairs. -/
def tripProg (i : grid0.Coords) (t : Fin k0_t1_loop.trips) :
    Prog (TpuEff nD τ sig (Elt F) Λ .tc) PUnit := do
  pairProg B i t 0
  pairProg B i t 1
  pairProg B i t 2
  pairProg B i t 3
  pairProg B i t 4
  pairProg B i t 5
  pairProg B i t 6

/-- What comes before the loop. -/
def headProg (mask : F .f32) (i : grid0.Coords) : Prog (TpuEff nD τ sig (Elt F) Λ .tc) PUnit := do
  initStep B mask
  diagStep B mask false 0 (k0_off1_inb i) (k0_off2_inb i) (k0_off3_inb i)
  diagStep B mask false 1 (k0_off4_inb i) (k0_off5_inb i) (k0_off6_inb i)
  diagStep B mask true 0 (k0_off7_inb i 1) (k0_off8_inb i 1) (k0_off9_inb i 1)
  diagStep B mask true 1 (k0_off10_inb i 1) (k0_off11_inb i 1) (k0_off12_inb i 1)
  updateStep B false 0 (om := ![0, 0, 0]) inb_S4x8x512_S1x1x512_0_0_0 (k0_off13_inb i) (oa := ![0, 0, 0]) inb_S4x160x512_S1x80x512_0_0_0
  updateStep B false 1 (om := ![0, 1, 0]) inb_S4x8x512_S1x1x512_0_1_0 (k0_off14_inb i) (oa := ![0, 80, 0]) inb_S4x160x512_S1x80x512_0_80_0
  diagStep B mask false 0 (k0_off15_inb i) (k0_off16_inb i) (k0_off17_inb i)
  diagStep B mask false 1 (k0_off18_inb i) (k0_off19_inb i) (k0_off20_inb i)
  updateStep B true 0 (om := ![1, 0, 0]) inb_S4x8x512_S1x1x512_1_0_0 (k0_off21_inb i 1) (oa := ![1, 0, 0]) inb_S4x160x512_S1x80x512_1_0_0
  updateStep B true 1 (om := ![1, 1, 0]) inb_S4x8x512_S1x1x512_1_1_0 (k0_off22_inb i 1) (oa := ![1, 80, 0]) inb_S4x160x512_S1x80x512_1_80_0
  diagStep B mask true 0 (k0_off7_inb i 0) (k0_off8_inb i 0) (k0_off9_inb i 0)
  diagStep B mask true 1 (k0_off10_inb i 0) (k0_off11_inb i 0) (k0_off12_inb i 0)
  updateStep B false 0 (om := ![2, 0, 0]) inb_S4x8x512_S1x1x512_2_0_0 (k0_off23_inb i) (oa := ![2, 0, 0]) inb_S4x160x512_S1x80x512_2_0_0
  updateStep B false 1 (om := ![2, 1, 0]) inb_S4x8x512_S1x1x512_2_1_0 (k0_off24_inb i) (oa := ![2, 80, 0]) inb_S4x160x512_S1x80x512_2_80_0
  fullStep B false 0 (k0_off25_inb i 0) (k0_off26_inb i 0)
  fullStep B false 1 (k0_off27_inb i 0) (k0_off28_inb i 0)
  updateStep B true 0 (om := ![3, 0, 0]) inb_S4x8x512_S1x1x512_3_0_0 (k0_off21_inb i 0) (oa := ![3, 0, 0]) inb_S4x160x512_S1x80x512_3_0_0
  updateStep B true 1 (om := ![3, 1, 0]) inb_S4x8x512_S1x1x512_3_1_0 (k0_off22_inb i 0) (oa := ![3, 80, 0]) inb_S4x160x512_S1x80x512_3_80_0

/-- What comes after it. -/
def tailProg (ho : B.o.IsWhole) (i : grid0.Coords) : Prog (TpuEff nD τ sig (Elt F) Λ .tc) PUnit := do
  fullStep B true 0 (k0_off25_inb i 1) (k0_off26_inb i 1)
  fullStep B true 1 (k0_off27_inb i 1) (k0_off28_inb i 1)
  updateStep B false 0 (k0_off45_inb i 0) (k0_off46_inb i 0) (k0_off47_inb i 0)
  updateStep B false 1 (k0_off48_inb i 0) (k0_off49_inb i 0) (k0_off50_inb i 0)
  updateStep B true 0 (k0_off45_inb i 1) (k0_off46_inb i 1) (k0_off47_inb i 1)
  updateStep B true 1 (k0_off48_inb i 1) (k0_off49_inb i 1) (k0_off50_inb i 1)
  outStep B 0 (k0_off51_inb i) (View.stores_vmem h_S512x128 (ho.storeExact_slice rfl _ (k0_off51_packedbf16 i)) (fun _ => rfl))
  outStep B 1 (k0_off52_inb i 1) (View.stores_vmem h_S512x128 (ho.storeExact_slice rfl _ (k0_off52_packedbf16 i 1)) (fun _ => rfl))
  outStep B 2 (k0_off53_inb i) (View.stores_vmem h_S512x128 (ho.storeExact_slice rfl _ (k0_off53_packedbf16 i)) (fun _ => rfl))
  outStep B 3 (k0_off52_inb i 0) (View.stores_vmem h_S512x128 (ho.storeExact_slice rfl _ (k0_off52_packedbf16 i 0)) (fun _ => rfl))

/-- The kernel's body. -/
def bodyProg (mask : F .f32) (ho : B.o.IsWhole) (i : grid0.Coords) : Prog (TpuEff nD τ sig (Elt F) Λ .tc) PUnit := do
  headProg B mask i
  Scf.Loop.for k0_t1_loop k0_t1_ok ⟨⟩ fun t _ => tripProg B i t
  tailProg B ho i

/-- The same with two numbers handed on after the loop, of which nothing that follows depends: what is printed. -/
theorem bodyProg_eq (mask : F .f32) (ho : B.o.IsWhole) (i : grid0.Coords) (c : Σ' (_ : BitVec 32), BitVec 32) :
    (headProg B mask i >>= fun _ =>
        ((Scf.Loop.for k0_t1_loop k0_t1_ok PUnit.unit fun t _ => tripProg B i t) >>= fun _ => Prog.ret c) >>= fun _ => tailProg B ho i :
        Prog (TpuEff nD τ sig (Elt F) Λ .tc) PUnit) = bodyProg B mask ho i :=
  congrArg (headProg B mask i >>= ·) (funext fun _ => Prog.bind_assoc _ _ _)

end Cert.Attn

end
-- ==== Proof.Held.lean ====
/-
  What the attention kernel's steps do to the buffers' contents. `St` is the contents of the ten buffers, `Held` the
  ownership of the buffers at those contents; each step of Steps.lean takes `Held st` to `Held` of a plain function of
  `st`, and so does the whole body (`body_spec`). The functions are read off the steps: loads are windows of a buffer's
  contents, stores put a payload over a window.
-/
module

public import proofs.«01_k».proof.Proof.Program
public import Idealize.ShloMosaic.Lib.VecWindow
public import Idealize.ShloMosaic.Lib.Pipeline.Frame
public import Idealize.ShloMosaic.Lib.Tactic

@[expose] public section

set_option synthInstance.maxSize 4096

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Loads and stores of an owned buffer -/

section Access

variable {nD : Nat} {τ : Topo} {sig : RefSig} {Val : EltTy → Type} {U : Type} [URA U] {Λ : Labels}
variable (defs : Defs nD τ sig Val Λ) (c : Thread nD τ) (E : Set ℕ)
variable {sh : Shape} {e : EltTy} (m : Memref sig c.2.kind .vmem sh e)

/-- A load of an owned buffer reads a window of its contents. -/
theorem load_spec {off size : Fin sh.rank → ℕ} {inb : ∀ a, off a + size a ≤ sh.size a}
    {hl : m.view.LoadsAt (Rect.unit off size inb).toLoadRect} {X : sh.Idx → Val e}
    {Q : ((Rect.unit off size inb).toLoadRect.shape.Idx → Val e) → sProp (MT nD τ sig Unit Val ℕ U ℕ)} :
    owns c m fullShare X
      ⊢ iprop((owns c m fullShare X -∗ Q (VecWindow.window X off size inb))
        -∗ wp frame (wpE defs Variants.none c none) E (Prog.lift (.load m (Rect.unit off size inb).toLoadRect hl)) Q) := by
  unfold owns
  iintro ⟨%f, %hf, H⟩ K
  iapply (wp_load (cs := .vmem) (defs := defs) Variants.none c none E (m := m) (f := f) (q := fullShare) (S := m.view.set) (m.view.setOn_subset_set _)) $$ H
  iintro H
  iapply le_wp_ret
  rw [View.readAt_unit _ _ inb rfl inb, hf]
  iapply K
  iexists f
  isplitr
  · ipureintro; exact hf
  · iexact H

/-- A store of all of a window of an owned buffer puts the payload there. -/
theorem store_spec {off size : Fin sh.rank → ℕ} {inb : ∀ a, off a + size a ≤ sh.size a}
    {w : (Rect.unit off size inb).shape.Idx → Val e} {hx : (m.access (Rect.unit off size inb)).Stores Finset.univ}
    {hm : Finset.univ = Finset.univ ∨ ∀ a, (Rect.unit off size inb).stride a = 1} {X : sh.Idx → Val e}
    {Q : PUnit → sProp (MT nD τ sig Unit Val ℕ U ℕ)} :
    owns c m fullShare X
      ⊢ iprop((owns c m fullShare (VecWindow.put X off size w) -∗ Q ⟨⟩)
        -∗ wp frame (wpE defs Variants.none c none) E (Prog.lift (.store m (Rect.unit off size inb) w Finset.univ hx hm)) Q) := by
  unfold owns
  iintro ⟨%f, %hf, H⟩ K
  iapply (wp_store (cs := .vmem) (defs := defs) Variants.none c none E (m := m) (r := Rect.unit off size inb) (f := f) (S := m.view.set) (Memref.setOn_access_subset _ _ _)) $$ H
  iintro H
  iapply le_wp_ret
  iapply K
  iexists (m.view.writes Val f [⟨Rect.unit off size inb, w⟩])
  isplitr
  · ipureintro
    rw [View.read_writes_cons_put _ _ inb w [] rfl, View.writes_nil, hf]
  · iexact H

end Access

/-! ## The contents of the buffers, and what a step makes of them -/

variable {F : FTy → Type} [FloatOps F]

/-- The contents of the kernel's buffers. -/
structure St (F : FTy → Type) where
  q : S16x256x512.Idx → Elt F .bf16
  k : S8192x256.Idx → Elt F .bf16
  v : S16x160x512.Idx → Elt F .bf16
  o : S8192x128.Idx → Elt F .bf16
  acc : S4x160x512.Idx → Elt F .f32
  m : S4x8x512.Idx → Elt F .f32
  s : Bool → S2x512x512.Idx → Elt F .f32
  mb : Bool → S8x512.Idx → Elt F .f32

namespace St

variable (st : St F)

/-- After `initStep`. -/
def init (mask : F .f32) : St F :=
  { st with
    m := VecWindow.put st.m ![0, 0, 0] S4x8x512.size (shapeCast S4x8x512 (broadcast S4x8x512 mask) shapeCasts_S4x8x512_S4x8x512)
    acc := VecWindow.put st.acc ![0, 0, 0] S4x160x512.size
      (shapeCast S4x160x512 (broadcast S4x160x512 (Scalar.ofBits .f32 0x00000000#32)) shapeCasts_S4x160x512_S4x160x512) }

/-- After `fullStep`. -/
def full (b : Bool) (hh : Fin 2) {oq : Fin 3 → ℕ} (hq : ∀ a, oq a + S1x128x512.size a ≤ S16x256x512.size a)
    {ok : Fin 2 → ℕ} (hk : ∀ a, ok a + S512x128.size a ≤ S8192x256.size a) : St F :=
  { st with
    s := Function.update st.s b (VecWindow.put (st.s b) ![hh.val, 0, 0] S1x512x512.size
      (shapeCast S1x512x512 (fullTile (VecWindow.window st.k ok S512x128.size hk) (VecWindow.window st.q oq S1x128x512.size hq)) shapeCasts_S512x512_S1x512x512))
    mb := Function.update st.mb b (VecWindow.put (st.mb b) ![hh.val, 0] S1x512.size
      (fullMax (fullTile (VecWindow.window st.k ok S512x128.size hk) (VecWindow.window st.q oq S1x128x512.size hq)))) }

/-- After `diagStep`. -/
def diag (mask : F .f32) (b : Bool) (hh : Fin 2) {oq : Fin 3 → ℕ} (hq : ∀ a, oq a + S1x128x512.size a ≤ S16x256x512.size a)
    {ok : Fin 2 → ℕ} (hk : ∀ a, ok a + S256x128.size a ≤ S8192x256.size a)
    {ol : Fin 2 → ℕ} (hl : ∀ a, ol a + S256x128.size a ≤ S8192x256.size a) : St F :=
  { st with
    s := Function.update st.s b (VecWindow.put (VecWindow.put (VecWindow.put (st.s b) ![hh.val, 0, 0] S1x256x512.size
        (shapeCast S1x256x512 (topTile mask (VecWindow.window st.k ok S256x128.size hk) (VecWindow.window st.q oq S1x128x512.size hq)) shapeCasts_S256x512_S1x256x512))
        ![hh.val, 256, 0] S1x256x256.size (shapeCast S1x256x256 (broadcast S256x256 mask) shapeCasts_S256x256_S1x256x256))
        ![hh.val, 256, 256] S1x256x256.size
        (shapeCast S1x256x256 (lowTile mask (VecWindow.window st.k ol S256x128.size hl) (VecWindow.window st.q oq S1x128x512.size hq)) shapeCasts_S256x256_S1x256x256))
    mb := Function.update st.mb b (VecWindow.put (st.mb b) ![hh.val, 0] S1x512.size
      (diagMax (topTile mask (VecWindow.window st.k ok S256x128.size hk) (VecWindow.window st.q oq S1x128x512.size hq))
        (lowTile mask (VecWindow.window st.k ol S256x128.size hl) (VecWindow.window st.q oq S1x128x512.size hq)))) }

/-- After `updateStep`. -/
def update (b : Bool) (hh : Fin 2) {om : Fin 3 → ℕ} (hm : ∀ a, om a + S1x1x512.size a ≤ S4x8x512.size a)
    {ov : Fin 3 → ℕ} (hv : ∀ a, ov a + S1x80x512.size a ≤ S16x160x512.size a)
    {oa : Fin 3 → ℕ} (ha : ∀ a, oa a + S1x80x512.size a ≤ S4x160x512.size a) : St F :=
  { st with
    m := VecWindow.put st.m om S1x1x512.size (shapeCast S1x1x512
      (newMax (VecWindow.window st.m om S1x1x512.size hm) (VecWindow.window (st.mb b) ![hh.val, 0] S1x512.size (inb_mb hh))) shapeCasts_S1x512_S1x1x512)
    acc := VecWindow.put st.acc oa S1x80x512.size
      (newAcc (VecWindow.window st.m om S1x1x512.size hm) (VecWindow.window (st.mb b) ![hh.val, 0] S1x512.size (inb_mb hh))
        (VecWindow.window (st.s b) ![hh.val, 0, 0] S1x512x512.size (inb_s hh)) (VecWindow.window st.v ov S1x80x512.size hv)
        (VecWindow.window st.acc oa S1x80x512.size ha)) }

/-- After `outStep`. -/
def out (u : Fin 4) {oo : Fin 2 → ℕ} (ho : ∀ a, oo a + S512x128.size a ≤ S8192x128.size a) : St F :=
  { st with
    o := VecWindow.put st.o oo S512x128.size (outTile
      (VecWindow.window st.acc ![u.val, 80 * (0 : Fin 2).val, 0] S1x64x512.size (inb_a u 0))
      (VecWindow.window st.acc ![u.val, 64 + 80 * (0 : Fin 2).val, 0] S1x1x512.size (inb_l u 0))
      (VecWindow.window st.acc ![u.val, 80 * (1 : Fin 2).val, 0] S1x64x512.size (inb_a u 1))
      (VecWindow.window st.acc ![u.val, 64 + 80 * (1 : Fin 2).val, 0] S1x1x512.size (inb_l u 1))) }

/-- After a pair of blocks of the loop. -/
def pair (i : grid0.Coords) (t : Fin k0_t1_loop.trips) (u : Fin 7) : St F :=
  (((((((st.full true 0 (k0_off29_inb i t u 0) (k0_off30_inb i t u 0)).full true 1 (k0_off31_inb i t u 0) (k0_off32_inb i t u 0)).update
    false 0 (k0_off33_inb i t u) (k0_off34_inb i t u) (k0_off35_inb i t u)).update
    false 1 (k0_off36_inb i t u) (k0_off37_inb i t u) (k0_off38_inb i t u)).full
    false 0 (k0_off29_inb i t u 1) (k0_off30_inb i t u 1)).full false 1 (k0_off31_inb i t u 1) (k0_off32_inb i t u 1)).update
    true 0 (k0_off39_inb i t u) (k0_off40_inb i t u) (k0_off41_inb i t u)).update
    true 1 (k0_off42_inb i t u) (k0_off43_inb i t u) (k0_off44_inb i t u)

/-- After a trip of the loop. -/
def trip (i : grid0.Coords) (t : Fin k0_t1_loop.trips) : St F :=
  ((((((st.pair i t 0).pair i t 1).pair i t 2).pair i t 3).pair i t 4).pair i t 5).pair i t 6

/-- After the first `n` trips. -/
def trips (i : grid0.Coords) : ℕ → St F
  | 0 => st
  | n + 1 => if h : n < k0_t1_loop.trips then (trips i n).trip i ⟨n, h⟩ else trips i n

/-- After what comes before the loop. -/
def head (mask : F .f32) (i : grid0.Coords) : St F :=
  ((((((((((((((((((st.init mask).diag
    mask false 0 (k0_off1_inb i) (k0_off2_inb i) (k0_off3_inb i)).diag
    mask false 1 (k0_off4_inb i) (k0_off5_inb i) (k0_off6_inb i)).diag
    mask true 0 (k0_off7_inb i 1) (k0_off8_inb i 1) (k0_off9_inb i 1)).diag
    mask true 1 (k0_off10_inb i 1) (k0_off11_inb i 1) (k0_off12_inb i 1)).update
    false 0 (om := ![0, 0, 0]) inb_S4x8x512_S1x1x512_0_0_0 (k0_off13_inb i) (oa := ![0, 0, 0]) inb_S4x160x512_S1x80x512_0_0_0).update
    false 1 (om := ![0, 1, 0]) inb_S4x8x512_S1x1x512_0_1_0 (k0_off14_inb i) (oa := ![0, 80, 0]) inb_S4x160x512_S1x80x512_0_80_0).diag
    mask false 0 (k0_off15_inb i) (k0_off16_inb i) (k0_off17_inb i)).diag
    mask false 1 (k0_off18_inb i) (k0_off19_inb i) (k0_off20_inb i)).update
    true 0 (om := ![1, 0, 0]) inb_S4x8x512_S1x1x512_1_0_0 (k0_off21_inb i 1) (oa := ![1, 0, 0]) inb_S4x160x512_S1x80x512_1_0_0).update
    true 1 (om := ![1, 1, 0]) inb_S4x8x512_S1x1x512_1_1_0 (k0_off22_inb i 1) (oa := ![1, 80, 0]) inb_S4x160x512_S1x80x512_1_80_0).diag
    mask true 0 (k0_off7_inb i 0) (k0_off8_inb i 0) (k0_off9_inb i 0)).diag
    mask true 1 (k0_off10_inb i 0) (k0_off11_inb i 0) (k0_off12_inb i 0)).update
    false 0 (om := ![2, 0, 0]) inb_S4x8x512_S1x1x512_2_0_0 (k0_off23_inb i) (oa := ![2, 0, 0]) inb_S4x160x512_S1x80x512_2_0_0).update
    false 1 (om := ![2, 1, 0]) inb_S4x8x512_S1x1x512_2_1_0 (k0_off24_inb i) (oa := ![2, 80, 0]) inb_S4x160x512_S1x80x512_2_80_0).full
    false 0 (k0_off25_inb i 0) (k0_off26_inb i 0)).full
    false 1 (k0_off27_inb i 0) (k0_off28_inb i 0)).update
    true 0 (om := ![3, 0, 0]) inb_S4x8x512_S1x1x512_3_0_0 (k0_off21_inb i 0) (oa := ![3, 0, 0]) inb_S4x160x512_S1x80x512_3_0_0).update
    true 1 (om := ![3, 1, 0]) inb_S4x8x512_S1x1x512_3_1_0 (k0_off22_inb i 0) (oa := ![3, 80, 0]) inb_S4x160x512_S1x80x512_3_80_0

/-- After what comes after the loop, but for the results. -/
def last (i : grid0.Coords) : St F :=
  (((((st.full true 0 (k0_off25_inb i 1) (k0_off26_inb i 1)).full true 1 (k0_off27_inb i 1) (k0_off28_inb i 1)).update
    false 0 (k0_off45_inb i 0) (k0_off46_inb i 0) (k0_off47_inb i 0)).update
    false 1 (k0_off48_inb i 0) (k0_off49_inb i 0) (k0_off50_inb i 0)).update
    true 0 (k0_off45_inb i 1) (k0_off46_inb i 1) (k0_off47_inb i 1)).update
    true 1 (k0_off48_inb i 1) (k0_off49_inb i 1) (k0_off50_inb i 1)

/-- After the results. -/
def outs (i : grid0.Coords) : St F :=
  (((st.out 0 (k0_off51_inb i)).out 1 (k0_off52_inb i 1)).out 2 (k0_off53_inb i)).out 3 (k0_off52_inb i 0)

/-- After the body. -/
def body (mask : F .f32) (i : grid0.Coords) : St F :=
  (((st.head mask i).trips i k0_t1_loop.trips).last i).outs i

/-! What each step leaves as it was. -/

section Fields

variable (mask : F .f32) (b : Bool) (hh : Fin 2) {oq : Fin 3 → ℕ} (hq : ∀ a, oq a + S1x128x512.size a ≤ S16x256x512.size a)
  {ok : Fin 2 → ℕ} (hk : ∀ a, ok a + S512x128.size a ≤ S8192x256.size a)
  {od : Fin 2 → ℕ} (hd : ∀ a, od a + S256x128.size a ≤ S8192x256.size a)
  {ol : Fin 2 → ℕ} (hl : ∀ a, ol a + S256x128.size a ≤ S8192x256.size a)
  {om : Fin 3 → ℕ} (hm : ∀ a, om a + S1x1x512.size a ≤ S4x8x512.size a)
  {ov : Fin 3 → ℕ} (hv : ∀ a, ov a + S1x80x512.size a ≤ S16x160x512.size a)
  {oa : Fin 3 → ℕ} (ha : ∀ a, oa a + S1x80x512.size a ≤ S4x160x512.size a)
  (u : Fin 4) {oo : Fin 2 → ℕ} (ho : ∀ a, oo a + S512x128.size a ≤ S8192x128.size a)

@[simp] theorem init_q : (st.init mask).q = st.q := rfl
@[simp] theorem init_k : (st.init mask).k = st.k := rfl
@[simp] theorem init_v : (st.init mask).v = st.v := rfl
@[simp] theorem init_o : (st.init mask).o = st.o := rfl
@[simp] theorem init_s : (st.init mask).s = st.s := rfl
@[simp] theorem init_mb : (st.init mask).mb = st.mb := rfl
@[simp] theorem full_q : (st.full b hh hq hk).q = st.q := rfl
@[simp] theorem full_k : (st.full b hh hq hk).k = st.k := rfl
@[simp] theorem full_v : (st.full b hh hq hk).v = st.v := rfl
@[simp] theorem full_o : (st.full b hh hq hk).o = st.o := rfl
@[simp] theorem full_acc : (st.full b hh hq hk).acc = st.acc := rfl
@[simp] theorem full_m : (st.full b hh hq hk).m = st.m := rfl
@[simp] theorem diag_q : (st.diag mask b hh hq hd hl).q = st.q := rfl
@[simp] theorem diag_k : (st.diag mask b hh hq hd hl).k = st.k := rfl
@[simp] theorem diag_v : (st.diag mask b hh hq hd hl).v = st.v := rfl
@[simp] theorem diag_o : (st.diag mask b hh hq hd hl).o = st.o := rfl
@[simp] theorem diag_acc : (st.diag mask b hh hq hd hl).acc = st.acc := rfl
@[simp] theorem diag_m : (st.diag mask b hh hq hd hl).m = st.m := rfl
@[simp] theorem update_q : (st.update b hh hm hv ha).q = st.q := rfl
@[simp] theorem update_k : (st.update b hh hm hv ha).k = st.k := rfl
@[simp] theorem update_v : (st.update b hh hm hv ha).v = st.v := rfl
@[simp] theorem update_o : (st.update b hh hm hv ha).o = st.o := rfl
@[simp] theorem update_s : (st.update b hh hm hv ha).s = st.s := rfl
@[simp] theorem update_mb : (st.update b hh hm hv ha).mb = st.mb := rfl
@[simp] theorem out_q : (st.out u ho).q = st.q := rfl
@[simp] theorem out_k : (st.out u ho).k = st.k := rfl
@[simp] theorem out_v : (st.out u ho).v = st.v := rfl
@[simp] theorem out_acc : (st.out u ho).acc = st.acc := rfl
@[simp] theorem out_m : (st.out u ho).m = st.m := rfl
@[simp] theorem out_s : (st.out u ho).s = st.s := rfl
@[simp] theorem out_mb : (st.out u ho).mb = st.mb := rfl

end Fields

theorem pair_q (i : grid0.Coords) (t : Fin k0_t1_loop.trips) (u : Fin 7) : (st.pair i t u).q = st.q := by
  simp only [pair, init_q, full_q, diag_q, update_q, out_q]
theorem trips_q (i : grid0.Coords) (n : ℕ) : (st.trips i n).q = st.q := by
  induction n with
  | zero => rfl
  | succ n ih =>
    unfold trips
    split
    · simp only [trip, pair_q, ih]
    · exact ih
/-- The body leaves this input as it was. -/
theorem body_q (mask : F .f32) (i : grid0.Coords) : (st.body mask i).q = st.q := by
  simp only [body, outs, last, head, trips_q, init_q, full_q, diag_q, update_q, out_q]
theorem pair_k (i : grid0.Coords) (t : Fin k0_t1_loop.trips) (u : Fin 7) : (st.pair i t u).k = st.k := by
  simp only [pair, init_k, full_k, diag_k, update_k, out_k]
theorem trips_k (i : grid0.Coords) (n : ℕ) : (st.trips i n).k = st.k := by
  induction n with
  | zero => rfl
  | succ n ih =>
    unfold trips
    split
    · simp only [trip, pair_k, ih]
    · exact ih
/-- The body leaves this input as it was. -/
theorem body_k (mask : F .f32) (i : grid0.Coords) : (st.body mask i).k = st.k := by
  simp only [body, outs, last, head, trips_k, init_k, full_k, diag_k, update_k, out_k]
theorem pair_v (i : grid0.Coords) (t : Fin k0_t1_loop.trips) (u : Fin 7) : (st.pair i t u).v = st.v := by
  simp only [pair, init_v, full_v, diag_v, update_v, out_v]
theorem trips_v (i : grid0.Coords) (n : ℕ) : (st.trips i n).v = st.v := by
  induction n with
  | zero => rfl
  | succ n ih =>
    unfold trips
    split
    · simp only [trip, pair_v, ih]
    · exact ih
/-- The body leaves this input as it was. -/
theorem body_v (mask : F .f32) (i : grid0.Coords) : (st.body mask i).v = st.v := by
  simp only [body, outs, last, head, trips_v, init_v, full_v, diag_v, update_v, out_v]

end St

/-! ## The steps' triples -/

section Triples

variable {nD : Nat} {τ : Topo} {sig : RefSig} {U : Type} [URA U] {Λ : Labels}
variable (defs : Defs nD τ sig (Elt F) Λ) (c : Dev nD) (E : Set ℕ) (B : Bufs sig)

local notation "𝕄" => MT nD τ sig Unit (Elt F) ℕ U ℕ

/-- The kernel's buffers, owned at contents `st`. -/
def Held (st : St F) : sProp 𝕄 :=
  iprop(owns (c : Thread nD τ) B.q fullShare st.q ∗ owns (c : Thread nD τ) B.k fullShare st.k ∗ owns (c : Thread nD τ) B.v fullShare st.v
    ∗ owns (c : Thread nD τ) B.o fullShare st.o ∗ owns (c : Thread nD τ) B.acc fullShare st.acc ∗ owns (c : Thread nD τ) B.m fullShare st.m
    ∗ owns (c : Thread nD τ) (B.s false) fullShare (st.s false) ∗ owns (c : Thread nD τ) (B.s true) fullShare (st.s true)
    ∗ owns (c : Thread nD τ) (B.mb false) fullShare (st.mb false) ∗ owns (c : Thread nD τ) (B.mb true) fullShare (st.mb true))

/-- The program takes the buffers at contents `st` to the buffers at contents `st'`. -/
def Takes (st : St F) (p : Prog (TpuEff nD τ sig (Elt F) Λ .tc) PUnit) (st' : St F) : Prop :=
  ∀ Q : PUnit → sProp 𝕄, Held c B st ⊢ iprop((Held c B st' -∗ Q ⟨⟩) -∗ wp frame (wpE defs Variants.none (c : Thread nD τ) none) E p Q)

variable {defs c E B} in
/-- One program after another. -/
theorem Takes.bind {st st' st'' : St F} {p : Prog (TpuEff nD τ sig (Elt F) Λ .tc) PUnit} {k : PUnit → Prog (TpuEff nD τ sig (Elt F) Λ .tc) PUnit}
    (h : Takes (U := U) defs c E B st p st') (h' : Takes (U := U) defs c E B st' (k ⟨⟩) st'') : Takes (U := U) defs c E B st (p >>= k) st'' := by
  intro Q
  rw [wp_bind]
  iintro H K
  iapply (h _) $$ H
  iintro H
  iapply (h' _) $$ H
  iexact K

variable {st : St F}

theorem initStep_spec (mask : F .f32) :
    Takes (U := U) defs c E B st (initStep B mask) (st.init mask) := by
  intro Q
  unfold Held initStep
  iintro ⟨Hq, Hk, Hv, Ho, Ha, Hm, H0, H1, M0, M1⟩ K
  rw [wp_bind]; iapply (load_spec defs c E B.m) $$ Hm; iintro Hm
  rw [wp_bind]; iapply (store_spec defs c E B.m) $$ Hm; iintro Hm
  rw [wp_bind]; iapply (load_spec defs c E B.acc) $$ Ha; iintro Ha
  iapply (store_spec defs c E B.acc) $$ Ha; iintro Ha
  iapply K
  isplitl [Hq]; · iexact Hq
  isplitl [Hk]; · iexact Hk
  isplitl [Hv]; · iexact Hv
  isplitl [Ho]; · iexact Ho
  isplitl [Ha]; · iexact Ha
  isplitl [Hm]; · iexact Hm
  isplitl [H0]; · iexact H0
  isplitl [H1]; · iexact H1
  isplitl [M0]; · iexact M0
  iexact M1

theorem fullStep_spec (b : Bool) (hh : Fin 2) {oq : Fin 3 → ℕ} (hq : ∀ a, oq a + S1x128x512.size a ≤ S16x256x512.size a)
    {ok : Fin 2 → ℕ} (hk : ∀ a, ok a + S512x128.size a ≤ S8192x256.size a) :
    Takes (U := U) defs c E B st (fullStep B b hh hq hk) (st.full b hh hq hk) := by
  intro Q
  unfold Held fullStep
  iintro ⟨Hq, Hk, Hv, Ho, Ha, Hm, H0, H1, M0, M1⟩ K
  cases b
  · rw [wp_bind]; iapply (load_spec defs c E B.q) $$ Hq; iintro Hq
    rw [wp_bind]; iapply (load_spec defs c E B.k) $$ Hk; iintro Hk
    rw [wp_bind]; iapply (load_spec defs c E (B.s false)) $$ H0; iintro H0
    rw [wp_bind]; iapply (store_spec defs c E (B.s false)) $$ H0; iintro H0
    rw [wp_bind]; iapply (load_spec defs c E (B.mb false)) $$ M0; iintro M0
    iapply (store_spec defs c E (B.mb false)) $$ M0; iintro M0
    iapply K
    simp only [St.full, Function.update_self, ne_eq, reduceCtorEq, not_false_eq_true, Function.update_of_ne]
    isplitl [Hq]; · iexact Hq
    isplitl [Hk]; · iexact Hk
    isplitl [Hv]; · iexact Hv
    isplitl [Ho]; · iexact Ho
    isplitl [Ha]; · iexact Ha
    isplitl [Hm]; · iexact Hm
    isplitl [H0]; · iexact H0
    isplitl [H1]; · iexact H1
    isplitl [M0]; · iexact M0
    iexact M1
  · rw [wp_bind]; iapply (load_spec defs c E B.q) $$ Hq; iintro Hq
    rw [wp_bind]; iapply (load_spec defs c E B.k) $$ Hk; iintro Hk
    rw [wp_bind]; iapply (load_spec defs c E (B.s true)) $$ H1; iintro H1
    rw [wp_bind]; iapply (store_spec defs c E (B.s true)) $$ H1; iintro H1
    rw [wp_bind]; iapply (load_spec defs c E (B.mb true)) $$ M1; iintro M1
    iapply (store_spec defs c E (B.mb true)) $$ M1; iintro M1
    iapply K
    simp only [St.full, Function.update_self, ne_eq, reduceCtorEq, not_false_eq_true, Function.update_of_ne]
    isplitl [Hq]; · iexact Hq
    isplitl [Hk]; · iexact Hk
    isplitl [Hv]; · iexact Hv
    isplitl [Ho]; · iexact Ho
    isplitl [Ha]; · iexact Ha
    isplitl [Hm]; · iexact Hm
    isplitl [H0]; · iexact H0
    isplitl [H1]; · iexact H1
    isplitl [M0]; · iexact M0
    iexact M1

theorem diagStep_spec (mask : F .f32) (b : Bool) (hh : Fin 2) {oq : Fin 3 → ℕ} (hq : ∀ a, oq a + S1x128x512.size a ≤ S16x256x512.size a)
    {ok : Fin 2 → ℕ} (hk : ∀ a, ok a + S256x128.size a ≤ S8192x256.size a)
    {ol : Fin 2 → ℕ} (hl : ∀ a, ol a + S256x128.size a ≤ S8192x256.size a) :
    Takes (U := U) defs c E B st (diagStep B mask b hh hq hk hl) (st.diag mask b hh hq hk hl) := by
  intro Q
  unfold Held diagStep
  iintro ⟨Hq, Hk, Hv, Ho, Ha, Hm, H0, H1, M0, M1⟩ K
  cases b
  · rw [wp_bind]; iapply (load_spec defs c E B.q) $$ Hq; iintro Hq
    rw [wp_bind]; iapply (load_spec defs c E B.k) $$ Hk; iintro Hk
    rw [wp_bind]; iapply (load_spec defs c E B.k) $$ Hk; iintro Hk
    rw [wp_bind]; iapply (load_spec defs c E (B.s false)) $$ H0; iintro H0
    rw [wp_bind]; iapply (store_spec defs c E (B.s false)) $$ H0; iintro H0
    rw [wp_bind]; iapply (load_spec defs c E (B.s false)) $$ H0; iintro H0
    rw [wp_bind]; iapply (store_spec defs c E (B.s false)) $$ H0; iintro H0
    rw [wp_bind]; iapply (load_spec defs c E (B.s false)) $$ H0; iintro H0
    rw [wp_bind]; iapply (store_spec defs c E (B.s false)) $$ H0; iintro H0
    rw [wp_bind]; iapply (load_spec defs c E (B.mb false)) $$ M0; iintro M0
    iapply (store_spec defs c E (B.mb false)) $$ M0; iintro M0
    iapply K
    simp only [St.diag, Function.update_self, ne_eq, reduceCtorEq, not_false_eq_true, Function.update_of_ne]
    isplitl [Hq]; · iexact Hq
    isplitl [Hk]; · iexact Hk
    isplitl [Hv]; · iexact Hv
    isplitl [Ho]; · iexact Ho
    isplitl [Ha]; · iexact Ha
    isplitl [Hm]; · iexact Hm
    isplitl [H0]; · iexact H0
    isplitl [H1]; · iexact H1
    isplitl [M0]; · iexact M0
    iexact M1
  · rw [wp_bind]; iapply (load_spec defs c E B.q) $$ Hq; iintro Hq
    rw [wp_bind]; iapply (load_spec defs c E B.k) $$ Hk; iintro Hk
    rw [wp_bind]; iapply (load_spec defs c E B.k) $$ Hk; iintro Hk
    rw [wp_bind]; iapply (load_spec defs c E (B.s true)) $$ H1; iintro H1
    rw [wp_bind]; iapply (store_spec defs c E (B.s true)) $$ H1; iintro H1
    rw [wp_bind]; iapply (load_spec defs c E (B.s true)) $$ H1; iintro H1
    rw [wp_bind]; iapply (store_spec defs c E (B.s true)) $$ H1; iintro H1
    rw [wp_bind]; iapply (load_spec defs c E (B.s true)) $$ H1; iintro H1
    rw [wp_bind]; iapply (store_spec defs c E (B.s true)) $$ H1; iintro H1
    rw [wp_bind]; iapply (load_spec defs c E (B.mb true)) $$ M1; iintro M1
    iapply (store_spec defs c E (B.mb true)) $$ M1; iintro M1
    iapply K
    simp only [St.diag, Function.update_self, ne_eq, reduceCtorEq, not_false_eq_true, Function.update_of_ne]
    isplitl [Hq]; · iexact Hq
    isplitl [Hk]; · iexact Hk
    isplitl [Hv]; · iexact Hv
    isplitl [Ho]; · iexact Ho
    isplitl [Ha]; · iexact Ha
    isplitl [Hm]; · iexact Hm
    isplitl [H0]; · iexact H0
    isplitl [H1]; · iexact H1
    isplitl [M0]; · iexact M0
    iexact M1

theorem updateStep_spec (b : Bool) (hh : Fin 2) {om : Fin 3 → ℕ} (hm : ∀ a, om a + S1x1x512.size a ≤ S4x8x512.size a)
    {ov : Fin 3 → ℕ} (hv : ∀ a, ov a + S1x80x512.size a ≤ S16x160x512.size a)
    {oa : Fin 3 → ℕ} (ha : ∀ a, oa a + S1x80x512.size a ≤ S4x160x512.size a) :
    Takes (U := U) defs c E B st (updateStep B b hh hm hv ha) (st.update b hh hm hv ha) := by
  intro Q
  unfold Held updateStep
  iintro ⟨Hq, Hk, Hv, Ho, Ha, Hm, H0, H1, M0, M1⟩ K
  cases b
  · rw [wp_bind]; iapply (load_spec defs c E B.m) $$ Hm; iintro Hm
    rw [wp_bind]; iapply (load_spec defs c E (B.mb false)) $$ M0; iintro M0
    rw [wp_bind]; iapply (load_spec defs c E (B.s false)) $$ H0; iintro H0
    rw [wp_bind]; iapply (load_spec defs c E B.m) $$ Hm; iintro Hm
    rw [wp_bind]; iapply (store_spec defs c E B.m) $$ Hm; iintro Hm
    rw [wp_bind]; iapply (load_spec defs c E B.v) $$ Hv; iintro Hv
    rw [wp_bind]; iapply (load_spec defs c E B.acc) $$ Ha; iintro Ha
    rw [wp_bind]; iapply (load_spec defs c E B.acc) $$ Ha; iintro Ha
    iapply (store_spec defs c E B.acc) $$ Ha; iintro Ha
    iapply K
    simp only [St.update, Function.update_self, ne_eq, reduceCtorEq, not_false_eq_true, Function.update_of_ne]
    isplitl [Hq]; · iexact Hq
    isplitl [Hk]; · iexact Hk
    isplitl [Hv]; · iexact Hv
    isplitl [Ho]; · iexact Ho
    isplitl [Ha]; · iexact Ha
    isplitl [Hm]; · iexact Hm
    isplitl [H0]; · iexact H0
    isplitl [H1]; · iexact H1
    isplitl [M0]; · iexact M0
    iexact M1
  · rw [wp_bind]; iapply (load_spec defs c E B.m) $$ Hm; iintro Hm
    rw [wp_bind]; iapply (load_spec defs c E (B.mb true)) $$ M1; iintro M1
    rw [wp_bind]; iapply (load_spec defs c E (B.s true)) $$ H1; iintro H1
    rw [wp_bind]; iapply (load_spec defs c E B.m) $$ Hm; iintro Hm
    rw [wp_bind]; iapply (store_spec defs c E B.m) $$ Hm; iintro Hm
    rw [wp_bind]; iapply (load_spec defs c E B.v) $$ Hv; iintro Hv
    rw [wp_bind]; iapply (load_spec defs c E B.acc) $$ Ha; iintro Ha
    rw [wp_bind]; iapply (load_spec defs c E B.acc) $$ Ha; iintro Ha
    iapply (store_spec defs c E B.acc) $$ Ha; iintro Ha
    iapply K
    simp only [St.update, Function.update_self, ne_eq, reduceCtorEq, not_false_eq_true, Function.update_of_ne]
    isplitl [Hq]; · iexact Hq
    isplitl [Hk]; · iexact Hk
    isplitl [Hv]; · iexact Hv
    isplitl [Ho]; · iexact Ho
    isplitl [Ha]; · iexact Ha
    isplitl [Hm]; · iexact Hm
    isplitl [H0]; · iexact H0
    isplitl [H1]; · iexact H1
    isplitl [M0]; · iexact M0
    iexact M1

theorem outStep_spec (u : Fin 4) {oo : Fin 2 → ℕ} (ho : ∀ a, oo a + S512x128.size a ≤ S8192x128.size a)
    (hx : (B.o.access (Rect.unit (s := S8192x128) oo S512x128.size ho)).Stores Finset.univ) :
    Takes (U := U) defs c E B st (outStep B u ho hx) (st.out u ho) := by
  intro Q
  unfold Held outStep
  iintro ⟨Hq, Hk, Hv, Ho, Ha, Hm, H0, H1, M0, M1⟩ K
  rw [wp_bind]; iapply (load_spec defs c E B.acc) $$ Ha; iintro Ha
  rw [wp_bind]; iapply (load_spec defs c E B.acc) $$ Ha; iintro Ha
  rw [wp_bind]; iapply (load_spec defs c E B.acc) $$ Ha; iintro Ha
  rw [wp_bind]; iapply (load_spec defs c E B.acc) $$ Ha; iintro Ha
  rw [wp_bind]; iapply (load_spec defs c E B.o) $$ Ho; iintro Ho
  iapply (store_spec defs c E B.o) $$ Ho; iintro Ho
  iapply K
  isplitl [Hq]; · iexact Hq
  isplitl [Hk]; · iexact Hk
  isplitl [Hv]; · iexact Hv
  isplitl [Ho]; · iexact Ho
  isplitl [Ha]; · iexact Ha
  isplitl [Hm]; · iexact Hm
  isplitl [H0]; · iexact H0
  isplitl [H1]; · iexact H1
  isplitl [M0]; · iexact M0
  iexact M1

theorem pairProg_spec (i : grid0.Coords) (t : Fin k0_t1_loop.trips) (u : Fin 7) :
    Takes (U := U) defs c E B st (pairProg B i t u) (st.pair i t u) := by
  unfold pairProg St.pair
  refine Takes.bind (fullStep_spec defs c E B _ _ _ _) ?_
  refine Takes.bind (fullStep_spec defs c E B _ _ _ _) ?_
  refine Takes.bind (updateStep_spec defs c E B _ _ _ _ _) ?_
  refine Takes.bind (updateStep_spec defs c E B _ _ _ _ _) ?_
  refine Takes.bind (fullStep_spec defs c E B _ _ _ _) ?_
  refine Takes.bind (fullStep_spec defs c E B _ _ _ _) ?_
  refine Takes.bind (updateStep_spec defs c E B _ _ _ _ _) ?_
  exact updateStep_spec defs c E B _ _ _ _ _

theorem tripProg_spec (i : grid0.Coords) (t : Fin k0_t1_loop.trips) :
    Takes (U := U) defs c E B st (tripProg B i t) (st.trip i t) := by
  unfold tripProg St.trip
  refine Takes.bind (pairProg_spec defs c E B _ _ _) ?_
  refine Takes.bind (pairProg_spec defs c E B _ _ _) ?_
  refine Takes.bind (pairProg_spec defs c E B _ _ _) ?_
  refine Takes.bind (pairProg_spec defs c E B _ _ _) ?_
  refine Takes.bind (pairProg_spec defs c E B _ _ _) ?_
  refine Takes.bind (pairProg_spec defs c E B _ _ _) ?_
  exact pairProg_spec defs c E B _ _ _

theorem headProg_spec (mask : F .f32) (i : grid0.Coords) :
    Takes (U := U) defs c E B st (headProg B mask i) (st.head mask i) := by
  unfold headProg St.head
  refine Takes.bind (initStep_spec defs c E B _) ?_
  refine Takes.bind (diagStep_spec defs c E B _ _ _ _ _ _) ?_
  refine Takes.bind (diagStep_spec defs c E B _ _ _ _ _ _) ?_
  refine Takes.bind (diagStep_spec defs c E B _ _ _ _ _ _) ?_
  refine Takes.bind (diagStep_spec defs c E B _ _ _ _ _ _) ?_
  refine Takes.bind (updateStep_spec defs c E B _ _ _ _ _) ?_
  refine Takes.bind (updateStep_spec defs c E B _ _ _ _ _) ?_
  refine Takes.bind (diagStep_spec defs c E B _ _ _ _ _ _) ?_
  refine Takes.bind (diagStep_spec defs c E B _ _ _ _ _ _) ?_
  refine Takes.bind (updateStep_spec defs c E B _ _ _ _ _) ?_
  refine Takes.bind (updateStep_spec defs c E B _ _ _ _ _) ?_
  refine Takes.bind (diagStep_spec defs c E B _ _ _ _ _ _) ?_
  refine Takes.bind (diagStep_spec defs c E B _ _ _ _ _ _) ?_
  refine Takes.bind (updateStep_spec defs c E B _ _ _ _ _) ?_
  refine Takes.bind (updateStep_spec defs c E B _ _ _ _ _) ?_
  refine Takes.bind (fullStep_spec defs c E B _ _ _ _) ?_
  refine Takes.bind (fullStep_spec defs c E B _ _ _ _) ?_
  refine Takes.bind (updateStep_spec defs c E B _ _ _ _ _) ?_
  exact updateStep_spec defs c E B _ _ _ _ _

theorem tailProg_spec (ho : B.o.IsWhole) (i : grid0.Coords) :
    Takes (U := U) defs c E B st (tailProg B ho i) ((st.last i).outs i) := by
  unfold tailProg St.outs St.last
  refine Takes.bind (fullStep_spec defs c E B _ _ _ _) ?_
  refine Takes.bind (fullStep_spec defs c E B _ _ _ _) ?_
  refine Takes.bind (updateStep_spec defs c E B _ _ _ _ _) ?_
  refine Takes.bind (updateStep_spec defs c E B _ _ _ _ _) ?_
  refine Takes.bind (updateStep_spec defs c E B _ _ _ _ _) ?_
  refine Takes.bind (updateStep_spec defs c E B _ _ _ _ _) ?_
  refine Takes.bind (outStep_spec defs c E B _ _ _) ?_
  refine Takes.bind (outStep_spec defs c E B _ _ _) ?_
  refine Takes.bind (outStep_spec defs c E B _ _ _) ?_
  exact outStep_spec defs c E B _ _ _

/-- The loop: a trip after another. -/
theorem loop_spec (i : grid0.Coords) :
    Takes (U := U) defs c E B st (Scf.Loop.for k0_t1_loop k0_t1_ok ⟨⟩ fun t _ => tripProg B i t) (st.trips i k0_t1_loop.trips) := by
  intro Q
  refine BIClass.wand_intro ?_
  refine BIBase.Entails.trans ?_ (Scf.wp_for (Fr := frame) (wpE := wpE defs Variants.none (c : Thread nD τ) none) (Es := E) _ _ _ _ _ _
    (fun n _ => Held c B (st.trips i n)) ?_)
  · refine sep_mono_right ?_
    iintro K %acc
    iexact K
  · intro n acc
    have h := tripProg_spec defs c E B (st := st.trips i n.val) (U := U) i n (fun _ => Held c B (st.trips i (n.val + 1)))
    have e : st.trips i (n.val + 1) = (st.trips i n.val).trip i n := by
      show (if h : n.val < k0_t1_loop.trips then _ else _) = _
      rw [dif_pos n.isLt]
    rw [e] at h ⊢
    iintro H
    iapply h $$ H
    iintro H
    iexact H

/-- The body's triple. -/
theorem bodyProg_spec (mask : F .f32) (ho : B.o.IsWhole) (i : grid0.Coords) :
    Takes (U := U) defs c E B st (bodyProg B mask ho i) (st.body mask i) := by
  refine Takes.bind (headProg_spec defs c E B mask i) ?_
  refine Takes.bind ?_ (tailProg_spec defs c E B ho i)
  exact loop_spec defs c E B i

end Triples

end Cert.Attn

end
-- ==== Proof.KernelIdealBody.lean ====
/-
  The printed body of the attention kernel is the sequence of steps of Program.lean.
-/
module

public import proofs.«01_k».proof.Proof.Program

@[expose] public section

set_option synthInstance.maxSize 4096

noncomputable section

namespace Cert.KernelIdeal.Hand

open Cert.KernelIdeal Cert.KernelIdeal.Gen Cert.Attn
open Idealize.ShloMosaic Idealize.SL.Sem

variable {F : FTy → Type} [FloatOps F] [Named F]

/-- The buffers the body is handed, as one record. -/
abbrev bufs (arg3 : Memref sig .tc .vmem S16x256x512 .bf16) (arg4 : Memref sig .tc .vmem S8192x256 .bf16)
    (arg5 : Memref sig .tc .vmem S16x160x512 .bf16) (arg6 : Memref sig .tc .vmem S8192x128 .bf16)
    (arg7 : Memref sig .tc .vmem S4x160x512 .f32) (arg8 : Memref sig .tc .vmem S4x8x512 .f32)
    (arg9 arg10 : Memref sig .tc .vmem S2x512x512 .f32) (arg11 arg12 : Memref sig .tc .vmem S8x512 .f32) : Bufs sig :=
  ⟨arg3, arg4, arg5, arg6, arg7, arg8, fun b => match b with | false => arg9 | true => arg10, fun b => match b with | false => arg11 | true => arg12⟩

set_option maxHeartbeats 0 in
set_option maxRecDepth 65536 in
/-- The printed body is that sequence. -/
theorem body_eq (i : grid0.Coords) (arg3 : Memref sig .tc .vmem S16x256x512 .bf16) (harg3 : arg3.IsWhole) (arg4 : Memref sig .tc .vmem S8192x256 .bf16) (harg4 : arg4.IsWhole)
    (arg5 : Memref sig .tc .vmem S16x160x512 .bf16) (harg5 : arg5.IsWhole) (arg6 : Memref sig .tc .vmem S8192x128 .bf16) (harg6 : arg6.IsWhole)
    (arg7 : Memref sig .tc .vmem S4x160x512 .f32) (harg7 : arg7.IsWhole) (arg8 : Memref sig .tc .vmem S4x8x512 .f32) (harg8 : arg8.IsWhole)
    (arg9 : Memref sig .tc .vmem S2x512x512 .f32) (harg9 : arg9.IsWhole) (arg10 : Memref sig .tc .vmem S2x512x512 .f32) (harg10 : arg10.IsWhole)
    (arg11 : Memref sig .tc .vmem S8x512 .f32) (harg11 : arg11.IsWhole) (arg12 : Memref sig .tc .vmem S8x512 .f32) (harg12 : arg12.IsWhole) :
    cc0_mla_attn (F := F) i arg3 harg3 arg4 harg4 arg5 harg5 arg6 harg6 arg7 harg7 arg8 harg8 arg9 harg9 arg10 harg10 arg11 harg11 arg12 harg12
      = bodyProg (bufs arg3 arg4 arg5 arg6 arg7 arg8 arg9 arg10 arg11 arg12) (Named.named κ "mask" 0xF149F2CA#32) harg6 i :=
  Eq.trans (by rfl) (bodyProg_eq _ _ _ i _)

end Cert.KernelIdeal.Hand

end
-- ==== Proof.KernelIdealRun.lean ====
/-
  The launch of `KernelIdeal`: at every grid point the body, handed the point's blocks of the queries, keys and values and
  the result's block as it was, leaves the result's block as `St.body` says. The scratch is forgotten between points.
-/
module

public import proofs.«01_k».proof.Proof.Gen.KernelIdeal.Frame
public import proofs.«01_k».proof.Proof.KernelIdealBody
public import proofs.«01_k».proof.Proof.Held

@[expose] public section

set_option synthInstance.maxSize 4096
set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The mask. -/
abbrev mask : F .f32 := Named.named κ "mask" 0xF149F2CA#32

/-- The buffers' contents before the body runs at point `t`, the result's block at `Y` and the scratch at anything. -/
def before (c : Dev nD) (t : Fin cfg0.N) (Y : S8192x128.Idx → Elt F .bf16) (acc : S4x160x512.Idx → Elt F .f32)
    (mx : S4x8x512.Idx → Elt F .f32) (s : Bool → S2x512x512.Idx → Elt F .f32) (mb : Bool → S8x512.Idx → Elt F .f32) : St F :=
  ⟨iblk m c 0 t, iblk m c 1 t, iblk m c 2 t, Y, acc, mx, s, mb⟩

/-- What the body may leave of the result's block at point `t`, handed `Y`. -/
def Out (c : Dev nD) (t : Fin cfg0.N) (Y X : S8192x128.Idx → Elt F .bf16) : Prop :=
  ∃ acc mx s mb, X = ((before m c t Y acc mx s mb).body mask (grid0.coords t)).o

/-- The inputs' data, each block in place; of the result's nothing is said here. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
  Φ _ := Pipeline.ΦA spec0 c
  q _ := fullShare
  owed _ := 0

/-- The result's block is in the relation `Out` to what it was. -/
def ovr (c : Dev nD) : (w : Fin cfg0.W) → Option (Fin cfg0.N → (Y X : (cfg0.win w).block.Idx → Elt F (cfg0.win w).elt) → Prop)
  | 0 => none
  | 1 => none
  | 2 => none
  | 3 => some (Out m c)

/-- The launch's data. -/
def rdat (c : Dev nD) : RDat τ (Elt F) Unit ℕ (UR sig nD τ) ℕ cfg0 c := (dats m 0 c).toR.override (ovr m c)

theorem finds0 (c : Dev nD) (t : Fin cfg0.N) (X) (h : (rdat m c).Finds 0 t X) : X = iblk m c 0 t := by
  obtain ⟨d, rfl⟩ := (dats m 0 c).toR_finds 0 t X (((dats m 0 c).toR.override_finds (ovr := ovr m c) rfl t X).mp h)
  exact before0_0_of m (dats m 0 c) rfl (fun _ => rfl) t d
theorem finds1 (c : Dev nD) (t : Fin cfg0.N) (X) (h : (rdat m c).Finds 1 t X) : X = iblk m c 1 t := by
  obtain ⟨d, rfl⟩ := (dats m 0 c).toR_finds 1 t X (((dats m 0 c).toR.override_finds (ovr := ovr m c) rfl t X).mp h)
  exact before0_1_of m (dats m 0 c) rfl (fun _ => rfl) t d
theorem finds2 (c : Dev nD) (t : Fin cfg0.N) (X) (h : (rdat m c).Finds 2 t X) : X = iblk m c 2 t := by
  obtain ⟨d, rfl⟩ := (dats m 0 c).toR_finds 2 t X (((dats m 0 c).toR.override_finds (ovr := ovr m c) rfl t X).mp h)
  exact before0_2_of m (dats m 0 c) rfl (fun _ => rfl) t d

/-! ## The body at a point -/

/-- The buffers at point `t`. -/
abbrev bufsAt (t : Fin cfg0.N) : Bufs sig :=
  bufs (win0_0.stage (cfg0.slots t 0)) (win0_1.stage (cfg0.slots t 1)) (win0_2.stage (cfg0.slots t 2)) (win0_3.stage (cfg0.slots t 3))
    (Memref.whole cc0_scratch0) (Memref.whole cc0_scratch1) (Memref.whole cc0_scratch2) (Memref.whole cc0_scratch3)
    (Memref.whole cc0_scratch4) (Memref.whole cc0_scratch5)

/-- The scratch at some contents, the generator register at some state. -/
def Scratch (c : Dev nD) : sProp 𝕄 :=
  iprop(iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)
    ∗ (∃ d, owns (c : Thread nD τ) (Memref.whole cc0_scratch4) fullShare d) ∗ (∃ d, owns (c : Thread nD τ) (Memref.whole cc0_scratch5) fullShare d))
    ∗ (∃ r, prngReg c r))

theorem PhiA_eq (c : Dev nD) : (Pipeline.ΦA spec0 c : sProp 𝕄) = Scratch (F := F) c := by
  unfold Scratch
  unfold Pipeline.ΦA
  rw [scopedRest0_eq]
  simp only [owns_whole]; try rfl

/-- What the body is called with at point `t`, and what it returns. -/
def bodyPre (c : Dev nD) (t : Fin cfg0.N) (Y : S8192x128.Idx → Elt F .bf16) : sProp 𝕄 :=
  iprop(Scratch (F := F) c ∗ (rdat m c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare Y)
def bodyPost (c : Dev nD) (t : Fin cfg0.N) (Y : S8192x128.Idx → Elt F .bf16) : sProp 𝕄 :=
  iprop(Scratch (F := F) c ∗ (rdat m c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ ∃ X, ⌜Out m c t Y X⌝ ∗ owns (c : Thread nD τ) (win0_3.stage (cfg0.slots t 3)) fullShare X)

theorem sound_body (c : Dev nD) (t : Fin cfg0.N) (Y : S8192x128.Idx → Elt F .bf16) :
    bodyPre m c t Y ⊢ wp frame (wpE (defs₀ (F := F)) Variants.none c none) Set.univ (bodyAt0 t) (fun _ => bodyPost m c t Y) := by
  unfold bodyPre Scratch bodyAt0
  rw [body_eq]
  iintro ⟨⟨⟨⟨%acc, HA⟩, ⟨%mx, HX⟩, ⟨%s0, HS0⟩, ⟨%s1, HS1⟩, ⟨%b0, HB0⟩, ⟨%b1, HB1⟩⟩, Hg⟩, HO, H0, H1, H2, H3⟩
  have h := bodyProg_spec (U := UR sig nD τ) (st := before m c t Y acc mx (fun b => Bool.rec s0 s1 b) (fun b => Bool.rec b0 b1 b))
    (defs₀ (F := F)) c Set.univ (bufsAt t) (mask (F := F)) (hstage0_3 ((cfg0.slots t 3).cast nbuf0_3)) (grid0.coords t) (fun _ => bodyPost m c t Y)
  iapply h $$ [HA HX HS0 HS1 HB0 HB1 H0 H1 H2 H3]
  · unfold Held
    isplitl [H0]; · iexact H0
    isplitl [H1]; · iexact H1
    isplitl [H2]; · iexact H2
    isplitl [H3]; · iexact H3
    isplitl [HA]; · iexact HA
    isplitl [HX]; · iexact HX
    isplitl [HS0]; · iexact HS0
    isplitl [HS1]; · iexact HS1
    isplitl [HB0]; · iexact HB0
    iexact HB1
  unfold Held bodyPost Scratch
  rw [St.body_q, St.body_k, St.body_v]
  iintro ⟨H0, H1, H2, H3, HA, HX, HS0, HS1, HB0, HB1⟩
  isplitl [HA HX HS0 HS1 HB0 HB1 Hg]
  · isplitl [HA HX HS0 HS1 HB0 HB1]
    · isplitl [HA]; · iexists _; iexact HA
      isplitl [HX]; · iexists _; iexact HX
      isplitl [HS0]; · iexists _; iexact HS0
      isplitl [HS1]; · iexists _; iexact HS1
      isplitl [HB0]; · iexists _; iexact HB0
      iexists _; iexact HB1
    · iexact Hg
  isplitl [HO]; · iexact HO
  isplitl [H0]; · iexact H0
  isplitl [H1]; · iexact H1
  isplitl [H2]; · iexact H2
  iexists _
  isplitr
  · ipureintro
    exact ⟨acc, mx, fun b => Bool.rec s0 s1 b, fun b => Bool.rec b0 b1 b, rfl⟩
  · iexact H3

/-- The body table's row at the point is the body. -/
theorem defs₀_row (t : Fin cfg0.N) : defs₀ (F := F) .tc cfg0.body (cfg0.bodyArgs t (cfg0.slots t)) = bodyAt0 t := by
  unfold defs₀; rw [Defs.onTc_tc]

theorem leaves0 (c : Dev nD) (t : Fin cfg0.N) (Y) : (rdat m c).after 0 t Y (iblk m c 0 t) := rfl
theorem leaves1 (c : Dev nD) (t : Fin cfg0.N) (Y) : (rdat m c).after 1 t Y (iblk m c 1 t) := rfl
theorem leaves2 (c : Dev nD) (t : Fin cfg0.N) (Y) : (rdat m c).after 2 t Y (iblk m c 2 t) := rfl

theorem body_obligation (c : Dev nD) : (rdat m c).BodyObligation (defs₀ (F := F)) Variants.none () Set.univ := fun t Y hY => by
  rw [bigSep_W0, bigSep_W0, defs₀_row]
  refine triple_restated (sound_body m c t (Y 3)) rfl ?_ fun _ => ?_
  · rw [finds0 m c t _ (hY 0), finds1 m c t _ (hY 1), finds2 m c t _ (hY 2)]
    unfold bodyPre
    rw [← PhiA_eq]
    exact .rfl
  · unfold bodyPost
    rw [← PhiA_eq, show (rdat m c).Φ t.succ = Pipeline.ΦA spec0 c from rfl,
      show (rdat m c).owesAt () t.succ = (rdat m c).owesAt () t.castSucc from rfl]
    iintro ⟨HS, HO, H0, H1, H2, ⟨%X, %hX, H3⟩⟩
    isplitl [HS]; · iexact HS
    isplitl [HO]; · iexact HO
    isplitl [H0]
    · iexists _; isplitr
      · ipureintro; exact leaves0 m c t _
      · iexact H0
    isplitl [H1]
    · iexists _; isplitr
      · ipureintro; exact leaves1 m c t _
      · iexact H1
    isplitl [H2]
    · iexists _; isplitr
      · ipureintro; exact leaves2 m c t _
      · iexact H2
    iexists X; isplitr
    · ipureintro; exact hX
    · iexact H3

/-! ## The launch -/

set_option backward.isDefEq.respectTransparency.types false in
/-- Every weakly fair execution ends, with the inputs as launched and the result in the relation the points leave. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame cfgs (0 : Fin 1) launch0 defs₀ Variants.none (rdat m) m ρ main
    (body_obligation m) (fun c w => by fin_cases w <;> rfl) (fun _ _ => rfl) (V m) (hmain m Variants.none) (fun c w => rfl)
    (fun c t => rfl) (Q' := _) (hQ' := fun _ h => h)

/-- The arguments are as launched. -/
theorem args_of {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨h.arr_in c 0 rfl, h.arr_in c 1 rfl, h.arr_in c 2 rfl⟩

end Cert.KernelIdeal.Hand

end
-- ==== Proof.Pure.lean ====
/-
  The values of the kernel's steps, element by element, over the extended reals: a tile's scores are dot products, masked
  above the diagonal; a new maximum is the greater of two; new sums are the old ones rescaled plus the values weighted by
  powers of two; a result is a quotient.
-/
module

public import proofs.«01_k».proof.Proof.Steps
public import Idealize.ShloMosaic.Lib.Pointwise
public import Idealize.ShloMosaic.Lib.WordCmp

@[expose] public section

set_option synthInstance.maxSize 4096
set_option maxRecDepth 16384

noncomputable section

namespace Cert.Attn

open Cert.KernelIdeal Cert.KernelIdeal.Gen
open Idealize.ShloMosaic

/-- The word of −∞. -/
theorem ofBits_bot : Ideal.ofBits FTy.f32 0xFF800000#32 = ⊥ := by
  simp [Ideal.ofBits, Ideal.ieee]

/-- A choice by a comparison of two small numbers. -/
theorem select_sle {α : Type} {a b : ℕ} (ha : a < 8192) (hb : b < 8192) (x y : α) :
    Scalar.select (IntOp.cmpi .sle (BitVec.ofNat 32 a) (BitVec.ofNat 32 b)) x y = if a ≤ b then x else y := by
  rw [WordCmp.cmpi_sle_ofNat (by norm_num; omega) (by norm_num; omega)]
  by_cases h : a ≤ b <;> simp [h, Scalar.select]

theorem fullTile_apply (k : Vec Ideal S512x128 .bf16) (q : Vec Ideal S1x128x512 .bf16) (j c : Fin 512) :
    fullTile (F := Ideal) k q (ix2 j c) = ∑ e : Fin 128, k (ix2 j e) * q (ix3 0 e c) := by
  pointwise [fullTile]

theorem fullMax_apply (s : FVec Ideal S512x512 .f32) (c : Fin 512) :
    fullMax (F := Ideal) s (ix2 0 c) = Finset.univ.fold max ⊥ (fun j : Fin 512 => s (ix2 j c)) := by
  pointwise [fullMax]
  rw [ofBits_bot]

theorem topTile_apply (mask : EReal) (k : Vec Ideal S256x128 .bf16) (q : Vec Ideal S1x128x512 .bf16) (j : Fin 256) (c : Fin 512) :
    topTile (F := Ideal) mask k q (ix2 j c) = if j.val ≤ c.val then ∑ e : Fin 128, k (ix2 j e) * q (ix3 0 e c) else mask := by
  pointwise [topTile]
  rw [select_sle (by omega) (by omega)]

theorem lowTile_apply (mask : EReal) (k : Vec Ideal S256x128 .bf16) (q : Vec Ideal S1x128x512 .bf16) (j : Fin 256) (c : Fin 256) :
    lowTile (F := Ideal) mask k q (ix2 j c) = if j.val ≤ c.val then ∑ e : Fin 128, k (ix2 j e) * q (ix3 0 e ⟨256 + c.val, by omega⟩) else mask := by
  pointwise [lowTile]
  rw [select_sle (by omega) (by omega)]

theorem diagMax_apply (top : FVec Ideal S256x512 .f32) (low : FVec Ideal S256x256 .f32) (c : Fin 512) :
    diagMax (F := Ideal) top low (ix2 0 c) = if h : c.val < 256 then Finset.univ.fold max ⊥ (fun j : Fin 256 => top (ix2 j c))
      else max (Finset.univ.fold max ⊥ (fun j : Fin 256 => top (ix2 j c))) (Finset.univ.fold max ⊥ (fun j : Fin 256 => low (ix2 j ⟨c.val - 256, by omega⟩))) := by
  pointwise [diagMax]
  rw [ofBits_bot]
  split
  · rfl
  · rename_i h
    have e : (⟨256 + (c.val - 256), by omega⟩ : Fin 512) = c := Fin.ext (by show 256 + (c.val - 256) = c.val; omega)
    exact congrArg₂ max (congrArg (fun f => Finset.fold max ⊥ f Finset.univ) (funext fun j => congrArg top (congrArg (ix2 j) e))) rfl

theorem newMax_apply (m : Vec Ideal S1x1x512 .f32) (mb : Vec Ideal S1x512 .f32) (c : Fin 512) :
    newMax (F := Ideal) m mb (ix2 0 c) = max (m (ix3 0 0 c)) (mb (ix2 0 c)) := by
  pointwise [newMax]

theorem newAcc_apply (m : Vec Ideal S1x1x512 .f32) (mb : Vec Ideal S1x512 .f32) (s : Vec Ideal S1x512x512 .f32) (v : Vec Ideal S1x80x512 .bf16)
    (a : Vec Ideal S1x80x512 .f32) (r : Fin 80) (c : Fin 512) :
    newAcc (F := Ideal) m mb s v a (ix3 0 r c)
      = Ideal.exp2 (m (ix3 0 0 c) - max (m (ix3 0 0 c)) (mb (ix2 0 c))) * a (ix3 0 r c)
        + ∑ j : Fin 512, v (ix3 0 r j) * Ideal.exp2 (s (ix3 0 j c) - max (m (ix3 0 0 c)) (mb (ix2 0 c))) := by
  pointwise [newAcc, newMax]
  rfl

theorem outTile_apply (a0 : Vec Ideal S1x64x512 .f32) (l0 : Vec Ideal S1x1x512 .f32) (a1 : Vec Ideal S1x64x512 .f32) (l1 : Vec Ideal S1x1x512 .f32)
    (c : Fin 512) (d : Fin 128) :
    outTile (F := Ideal) a0 l0 a1 l1 (ix2 c d) = if h : d.val < 64 then Ideal.div (a0 (ix3 0 ⟨d.val, h⟩ c)) (l0 (ix3 0 0 c))
      else Ideal.div (a1 (ix3 0 ⟨d.val - 64, by omega⟩ c)) (l1 (ix3 0 0 c)) := by
  pointwise [outTile, quotient]

end Cert.Attn

end
-- ==== Proof.Windows.lean ====
/-
  A window of an array read at an index, and an array with a window written over read at an index inside or outside it, at
  ranks two and three.
-/
module

public import Idealize.ShloMosaic.Lib.VecWindow
public import Idealize.ShloMosaic.Lib.Pointwise

@[expose] public section

noncomputable section

namespace Cert.Attn

open Idealize.ShloMosaic

variable {α : Type}

section General

variable {s : Shape} (x : s.Idx → α) (off size : Fin s.rank → ℕ)

theorem window_at (inb : ∀ a, off a + size a ≤ s.size a) (y : (Rect.unit off size inb).shape.Idx) (z : s.Idx)
    (h : ∀ a, (z a).val = off a + (y a).val) : VecWindow.window x off size inb y = x z :=
  congrArg x (funext fun a => Fin.ext (by
    have e : ((Rect.unit off size inb).emb y a).val = off a + 1 * (y a).val := rfl
    rw [h, e, one_mul]))

theorem put_at_in (w : ((a : Fin s.rank) → Fin (size a)) → α) (z : s.Idx) (y : (a : Fin s.rank) → Fin (size a))
    (h : ∀ a, (z a).val = off a + (y a).val) : VecWindow.put x off size w z = w y := by
  have hin : ∀ a, off a ≤ (z a).val ∧ (z a).val < off a + size a := fun a => by
    have := h a; have := (y a).isLt; omega
  unfold VecWindow.put
  rw [dif_pos hin]
  exact congrArg w (funext fun a => Fin.ext (by
    show (z a).val - off a = (y a).val
    have := h a; omega))

theorem put_at_out (w : ((a : Fin s.rank) → Fin (size a)) → α) (z : s.Idx) (a : Fin s.rank)
    (h : (z a).val < off a ∨ off a + size a ≤ (z a).val) : VecWindow.put x off size w z = x z := by
  unfold VecWindow.put
  rw [dif_neg]
  intro hin
  have := hin a
  omega

end General

section Three

variable {n0 n1 n2 k0 k1 k2 : ℕ} (x : (⟨3, ![n0, n1, n2]⟩ : Shape).Idx → α) (o0 o1 o2 : ℕ)

theorem window3 (inb : ∀ a, (![o0, o1, o2] : Fin 3 → ℕ) a + (⟨3, ![k0, k1, k2]⟩ : Shape).size a ≤ (⟨3, ![n0, n1, n2]⟩ : Shape).size a)
    (a : Fin k0) (b : Fin k1) (c : Fin k2) (a' : Fin n0) (b' : Fin n1) (c' : Fin n2)
    (ha : a'.val = o0 + a.val) (hb : b'.val = o1 + b.val) (hc : c'.val = o2 + c.val) :
    VecWindow.window (s := ⟨3, ![n0, n1, n2]⟩) x ![o0, o1, o2] (⟨3, ![k0, k1, k2]⟩ : Shape).size inb (ix3 a b c) = x (ix3 a' b' c') :=
  window_at (s := ⟨3, ![n0, n1, n2]⟩) x _ _ inb _ _ fun i => by
    match i with
    | 0 => exact ha
    | 1 => exact hb
    | 2 => exact hc

theorem put3_in (w : (⟨3, ![k0, k1, k2]⟩ : Shape).Idx → α)
    (a : Fin k0) (b : Fin k1) (c : Fin k2) (a' : Fin n0) (b' : Fin n1) (c' : Fin n2)
    (ha : a'.val = o0 + a.val) (hb : b'.val = o1 + b.val) (hc : c'.val = o2 + c.val) :
    VecWindow.put (s := ⟨3, ![n0, n1, n2]⟩) x ![o0, o1, o2] (⟨3, ![k0, k1, k2]⟩ : Shape).size w (ix3 a' b' c') = w (ix3 a b c) :=
  put_at_in (s := ⟨3, ![n0, n1, n2]⟩) x _ _ w _ (ix3 a b c) fun i => by
    match i with
    | 0 => exact ha
    | 1 => exact hb
    | 2 => exact hc

theorem put3_out (w : (⟨3, ![k0, k1, k2]⟩ : Shape).Idx → α) (a' : Fin n0) (b' : Fin n1) (c' : Fin n2)
    (h : (a'.val < o0 ∨ o0 + k0 ≤ a'.val) ∨ (b'.val < o1 ∨ o1 + k1 ≤ b'.val) ∨ (c'.val < o2 ∨ o2 + k2 ≤ c'.val)) :
    VecWindow.put (s := ⟨3, ![n0, n1, n2]⟩) x ![o0, o1, o2] (⟨3, ![k0, k1, k2]⟩ : Shape).size w (ix3 a' b' c') = x (ix3 a' b' c') := by
  rcases h with h | h | h
  · exact put_at_out (s := ⟨3, ![n0, n1, n2]⟩) x _ _ w _ (0 : Fin 3) h
  · exact put_at_out (s := ⟨3, ![n0, n1, n2]⟩) x _ _ w _ (1 : Fin 3) h
  · exact put_at_out (s := ⟨3, ![n0, n1, n2]⟩) x _ _ w _ (2 : Fin 3) h

end Three

section Two

variable {n0 n1 k0 k1 : ℕ} (x : (⟨2, ![n0, n1]⟩ : Shape).Idx → α) (o0 o1 : ℕ)

theorem window2 (inb : ∀ a, (![o0, o1] : Fin 2 → ℕ) a + (⟨2, ![k0, k1]⟩ : Shape).size a ≤ (⟨2, ![n0, n1]⟩ : Shape).size a)
    (a : Fin k0) (b : Fin k1) (a' : Fin n0) (b' : Fin n1) (ha : a'.val = o0 + a.val) (hb : b'.val = o1 + b.val) :
    VecWindow.window (s := ⟨2, ![n0, n1]⟩) x ![o0, o1] (⟨2, ![k0, k1]⟩ : Shape).size inb (ix2 a b) = x (ix2 a' b') :=
  window_at (s := ⟨2, ![n0, n1]⟩) x _ _ inb _ _ fun i => by
    match i with
    | 0 => exact ha
    | 1 => exact hb

theorem put2_in (w : (⟨2, ![k0, k1]⟩ : Shape).Idx → α)
    (a : Fin k0) (b : Fin k1) (a' : Fin n0) (b' : Fin n1) (ha : a'.val = o0 + a.val) (hb : b'.val = o1 + b.val) :
    VecWindow.put (s := ⟨2, ![n0, n1]⟩) x ![o0, o1] (⟨2, ![k0, k1]⟩ : Shape).size w (ix2 a' b') = w (ix2 a b) :=
  put_at_in (s := ⟨2, ![n0, n1]⟩) x _ _ w _ (ix2 a b) fun i => by
    match i with
    | 0 => exact ha
    | 1 => exact hb

theorem put2_out (w : (⟨2, ![k0, k1]⟩ : Shape).Idx → α) (a' : Fin n0) (b' : Fin n1)
    (h : (a'.val < o0 ∨ o0 + k0 ≤ a'.val) ∨ (b'.val < o1 ∨ o1 + k1 ≤ b'.val)) :
    VecWindow.put (s := ⟨2, ![n0, n1]⟩) x ![o0, o1] (⟨2, ![k0, k1]⟩ : Shape).size w (ix2 a' b') = x (ix2 a' b') := by
  rcases h with h | h
  · exact put_at_out (s := ⟨2, ![n0, n1]⟩) x _ _ w _ (0 : Fin 2) h
  · exact put_at_out (s := ⟨2, ![n0, n1]⟩) x _ _ w _ (1 : Fin 2) h

end Two

end Cert.Attn

end
-- ==== Proof.Weights.lean ====
/-
  Sums of values weighted by powers of two, over the extended reals: a nonnegative real distributes over a sum, whatever
  its terms, and a maximum from below of finitely many reals is a real.
-/
module

public import Idealize.ShloMosaic.PureOps.Ideal
public import Idealize.ShloMosaic.PureOps.Ideal.Laws

@[expose] public section

noncomputable section

namespace Cert.Attn

open Idealize.ShloMosaic

/-- A nonnegative real distributes over a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A sum of products of reals is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real that is neither infinity is a real. -/
theorem exists_real {x : EReal} (h : x ≠ ⊤) (h' : x ≠ ⊥) : ∃ r : ℝ, x = r := ⟨x.toReal, (EReal.coe_toReal h h').symm⟩

/-- A maximum from −∞ of extended reals below ∞ is below ∞. -/
theorem fold_max_ne_top {ι : Type} [Fintype ι] (f : ι → EReal) (h : ∀ i, f i ≠ ⊤) : Finset.univ.fold max ⊥ f ≠ ⊤ := by
  classical
  have : ∀ s : Finset ι, s.fold max ⊥ f ≠ ⊤ := fun s => by
    induction s using Finset.induction_on with
    | empty => simp
    | insert a s ha ih =>
      rw [Finset.fold_insert ha]
      rcases max_choice (f a) (s.fold max ⊥ f) with e | e <;> rw [e]
      · exact h a
      · exact ih
  exact this _

/-- The maximum from −∞ of finitely many extended reals below ∞, one of them above −∞, is a real. -/
theorem fold_max_real {ι : Type} [Fintype ι] (f : ι → EReal) (h : ∀ i, f i ≠ ⊤) (i : ι) (hi : f i ≠ ⊥) :
    ∃ r : ℝ, Finset.univ.fold max ⊥ f = r := by
  refine exists_real (fold_max_ne_top f h) fun e => ?_
  have : f i ≤ Finset.univ.fold max ⊥ f := Finset.le_fold_max _ |>.mpr (.inr ⟨i, Finset.mem_univ i, le_rfl⟩)
  rw [e] at this
  exact hi (le_bot_iff.mp this)

/-- The greater of two reals is a real. -/
theorem max_real (a b : ℝ) : max (a : EReal) (b : EReal) = ((max a b : ℝ) : EReal) := (EReal.coe_strictMono.monotone.map_max).symm

/-- A power of two, of a difference of reals. -/
theorem exp2_sub (a b : ℝ) : Ideal.exp2 ((a : EReal) - (b : EReal)) = ((Real.rpow 2 (a - b) : ℝ) : EReal) := by
  rw [← EReal.coe_sub]; rfl

theorem exp2_bot_sub (b : ℝ) : Ideal.exp2 (⊥ - (b : EReal)) = 0 := by
  rw [EReal.bot_sub]; rfl

theorem pow2_mul (a b c : ℝ) : Real.rpow 2 (b - c) * Real.rpow 2 (a - b) = Real.rpow 2 (a - c) := by
  show (2 : ℝ) ^ (b - c) * (2 : ℝ) ^ (a - b) = (2 : ℝ) ^ (a - c)
  rw [← Real.rpow_add (by norm_num)]
  congr 1; ring

theorem pow2_pos (a : ℝ) : 0 < Real.rpow 2 a := Real.rpow_pos_of_pos (by norm_num) a

end Cert.Attn

end
-- ==== Proof.Tiles.lean ====
/-
  What a step of the kernel makes of the contents of its buffers, over the extended reals: scores of one key tile against
  one query tile in a buffer of scores (`Scored`), and a slot of running sums over the key tiles visited so far (`Slot`).
-/
module

public import proofs.«01_k».proof.Proof.Held
public import proofs.«01_k».proof.Proof.Pure
public import proofs.«01_k».proof.Proof.Windows
public import proofs.«01_k».proof.Proof.Weights

@[expose] public section

set_option synthInstance.maxSize 4096
set_option maxRecDepth 16384

noncomputable section

namespace Cert.Attn

open Cert.KernelIdeal Cert.KernelIdeal.Gen
open Idealize.ShloMosaic

/-! ## Positions in the blocks -/

/-- Key `j` of key tile `t`. -/
def keyRow (t : Fin 16) (j : Fin 512) : Fin 8192 := ⟨512 * t.val + j.val, by omega⟩
/-- Coordinate `e` of head `hh` of the pair. -/
def headCol (hh : Fin 2) (e : Fin 128) : Fin 256 := ⟨128 * hh.val + e.val, by omega⟩
/-- Row `r` of head `hh`'s values. -/
def valRow (hh : Fin 2) (r : Fin 80) : Fin 160 := ⟨80 * hh.val + r.val, by omega⟩
/-- Head `hh`'s row of eight. -/
def headRow (hh : Fin 2) : Fin 8 := ⟨hh.val, by omega⟩

/-! ## The scores and the sums -/

section Maths

variable (qr : S16x256x512.Idx → ℝ) (kr : S8192x256.Idx → ℝ) (v : S16x160x512.Idx → EReal)

/-- The score of key `j` of tile `kt` against query `c` of tile `qt`. -/
def score (hh : Fin 2) (kt qt : Fin 16) (j c : Fin 512) : ℝ :=
  ∑ e : Fin 128, kr (ix2 (keyRow kt j) (headCol hh e)) * qr (ix3 qt (headCol hh e) c)

/-- The score as a buffer holds it: on the diagonal (`mk`) −∞ where the key comes after the query. -/
def masked (mk : Bool) (hh : Fin 2) (kt qt : Fin 16) (j c : Fin 512) : EReal :=
  if mk = true ∧ c.val < j.val then ⊥ else (score qr kr hh kt qt j c : EReal)

/-- The weight of a key, relative to `μ`. -/
def weight (mk : Bool) (hh : Fin 2) (kt qt : Fin 16) (μ : ℝ) (j c : Fin 512) : EReal :=
  if mk = true ∧ c.val < j.val then 0 else (Real.rpow 2 (score qr kr hh kt qt j c - μ) : EReal)

/-- The values of a key tile, weighted and summed. -/
def tileSum (mk : Bool) (hh : Fin 2) (kt qt : Fin 16) (μ : ℝ) (r : Fin 80) (c : Fin 512) : EReal :=
  ∑ j : Fin 512, v (ix3 kt (valRow hh r) j) * weight qr kr mk hh kt qt μ j c

/-- The sums over the diagonal tile and the first `n` tiles. -/
def rowSum (n : ℕ) (hh : Fin 2) (qt : Fin 16) (μ : ℝ) (r : Fin 80) (c : Fin 512) : EReal :=
  tileSum qr kr v true hh qt qt μ r c + ∑ kt ∈ Finset.range n, tileSum qr kr v false hh (Fin.ofNat 16 kt) qt μ r c

theorem exp2_masked (mk : Bool) (hh : Fin 2) (kt qt : Fin 16) (μ : ℝ) (j c : Fin 512) :
    Ideal.exp2 (masked qr kr mk hh kt qt j c - (μ : EReal)) = weight qr kr mk hh kt qt μ j c := by
  unfold masked weight
  split
  · exact exp2_bot_sub μ
  · exact exp2_sub _ _

/-- A change of the reference point scales the weights by a power of two. -/
theorem scale_tileSum (mk : Bool) (hh : Fin 2) (kt qt : Fin 16) (μ μ' : ℝ) (r : Fin 80) (c : Fin 512) :
    (Real.rpow 2 (μ - μ') : EReal) * tileSum qr kr v mk hh kt qt μ r c = tileSum qr kr v mk hh kt qt μ' r c := by
  unfold tileSum
  rw [coe_mul_sum _ _ (pow2_pos _).le]
  refine Finset.sum_congr rfl fun j _ => ?_
  rw [mul_left_comm]
  congr 1
  unfold weight
  split
  · rw [mul_zero]
  · rw [← EReal.coe_mul, pow2_mul]

theorem scale_rowSum (n : ℕ) (hh : Fin 2) (qt : Fin 16) (μ μ' : ℝ) (r : Fin 80) (c : Fin 512) :
    (Real.rpow 2 (μ - μ') : EReal) * rowSum qr kr v n hh qt μ r c = rowSum qr kr v n hh qt μ' r c := by
  unfold rowSum
  rw [EReal.left_distrib_of_nonneg_of_ne_top (EReal.coe_nonneg.mpr (pow2_pos _).le) (EReal.coe_ne_top _),
    coe_mul_sum _ _ (pow2_pos _).le, scale_tileSum]
  simp only [scale_tileSum]

end Maths

/-! ## What the buffers hold -/

section Buffers

variable (qr : S16x256x512.Idx → ℝ) (kr : S8192x256.Idx → ℝ) (v : S16x160x512.Idx → EReal)

/-- The inputs, the queries and keys finite. -/
structure Reads (st : St Ideal) : Prop where
  q : st.q = fun i => ((qr i : ℝ) : EReal)
  k : st.k = fun i => ((kr i : ℝ) : EReal)
  v : st.v = v

/-- Buffer `b` holds head `hh`'s scores of key tile `kt` against query tile `qt`, and a real for each query's greatest. -/
def Scored (st : St Ideal) (b : Bool) (hh : Fin 2) (kt qt : Fin 16) (mk : Bool) : Prop :=
  (∀ j c : Fin 512, st.s b (ix3 hh j c) = masked qr kr mk hh kt qt j c)
    ∧ ∀ c : Fin 512, ∃ β : ℝ, st.mb b (ix2 (headRow hh) c) = (β : EReal)

/-- Slot `u` of head `hh` after `n` tiles: nothing, or the sums over the diagonal tile and the first `n - 1` tiles relative
to a real, which is the running maximum. -/
def Slot (st : St Ideal) (u : Fin 4) (hh : Fin 2) (qt : Fin 16) : ℕ → Prop
  | 0 => ∀ c : Fin 512, st.m (ix3 u (headRow hh) c) = (⊥ : EReal) ∧ ∀ r : Fin 80, st.acc (ix3 u (valRow hh r) c) = (0 : EReal)
  | n + 1 => ∀ c : Fin 512, ∃ μ : ℝ, st.m (ix3 u (headRow hh) c) = (μ : EReal)
      ∧ ∀ r : Fin 80, st.acc (ix3 u (valRow hh r) c) = rowSum qr kr v n hh qt μ r c

variable {qr kr v} {st : St Ideal} (hst : Reads qr kr v st)

include hst in
theorem window_q (qt : Fin 16) (hh : Fin 2) (h : ∀ a, (![qt.val, 128 * hh.val, 0] : Fin 3 → ℕ) a + S1x128x512.size a ≤ S16x256x512.size a)
    (e : Fin 128) (c : Fin 512) :
    VecWindow.window st.q ![qt.val, 128 * hh.val, 0] S1x128x512.size h (ix3 0 e c) = ((qr (ix3 qt (headCol hh e) c) : ℝ) : EReal) := by
  refine (window3 st.q _ _ _ h (0 : Fin 1) e c qt (headCol hh e) c rfl rfl (Nat.zero_add _).symm).trans ?_
  rw [hst.q]

/-- The scores of a tile, from its windows. -/
theorem dot_real (f g : Fin 128 → ℝ) : (∑ e : Fin 128, ((f e : ℝ) : EReal) * ((g e : ℝ) : EReal)) = ((∑ e, f e * g e : ℝ) : EReal) := by
  rw [← coe_sum]
  exact Finset.sum_congr rfl fun e _ => (EReal.coe_mul _ _).symm

section Full

variable (b : Bool) (hh : Fin 2) (kt qt : Fin 16) {oq : Fin 3 → ℕ} (hq : ∀ a, oq a + S1x128x512.size a ≤ S16x256x512.size a)
  {ok : Fin 2 → ℕ} (hk : ∀ a, ok a + S512x128.size a ≤ S8192x256.size a)
  (eq : oq = ![qt.val, 128 * hh.val, 0]) (ek : ok = ![512 * kt.val, 128 * hh.val])

include hst eq ek in
theorem fullTile_window (j c : Fin 512) :
    fullTile (F := Ideal) (VecWindow.window st.k ok S512x128.size hk) (VecWindow.window st.q oq S1x128x512.size hq) (ix2 j c)
      = (score qr kr hh kt qt j c : EReal) := by
  subst eq ek
  rw [fullTile_apply]
  unfold score
  rw [← dot_real]
  refine Finset.sum_congr rfl fun e _ => ?_
  rw [window_q hst qt hh hq e c]
  refine congrArg (· * _) ?_
  refine (window2 st.k _ _ hk j e (keyRow kt j) (headCol hh e) rfl rfl).trans ?_
  rw [hst.k]

include hst eq ek in
theorem full_scored : Scored qr kr (st.full b hh hq hk) b hh kt qt false := by
  constructor
  · intro j c
    show Function.update st.s b _ b (ix3 hh j c) = _
    rw [Function.update_self]
    refine (put3_in (st.s b) _ _ _ _ (0 : Fin 1) j c hh j c rfl (Nat.zero_add _).symm (Nat.zero_add _).symm).trans ?_
    have := fullTile_window hst hh kt qt hq hk eq ek j c
    unfold masked
    rw [if_neg (by simp)]
    rw [← this]
    pointwise
  · intro c
    show ∃ β : ℝ, Function.update st.mb b _ b (ix2 (headRow hh) c) = _
    rw [Function.update_self]
    simp only [fun w => put2_in (st.mb b) hh.val 0 (k0 := 1) (k1 := 512) w (0 : Fin 1) c (headRow hh) c rfl (Nat.zero_add _).symm]
    rw [fullMax_apply]
    refine fold_max_real _ (fun j => ?_) c ?_
    · rw [fullTile_window hst hh kt qt hq hk eq ek]; exact EReal.coe_ne_top _
    · rw [fullTile_window hst hh kt qt hq hk eq ek]; exact EReal.coe_ne_bot _

end Full

/-! ### A tile of the diagonal -/

section Diag

variable (b : Bool) (hh : Fin 2) (qt : Fin 16) {oq : Fin 3 → ℕ} (hq : ∀ a, oq a + S1x128x512.size a ≤ S16x256x512.size a)
  {ok : Fin 2 → ℕ} (hk : ∀ a, ok a + S256x128.size a ≤ S8192x256.size a)
  {ol : Fin 2 → ℕ} (hl : ∀ a, ol a + S256x128.size a ≤ S8192x256.size a)
  (eq : oq = ![qt.val, 128 * hh.val, 0]) (ek : ok = ![512 * qt.val, 128 * hh.val]) (el : ol = ![512 * qt.val + 256, 128 * hh.val])

include hst eq ek in
theorem topTile_window (j : Fin 256) (c : Fin 512) :
    topTile (F := Ideal) (⊥ : EReal) (VecWindow.window st.k ok S256x128.size hk) (VecWindow.window st.q oq S1x128x512.size hq) (ix2 j c)
      = masked qr kr true hh qt qt ⟨j.val, by omega⟩ c := by
  subst eq ek
  rw [topTile_apply]
  unfold masked
  by_cases h : j.val ≤ c.val
  · rw [if_pos h, if_neg (by simp; omega)]
    unfold score
    rw [← dot_real]
    refine Finset.sum_congr rfl fun e _ => ?_
    rw [window_q hst qt hh hq e c]
    refine congrArg (· * _) ?_
    refine (window2 st.k _ _ hk j e (keyRow qt ⟨j.val, by omega⟩) (headCol hh e) rfl rfl).trans ?_
    rw [hst.k]
  · rw [if_neg h, if_pos ⟨rfl, by show c.val < j.val; omega⟩]

include hst eq el in
theorem lowTile_window (j c : Fin 256) :
    lowTile (F := Ideal) (⊥ : EReal) (VecWindow.window st.k ol S256x128.size hl) (VecWindow.window st.q oq S1x128x512.size hq) (ix2 j c)
      = masked qr kr true hh qt qt ⟨256 + j.val, by omega⟩ ⟨256 + c.val, by omega⟩ := by
  subst eq el
  rw [lowTile_apply]
  unfold masked
  by_cases h : j.val ≤ c.val
  · rw [if_pos h, if_neg (by simp; omega)]
    unfold score
    rw [← dot_real]
    refine Finset.sum_congr rfl fun e _ => ?_
    rw [window_q hst qt hh hq e ⟨256 + c.val, by omega⟩]
    refine congrArg (· * _) ?_
    refine (window2 st.k _ _ hl j e (keyRow qt ⟨256 + j.val, by omega⟩) (headCol hh e) (by show 512 * qt.val + (256 + j.val) = _; omega) rfl).trans ?_
    rw [hst.k]
  · rw [if_neg h, if_pos ⟨rfl, by show 256 + c.val < 256 + j.val; omega⟩]

theorem masked_ne_top (mk : Bool) (kt : Fin 16) (j c : Fin 512) : masked qr kr mk hh kt qt j c ≠ ⊤ := by
  unfold masked
  split
  · exact bot_ne_top
  · exact EReal.coe_ne_top _

theorem masked_ne_bot (mk : Bool) (kt : Fin 16) (j c : Fin 512) (h : j.val ≤ c.val) : masked qr kr mk hh kt qt j c ≠ ⊥ := by
  unfold masked
  rw [if_neg (by simp; omega)]
  exact EReal.coe_ne_bot _

include hst eq ek el in
theorem diag_scored : Scored qr kr (st.diag (⊥ : EReal) b hh hq hk hl) b hh qt qt true := by
  constructor
  · intro j c
    show Function.update st.s b _ b (ix3 hh j c) = _
    rw [Function.update_self]
    by_cases hj : j.val < 256
    · refine (put3_out _ _ _ _ (k0 := 1) (k1 := 256) (k2 := 256) _ hh j c (.inr (.inl (.inl hj)))).trans ?_
      refine (put3_out _ _ _ _ (k0 := 1) (k1 := 256) (k2 := 256) _ hh j c (.inr (.inl (.inl hj)))).trans ?_
      refine (put3_in _ _ _ _ _ (0 : Fin 1) (⟨j.val, hj⟩ : Fin 256) c hh j c rfl (Nat.zero_add _).symm (Nat.zero_add _).symm).trans ?_
      have := topTile_window hst hh qt hq hk eq ek ⟨j.val, hj⟩ c
      refine Eq.trans ?_ this
      pointwise
    · by_cases hc : c.val < 256
      · refine (put3_out _ _ _ _ (k0 := 1) (k1 := 256) (k2 := 256) _ hh j c (.inr (.inr (.inl hc)))).trans ?_
        refine (put3_in _ _ _ _ _ (0 : Fin 1) (⟨j.val - 256, by omega⟩ : Fin 256) (⟨c.val, hc⟩ : Fin 256) hh j c rfl
          (by show j.val = 256 + (j.val - 256); omega) (Nat.zero_add _).symm).trans ?_
        unfold masked
        rw [if_pos ⟨rfl, by omega⟩]
        pointwise
      · refine (put3_in _ _ _ _ _ (0 : Fin 1) (⟨j.val - 256, by omega⟩ : Fin 256) (⟨c.val - 256, by omega⟩ : Fin 256) hh j c rfl
          (by show j.val = 256 + (j.val - 256); omega) (by show c.val = 256 + (c.val - 256); omega)).trans ?_
        have := lowTile_window hst hh qt hq hl eq el ⟨j.val - 256, by omega⟩ ⟨c.val - 256, by omega⟩
        have e1 : (⟨256 + (j.val - 256), by omega⟩ : Fin 512) = j := Fin.ext (by show 256 + (j.val - 256) = _; omega)
        have e2 : (⟨256 + (c.val - 256), by omega⟩ : Fin 512) = c := Fin.ext (by show 256 + (c.val - 256) = _; omega)
        simp only [e1, e2] at this
        refine Eq.trans ?_ this
        pointwise
  · intro c
    show ∃ β : ℝ, Function.update st.mb b _ b (ix2 (headRow hh) c) = _
    rw [Function.update_self]
    simp only [fun w => put2_in (st.mb b) hh.val 0 (k0 := 1) (k1 := 512) w (0 : Fin 1) c (headRow hh) c rfl (Nat.zero_add _).symm]
    rw [diagMax_apply]
    simp only [topTile_window hst hh qt hq hk eq ek, lowTile_window hst hh qt hq hl eq el]
    have top : ∃ r : ℝ, Finset.univ.fold max ⊥ (fun j : Fin 256 => masked qr kr true hh qt qt ⟨j.val, by omega⟩ c) = (r : EReal) :=
      fold_max_real _ (fun j => masked_ne_top _ _ _ _ _ _) 0 (masked_ne_bot _ _ _ _ _ _ (Nat.zero_le _))
    split
    · exact top
    · obtain ⟨r, hr⟩ := top
      have low : ∃ r : ℝ, Finset.univ.fold max ⊥ (fun j : Fin 256 => masked qr kr true hh qt qt ⟨256 + j.val, by omega⟩ ⟨256 + (c.val - 256), by omega⟩) = (r : EReal) :=
        fold_max_real _ (fun j => masked_ne_top _ _ _ _ _ _) 0 (masked_ne_bot _ _ _ _ _ _ (by show 256 + 0 ≤ 256 + (c.val - 256); omega))
      obtain ⟨r', hr'⟩ := low
      exact ⟨max r r', by rw [hr, hr', max_real]⟩

end Diag

/-! ### An update of a slot -/

section Update

variable (b : Bool) (hh : Fin 2) (u : Fin 4) (kt qt : Fin 16) {om : Fin 3 → ℕ} (hm : ∀ a, om a + S1x1x512.size a ≤ S4x8x512.size a)
  {ov : Fin 3 → ℕ} (hv : ∀ a, ov a + S1x80x512.size a ≤ S16x160x512.size a)
  {oa : Fin 3 → ℕ} (ha : ∀ a, oa a + S1x80x512.size a ≤ S4x160x512.size a)
  (em : om = ![u.val, hh.val, 0]) (ev : ov = ![kt.val, 80 * hh.val, 0]) (ea : oa = ![u.val, 80 * hh.val, 0])

include em in
theorem update_m_apply (c : Fin 512) : (st.update b hh hm hv ha).m (ix3 u (headRow hh) c)
    = max (st.m (ix3 u (headRow hh) c) : EReal) (st.mb b (ix2 (headRow hh) c)) := by
  subst em
  refine (put3_in st.m _ _ _ _ (0 : Fin 1) (0 : Fin 1) c u (headRow hh) c rfl rfl (Nat.zero_add _).symm).trans ?_
  have h1 := window3 st.m _ _ _ hm (0 : Fin 1) (0 : Fin 1) c u (headRow hh) c rfl rfl (Nat.zero_add _).symm
  have h2 := window2 (st.mb b) _ _ (inb_mb hh) (0 : Fin 1) c (headRow hh) c rfl (Nat.zero_add _).symm
  refine Eq.trans ?_ ((newMax_apply _ _ c).trans (congrArg₂ max h1 h2))
  pointwise

include hst em ev ea in
theorem update_acc_apply (r : Fin 80) (c : Fin 512) : (st.update b hh hm hv ha).acc (ix3 u (valRow hh r) c)
    = Ideal.exp2 (st.m (ix3 u (headRow hh) c) - max (st.m (ix3 u (headRow hh) c) : EReal) (st.mb b (ix2 (headRow hh) c)))
        * st.acc (ix3 u (valRow hh r) c)
      + ∑ j : Fin 512, v (ix3 kt (valRow hh r) j)
          * Ideal.exp2 (st.s b (ix3 hh j c) - max (st.m (ix3 u (headRow hh) c) : EReal) (st.mb b (ix2 (headRow hh) c))) := by
  subst em ev ea
  refine (put3_in st.acc _ _ _ _ (0 : Fin 1) r c u (valRow hh r) c rfl rfl (Nat.zero_add _).symm).trans ?_
  have h1 := window3 st.m _ _ _ hm (0 : Fin 1) (0 : Fin 1) c u (headRow hh) c rfl rfl (Nat.zero_add _).symm
  have h2 := window2 (st.mb b) _ _ (inb_mb hh) (0 : Fin 1) c (headRow hh) c rfl (Nat.zero_add _).symm
  have h3 := fun j : Fin 512 => window3 (st.s b) _ _ _ (inb_s hh) (0 : Fin 1) j c hh j c rfl (Nat.zero_add _).symm (Nat.zero_add _).symm
  have h4 := fun j : Fin 512 => window3 st.v _ _ _ hv (0 : Fin 1) r j kt (valRow hh r) j rfl rfl (Nat.zero_add _).symm
  have h5 := window3 st.acc _ _ _ ha (0 : Fin 1) r c u (valRow hh r) c rfl rfl (Nat.zero_add _).symm
  rw [hst.v] at h4
  refine (newAcc_apply _ _ _ _ _ r c).trans ?_
  exact congrArg₂ (· + ·) (congrArg₂ (fun x y => Ideal.exp2 x * y) (congrArg₂ (fun x y : EReal => x - max x y) h1 h2) h5)
    (Finset.sum_congr rfl fun j _ => congrArg₂ (fun x y : EReal => x * Ideal.exp2 y) (by rw [← h4 j, hst.v])
      (congrArg₂ (fun x y : EReal => x - y) (h3 j) (congrArg₂ max h1 h2)))

include hst em ev ea in
/-- The first tile of a slot, the diagonal's. -/
theorem update_first (e : kt = qt) (hs : Scored qr kr st b hh kt qt true) (hu : Slot qr kr v st u hh qt 0) :
    Slot qr kr v (st.update b hh hm hv ha) u hh qt 1 := by
  subst e
  intro c
  obtain ⟨β, hβ⟩ := hs.2 c
  obtain ⟨h0, h1⟩ := hu c
  refine ⟨β, ?_, fun r => ?_⟩
  · rw [update_m_apply b hh u hm hv ha em c, h0, hβ, max_eq_right bot_le]
  · rw [update_acc_apply hst b hh u kt hm hv ha em ev ea r c, h0, h1, hβ, max_eq_right bot_le, mul_zero, zero_add]
    unfold rowSum tileSum
    rw [Finset.sum_range_zero, add_zero]
    refine Finset.sum_congr rfl fun j _ => ?_
    rw [hs.1 j c, exp2_masked]

include hst em ev ea in
/-- A further tile of a slot. -/
theorem update_next (n : ℕ) (e : kt = Fin.ofNat 16 n) (hs : Scored qr kr st b hh kt qt false) (hu : Slot qr kr v st u hh qt (n + 1)) :
    Slot qr kr v (st.update b hh hm hv ha) u hh qt (n + 2) := by
  intro c
  obtain ⟨β, hβ⟩ := hs.2 c
  obtain ⟨μ, h0, h1⟩ := hu c
  refine ⟨max μ β, ?_, fun r => ?_⟩
  · rw [update_m_apply b hh u hm hv ha em c, h0, hβ, max_real]
  · rw [update_acc_apply hst b hh u kt hm hv ha em ev ea r c, h0, h1, hβ, max_real, exp2_sub, scale_rowSum]
    unfold rowSum
    rw [Finset.sum_range_succ, ← add_assoc, ← e]
    refine congrArg _ ?_
    unfold tileSum
    refine Finset.sum_congr rfl fun j _ => ?_
    rw [hs.1 j c, exp2_masked]

end Update

end Buffers

end Cert.Attn

end
-- ==== Proof.Schedule.lean ====
/-
  The order in which a grid point of the kernel visits its tiles. A point has four slots, each for one tile of queries, and
  takes 34 positions: first the tile of each slot's diagonal, then the key tiles before the diagonal, slot after slot.
  `slotAt`, `tileAt` and `keyAt` say which slot, query tile and key tile a position has; the rest says that the addresses the
  program computes are the ones of these tiles.
-/
module

public import proofs.«01_k».proof.Proof.Gen.KernelIdeal

@[expose] public section

set_option synthInstance.maxSize 4096
set_option maxRecDepth 16384

namespace Cert.Attn

open Cert.KernelIdeal Cert.KernelIdeal.Gen
open Idealize.ShloMosaic

/-- The slot of position `p`, at the `n`-th group of query tiles. -/
def slotAt (n p : ℕ) : Fin 4 :=
  if p < 4 then Fin.ofNat 4 p
  else Fin.ofNat 4 ((if 2 * n ≤ p - 4 then 1 else 0) + (if 15 ≤ p - 4 then 1 else 0) + (if 2 * n + 16 ≤ p - 4 then 1 else 0))

/-- The query tile of slot `u`. -/
def tileAt (n : ℕ) (u : Fin 4) : Fin 16 :=
  Fin.ofNat 16 (match u with | 0 => 2 * n | 1 => 15 - 2 * n | 2 => 2 * n + 1 | 3 => 14 - 2 * n)

/-- The key tile of position `p`. -/
def keyAt (n p : ℕ) : Fin 16 :=
  if p < 4 then tileAt n (slotAt n p)
  else Fin.ofNat 16 (p - 4 - (match slotAt n p with | 0 => 0 | 1 => 2 * n | 2 => 15 | 3 => 2 * n + 16))

/-- How many of the first `p` positions are of slot `u`. -/
def cntAt (n : ℕ) : ℕ → Fin 4 → ℕ
  | 0, _ => 0
  | p + 1, u => cntAt n p u + if slotAt n p = u then 1 else 0

/-- The first four positions are the first of their slots. -/
theorem cntAt_first : ∀ (n p : Fin 4), cntAt n.val p.val (slotAt n.val p.val) = 0 := by decide +kernel

/-- From the fifth on a slot takes its key tiles in order. -/
theorem cntAt_next : ∀ (n : Fin 4) (p : Fin 34), 4 ≤ p.val → cntAt n.val p.val (slotAt n.val p.val) = (keyAt n.val p.val).val + 1 := by decide +kernel

/-- At the end a slot has had its diagonal tile and every tile before it. -/
theorem cntAt_all : ∀ (n u : Fin 4), cntAt n.val 34 u = (tileAt n.val u).val + 1 := by decide +kernel

theorem third_lt : ∀ i : grid0.Coords, (i 2).val < 4 := by decide +kernel

/-! ## The addresses -/

theorem at1 : ∀ i : grid0.Coords, k0_off1 i = ![(tileAt (i 2).val (slotAt (i 2).val (0))).val, 128 * (0 : Fin 2).val, 0] := by decide +kernel
theorem at2 : ∀ i : grid0.Coords, k0_off2 i = ![512 * (keyAt (i 2).val (0)).val, 128 * (0 : Fin 2).val] := by decide +kernel
theorem at3 : ∀ i : grid0.Coords, k0_off3 i = ![512 * (keyAt (i 2).val (0)).val + 256, 128 * (0 : Fin 2).val] := by decide +kernel
theorem at4 : ∀ i : grid0.Coords, k0_off4 i = ![(tileAt (i 2).val (slotAt (i 2).val (0))).val, 128 * (1 : Fin 2).val, 0] := by decide +kernel
theorem at5 : ∀ i : grid0.Coords, k0_off5 i = ![512 * (keyAt (i 2).val (0)).val, 128 * (1 : Fin 2).val] := by decide +kernel
theorem at6 : ∀ i : grid0.Coords, k0_off6 i = ![512 * (keyAt (i 2).val (0)).val + 256, 128 * (1 : Fin 2).val] := by decide +kernel
theorem at7 : ∀ i : grid0.Coords, ∀ (r : Fin 2), k0_off7 i (BitVec.ofNat 32 (14 + r.val)) = ![(tileAt (i 2).val (slotAt (i 2).val (3 - 2 * r.val))).val, 128 * (0 : Fin 2).val, 0] := by decide +kernel
theorem at8 : ∀ i : grid0.Coords, ∀ (r : Fin 2), k0_off8 i (BitVec.ofNat 32 (14 + r.val)) = ![512 * (keyAt (i 2).val (3 - 2 * r.val)).val, 128 * (0 : Fin 2).val] := by decide +kernel
theorem at9 : ∀ i : grid0.Coords, ∀ (r : Fin 2), k0_off9 i (BitVec.ofNat 32 (14 + r.val)) = ![512 * (keyAt (i 2).val (3 - 2 * r.val)).val + 256, 128 * (0 : Fin 2).val] := by decide +kernel
theorem at10 : ∀ i : grid0.Coords, ∀ (r : Fin 2), k0_off10 i (BitVec.ofNat 32 (14 + r.val)) = ![(tileAt (i 2).val (slotAt (i 2).val (3 - 2 * r.val))).val, 128 * (1 : Fin 2).val, 0] := by decide +kernel
theorem at11 : ∀ i : grid0.Coords, ∀ (r : Fin 2), k0_off11 i (BitVec.ofNat 32 (14 + r.val)) = ![512 * (keyAt (i 2).val (3 - 2 * r.val)).val, 128 * (1 : Fin 2).val] := by decide +kernel
theorem at12 : ∀ i : grid0.Coords, ∀ (r : Fin 2), k0_off12 i (BitVec.ofNat 32 (14 + r.val)) = ![512 * (keyAt (i 2).val (3 - 2 * r.val)).val + 256, 128 * (1 : Fin 2).val] := by decide +kernel
theorem at15 : ∀ i : grid0.Coords, k0_off15 i = ![(tileAt (i 2).val (slotAt (i 2).val (2))).val, 128 * (0 : Fin 2).val, 0] := by decide +kernel
theorem at16 : ∀ i : grid0.Coords, k0_off16 i = ![512 * (keyAt (i 2).val (2)).val, 128 * (0 : Fin 2).val] := by decide +kernel
theorem at17 : ∀ i : grid0.Coords, k0_off17 i = ![512 * (keyAt (i 2).val (2)).val + 256, 128 * (0 : Fin 2).val] := by decide +kernel
theorem at18 : ∀ i : grid0.Coords, k0_off18 i = ![(tileAt (i 2).val (slotAt (i 2).val (2))).val, 128 * (1 : Fin 2).val, 0] := by decide +kernel
theorem at19 : ∀ i : grid0.Coords, k0_off19 i = ![512 * (keyAt (i 2).val (2)).val, 128 * (1 : Fin 2).val] := by decide +kernel
theorem at20 : ∀ i : grid0.Coords, k0_off20 i = ![512 * (keyAt (i 2).val (2)).val + 256, 128 * (1 : Fin 2).val] := by decide +kernel
theorem at13 : ∀ i : grid0.Coords, k0_off13 i = ![(keyAt (i 2).val (0)).val, 80 * (0 : Fin 2).val, 0] := by decide +kernel
theorem at14 : ∀ i : grid0.Coords, k0_off14 i = ![(keyAt (i 2).val (0)).val, 80 * (1 : Fin 2).val, 0] := by decide +kernel
theorem at21 : ∀ i : grid0.Coords, ∀ (r : Fin 2), k0_off21 i (BitVec.ofNat 32 (14 + r.val)) = ![(keyAt (i 2).val (3 - 2 * r.val)).val, 80 * (0 : Fin 2).val, 0] := by decide +kernel
theorem at22 : ∀ i : grid0.Coords, ∀ (r : Fin 2), k0_off22 i (BitVec.ofNat 32 (14 + r.val)) = ![(keyAt (i 2).val (3 - 2 * r.val)).val, 80 * (1 : Fin 2).val, 0] := by decide +kernel
theorem at23 : ∀ i : grid0.Coords, k0_off23 i = ![(keyAt (i 2).val (2)).val, 80 * (0 : Fin 2).val, 0] := by decide +kernel
theorem at24 : ∀ i : grid0.Coords, k0_off24 i = ![(keyAt (i 2).val (2)).val, 80 * (1 : Fin 2).val, 0] := by decide +kernel
theorem at25 : ∀ i : grid0.Coords, ∀ (r : Fin 2), k0_off25 i (k0_off25_at r).1 (k0_off25_at r).2.1 (k0_off25_at r).2.2 = ![(tileAt (i 2).val (slotAt (i 2).val (4 + 29 * r.val))).val, 128 * (0 : Fin 2).val, 0] := by decide +kernel
theorem at26 : ∀ i : grid0.Coords, ∀ (r : Fin 2), k0_off26 i (k0_off26_at r).1 (k0_off26_at r).2.1 (k0_off26_at r).2.2.1 (k0_off26_at r).2.2.2 = ![512 * (keyAt (i 2).val (4 + 29 * r.val)).val, 128 * (0 : Fin 2).val] := by decide +kernel
theorem at27 : ∀ i : grid0.Coords, ∀ (r : Fin 2), k0_off27 i (k0_off27_at r).1 (k0_off27_at r).2.1 (k0_off27_at r).2.2 = ![(tileAt (i 2).val (slotAt (i 2).val (4 + 29 * r.val))).val, 128 * (1 : Fin 2).val, 0] := by decide +kernel
theorem at28 : ∀ i : grid0.Coords, ∀ (r : Fin 2), k0_off28 i (k0_off28_at r).1 (k0_off28_at r).2.1 (k0_off28_at r).2.2.1 (k0_off28_at r).2.2.2 = ![512 * (keyAt (i 2).val (4 + 29 * r.val)).val, 128 * (1 : Fin 2).val] := by decide +kernel
theorem at29 : ∀ (i : grid0.Coords) (k0_t1 : Fin k0_t1_loop.trips), ∀ (r₁ : Fin 7) (r₂ : Fin 2), k0_off29 i k0_t1 (BitVec.ofNat 32 r₁.val) (BitVec.ofNat 32 (1 + r₂.val)) = ![(tileAt (i 2).val (slotAt (i 2).val (14 * k0_t1.val + 2 * r₁.val + r₂.val + 5))).val, 128 * (0 : Fin 2).val, 0] := by decide +kernel
theorem at30 : ∀ (i : grid0.Coords) (k0_t1 : Fin k0_t1_loop.trips), ∀ (r₁ : Fin 7) (r₂ : Fin 2), k0_off30 i k0_t1 (BitVec.ofNat 32 r₁.val) (BitVec.ofNat 32 (1 + r₂.val)) = ![512 * (keyAt (i 2).val (14 * k0_t1.val + 2 * r₁.val + r₂.val + 5)).val, 128 * (0 : Fin 2).val] := by decide +kernel
theorem at31 : ∀ (i : grid0.Coords) (k0_t1 : Fin k0_t1_loop.trips), ∀ (r₁ : Fin 7) (r₂ : Fin 2), k0_off31 i k0_t1 (BitVec.ofNat 32 r₁.val) (BitVec.ofNat 32 (1 + r₂.val)) = ![(tileAt (i 2).val (slotAt (i 2).val (14 * k0_t1.val + 2 * r₁.val + r₂.val + 5))).val, 128 * (1 : Fin 2).val, 0] := by decide +kernel
theorem at32 : ∀ (i : grid0.Coords) (k0_t1 : Fin k0_t1_loop.trips), ∀ (r₁ : Fin 7) (r₂ : Fin 2), k0_off32 i k0_t1 (BitVec.ofNat 32 r₁.val) (BitVec.ofNat 32 (1 + r₂.val)) = ![512 * (keyAt (i 2).val (14 * k0_t1.val + 2 * r₁.val + r₂.val + 5)).val, 128 * (1 : Fin 2).val] := by decide +kernel
theorem at33 : ∀ (i : grid0.Coords) (k0_t1 : Fin k0_t1_loop.trips), ∀ (r : Fin 7), k0_off33 i k0_t1 (BitVec.ofNat 32 r.val) = ![(slotAt (i 2).val (14 * k0_t1.val + 2 * r.val + 4)).val, (0 : Fin 2).val, 0] := by decide +kernel
theorem at34 : ∀ (i : grid0.Coords) (k0_t1 : Fin k0_t1_loop.trips), ∀ (r : Fin 7), k0_off34 i k0_t1 (BitVec.ofNat 32 r.val) = ![(keyAt (i 2).val (14 * k0_t1.val + 2 * r.val + 4)).val, 80 * (0 : Fin 2).val, 0] := by decide +kernel
theorem at35 : ∀ (i : grid0.Coords) (k0_t1 : Fin k0_t1_loop.trips), ∀ (r : Fin 7), k0_off35 i k0_t1 (BitVec.ofNat 32 r.val) = ![(slotAt (i 2).val (14 * k0_t1.val + 2 * r.val + 4)).val, 80 * (0 : Fin 2).val, 0] := by decide +kernel
theorem at36 : ∀ (i : grid0.Coords) (k0_t1 : Fin k0_t1_loop.trips), ∀ (r : Fin 7), k0_off36 i k0_t1 (BitVec.ofNat 32 r.val) = ![(slotAt (i 2).val (14 * k0_t1.val + 2 * r.val + 4)).val, (1 : Fin 2).val, 0] := by decide +kernel
theorem at37 : ∀ (i : grid0.Coords) (k0_t1 : Fin k0_t1_loop.trips), ∀ (r : Fin 7), k0_off37 i k0_t1 (BitVec.ofNat 32 r.val) = ![(keyAt (i 2).val (14 * k0_t1.val + 2 * r.val + 4)).val, 80 * (1 : Fin 2).val, 0] := by decide +kernel
theorem at38 : ∀ (i : grid0.Coords) (k0_t1 : Fin k0_t1_loop.trips), ∀ (r : Fin 7), k0_off38 i k0_t1 (BitVec.ofNat 32 r.val) = ![(slotAt (i 2).val (14 * k0_t1.val + 2 * r.val + 4)).val, 80 * (1 : Fin 2).val, 0] := by decide +kernel
theorem at39 : ∀ (i : grid0.Coords) (k0_t1 : Fin k0_t1_loop.trips), ∀ (r : Fin 7), k0_off39 i k0_t1 (BitVec.ofNat 32 r.val) = ![(slotAt (i 2).val (14 * k0_t1.val + 2 * r.val + 5)).val, (0 : Fin 2).val, 0] := by decide +kernel
theorem at40 : ∀ (i : grid0.Coords) (k0_t1 : Fin k0_t1_loop.trips), ∀ (r : Fin 7), k0_off40 i k0_t1 (BitVec.ofNat 32 r.val) = ![(keyAt (i 2).val (14 * k0_t1.val + 2 * r.val + 5)).val, 80 * (0 : Fin 2).val, 0] := by decide +kernel
theorem at41 : ∀ (i : grid0.Coords) (k0_t1 : Fin k0_t1_loop.trips), ∀ (r : Fin 7), k0_off41 i k0_t1 (BitVec.ofNat 32 r.val) = ![(slotAt (i 2).val (14 * k0_t1.val + 2 * r.val + 5)).val, 80 * (0 : Fin 2).val, 0] := by decide +kernel
theorem at42 : ∀ (i : grid0.Coords) (k0_t1 : Fin k0_t1_loop.trips), ∀ (r : Fin 7), k0_off42 i k0_t1 (BitVec.ofNat 32 r.val) = ![(slotAt (i 2).val (14 * k0_t1.val + 2 * r.val + 5)).val, (1 : Fin 2).val, 0] := by decide +kernel
theorem at43 : ∀ (i : grid0.Coords) (k0_t1 : Fin k0_t1_loop.trips), ∀ (r : Fin 7), k0_off43 i k0_t1 (BitVec.ofNat 32 r.val) = ![(keyAt (i 2).val (14 * k0_t1.val + 2 * r.val + 5)).val, 80 * (1 : Fin 2).val, 0] := by decide +kernel
theorem at44 : ∀ (i : grid0.Coords) (k0_t1 : Fin k0_t1_loop.trips), ∀ (r : Fin 7), k0_off44 i k0_t1 (BitVec.ofNat 32 r.val) = ![(slotAt (i 2).val (14 * k0_t1.val + 2 * r.val + 5)).val, 80 * (1 : Fin 2).val, 0] := by decide +kernel
theorem at45 : ∀ i : grid0.Coords, ∀ (r : Fin 2), k0_off45 i (k0_off45_at r).1 (k0_off45_at r).2.1 (k0_off45_at r).2.2 = ![(slotAt (i 2).val (32 + r.val)).val, (0 : Fin 2).val, 0] := by decide +kernel
theorem at46 : ∀ i : grid0.Coords, ∀ (r : Fin 2), k0_off46 i (k0_off46_at r).1 (k0_off46_at r).2.1 (k0_off46_at r).2.2.1 (k0_off46_at r).2.2.2 = ![(keyAt (i 2).val (32 + r.val)).val, 80 * (0 : Fin 2).val, 0] := by decide +kernel
theorem at47 : ∀ i : grid0.Coords, ∀ (r : Fin 2), k0_off47 i (k0_off47_at r).1 (k0_off47_at r).2.1 (k0_off47_at r).2.2 = ![(slotAt (i 2).val (32 + r.val)).val, 80 * (0 : Fin 2).val, 0] := by decide +kernel
theorem at48 : ∀ i : grid0.Coords, ∀ (r : Fin 2), k0_off48 i (k0_off48_at r).1 (k0_off48_at r).2.1 (k0_off48_at r).2.2 = ![(slotAt (i 2).val (32 + r.val)).val, (1 : Fin 2).val, 0] := by decide +kernel
theorem at49 : ∀ i : grid0.Coords, ∀ (r : Fin 2), k0_off49 i (k0_off49_at r).1 (k0_off49_at r).2.1 (k0_off49_at r).2.2.1 (k0_off49_at r).2.2.2 = ![(keyAt (i 2).val (32 + r.val)).val, 80 * (1 : Fin 2).val, 0] := by decide +kernel
theorem at50 : ∀ i : grid0.Coords, ∀ (r : Fin 2), k0_off50 i (k0_off50_at r).1 (k0_off50_at r).2.1 (k0_off50_at r).2.2 = ![(slotAt (i 2).val (32 + r.val)).val, 80 * (1 : Fin 2).val, 0] := by decide +kernel
theorem at51 : ∀ i : grid0.Coords, k0_off51 i = ![512 * (tileAt (i 2).val 0).val, 0] := by decide +kernel
theorem at52 : ∀ i : grid0.Coords, ∀ (r : Fin 2), k0_off52 i (BitVec.ofNat 32 (14 + r.val)) = ![512 * (tileAt (i 2).val (Fin.ofNat 4 (3 - 2 * r.val))).val, 0] := by decide +kernel
theorem at53 : ∀ i : grid0.Coords, k0_off53 i = ![512 * (tileAt (i 2).val 2).val, 0] := by decide +kernel

end Cert.Attn

end
-- ==== Proof.Walk.lean ====
/-
  A grid point's walk over its tiles, over the extended reals: before position `p` every slot holds the sums over the tiles
  it has had (`Inv`), and the scores of the position are in the buffer of its parity (`Mid`).
-/
module

public import proofs.«01_k».proof.Proof.Tiles
public import proofs.«01_k».proof.Proof.Schedule

@[expose] public section

set_option synthInstance.maxSize 4096
set_option maxRecDepth 16384

noncomputable section

namespace Cert.Attn

open Cert.KernelIdeal Cert.KernelIdeal.Gen
open Idealize.ShloMosaic

variable {qr : S16x256x512.Idx → ℝ} {kr : S8192x256.Idx → ℝ} {v : S16x160x512.Idx → EReal} {st : St Ideal}

/-! ## What a step leaves as it was -/

section Keep

variable (b : Bool) (hh : Fin 2) {oq : Fin 3 → ℕ} (hq : ∀ a, oq a + S1x128x512.size a ≤ S16x256x512.size a)
  {ok : Fin 2 → ℕ} (hk : ∀ a, ok a + S512x128.size a ≤ S8192x256.size a)
  {od : Fin 2 → ℕ} (hd : ∀ a, od a + S256x128.size a ≤ S8192x256.size a)
  {ol : Fin 2 → ℕ} (hl : ∀ a, ol a + S256x128.size a ≤ S8192x256.size a)
  (u : Fin 4) {om : Fin 3 → ℕ} (hm : ∀ a, om a + S1x1x512.size a ≤ S4x8x512.size a)
  {ov : Fin 3 → ℕ} (hv : ∀ a, ov a + S1x80x512.size a ≤ S16x160x512.size a)
  {oa : Fin 3 → ℕ} (ha : ∀ a, oa a + S1x80x512.size a ≤ S4x160x512.size a)

theorem full_reads (h : Reads qr kr v st) : Reads qr kr v (st.full b hh hq hk) := ⟨h.q, h.k, h.v⟩
theorem diag_reads (mask : EReal) (h : Reads qr kr v st) : Reads qr kr v (st.diag (F := Ideal) mask b hh hq hd hl) := ⟨h.q, h.k, h.v⟩
theorem update_reads (h : Reads qr kr v st) : Reads qr kr v (st.update b hh hm hv ha) := ⟨h.q, h.k, h.v⟩

theorem full_slot {u : Fin 4} {hh' : Fin 2} {qt : Fin 16} {n : ℕ} (h : Slot qr kr v st u hh' qt n) :
    Slot qr kr v (st.full b hh hq hk) u hh' qt n := by
  cases n <;> exact h
theorem diag_slot (mask : EReal) {u : Fin 4} {hh' : Fin 2} {qt : Fin 16} {n : ℕ} (h : Slot qr kr v st u hh' qt n) :
    Slot qr kr v (st.diag (F := Ideal) mask b hh hq hd hl) u hh' qt n := by
  cases n <;> exact h
theorem update_scored {b' : Bool} {hh' : Fin 2} {kt qt : Fin 16} {mk : Bool} (h : Scored qr kr st b' hh' kt qt mk) :
    Scored qr kr (st.update b hh hm hv ha) b' hh' kt qt mk := h

theorem full_scored_keep {b' : Bool} {hh' : Fin 2} {kt qt : Fin 16} {mk : Bool} (ne : b' ≠ b ∨ hh' ≠ hh)
    (h : Scored qr kr st b' hh' kt qt mk) : Scored qr kr (st.full b hh hq hk) b' hh' kt qt mk := by
  have hs : ∀ j c : Fin 512, (st.full b hh hq hk).s b' (ix3 hh' j c) = st.s b' (ix3 hh' j c) := fun j c => by
    show Function.update st.s b _ b' _ = _
    by_cases e : b' = b
    · subst e
      rw [Function.update_self]
      refine put3_out _ _ _ _ (k0 := 1) (k1 := 512) (k2 := 512) _ hh' j c (.inl ?_)
      have : hh'.val ≠ hh.val := fun h => (ne.resolve_left (fun h => h rfl)) (Fin.ext h)
      omega
    · rw [Function.update_of_ne e]
  have hb : ∀ c : Fin 512, (st.full b hh hq hk).mb b' (ix2 (headRow hh') c) = st.mb b' (ix2 (headRow hh') c) := fun c => by
    show Function.update st.mb b _ b' _ = _
    by_cases e : b' = b
    · subst e
      rw [Function.update_self]
      refine put2_out _ _ _ (k0 := 1) (k1 := 512) _ (headRow hh') c (.inl ?_)
      have : hh'.val ≠ hh.val := fun h => (ne.resolve_left (fun h => h rfl)) (Fin.ext h)
      show hh'.val < hh.val ∨ hh.val + 1 ≤ hh'.val
      omega
    · rw [Function.update_of_ne e]
  exact ⟨fun j c => (hs j c).trans (h.1 j c), fun c => (h.2 c).imp fun β hβ => (hb c).trans hβ⟩

theorem diag_scored_keep (mask : EReal) {b' : Bool} {hh' : Fin 2} {kt qt : Fin 16} {mk : Bool} (ne : b' ≠ b ∨ hh' ≠ hh)
    (h : Scored qr kr st b' hh' kt qt mk) : Scored qr kr (st.diag (F := Ideal) mask b hh hq hd hl) b' hh' kt qt mk := by
  have hs : ∀ j c : Fin 512, (st.diag (F := Ideal) mask b hh hq hd hl).s b' (ix3 hh' j c) = st.s b' (ix3 hh' j c) := fun j c => by
    show Function.update st.s b _ b' _ = _
    by_cases e : b' = b
    · subst e
      rw [Function.update_self]
      have : hh'.val ≠ hh.val := fun h => (ne.resolve_left (fun h => h rfl)) (Fin.ext h)
      refine (put3_out _ _ _ _ (k0 := 1) (k1 := 256) (k2 := 256) _ hh' j c (.inl (by omega))).trans ?_
      refine (put3_out _ _ _ _ (k0 := 1) (k1 := 256) (k2 := 256) _ hh' j c (.inl (by omega))).trans ?_
      exact put3_out _ _ _ _ (k0 := 1) (k1 := 256) (k2 := 512) _ hh' j c (.inl (by omega))
    · rw [Function.update_of_ne e]
  have hb : ∀ c : Fin 512, (st.diag (F := Ideal) mask b hh hq hd hl).mb b' (ix2 (headRow hh') c) = st.mb b' (ix2 (headRow hh') c) := fun c => by
    show Function.update st.mb b _ b' _ = _
    by_cases e : b' = b
    · subst e
      rw [Function.update_self]
      refine put2_out _ _ _ (k0 := 1) (k1 := 512) _ (headRow hh') c (.inl ?_)
      have : hh'.val ≠ hh.val := fun h => (ne.resolve_left (fun h => h rfl)) (Fin.ext h)
      show hh'.val < hh.val ∨ hh.val + 1 ≤ hh'.val
      omega
    · rw [Function.update_of_ne e]
  exact ⟨fun j c => (hs j c).trans (h.1 j c), fun c => (h.2 c).imp fun β hβ => (hb c).trans hβ⟩

theorem update_slot_keep (em : om = ![u.val, hh.val, 0]) (ea : oa = ![u.val, 80 * hh.val, 0]) {u' : Fin 4} {hh' : Fin 2} {qt : Fin 16}
    {n : ℕ} (ne : u' ≠ u ∨ hh' ≠ hh) (h : Slot qr kr v st u' hh' qt n) :
    Slot qr kr v (st.update b hh hm hv ha) u' hh' qt n := by
  subst em ea
  have ne' : u'.val ≠ u.val ∨ hh'.val ≠ hh.val := ne.imp (fun h e => h (Fin.ext e)) (fun h e => h (Fin.ext e))
  have h1 : ∀ c : Fin 512, (st.update b hh hm hv ha).m (ix3 u' (headRow hh') c) = st.m (ix3 u' (headRow hh') c) := fun c => by
    refine put3_out _ _ _ _ (k0 := 1) (k1 := 1) (k2 := 512) _ u' (headRow hh') c ?_
    rcases ne' with h | h
    · exact .inl (by omega)
    · exact .inr (.inl (by show hh'.val < hh.val ∨ hh.val + 1 ≤ hh'.val; omega))
  have h2 : ∀ (r : Fin 80) (c : Fin 512), (st.update b hh hm hv ha).acc (ix3 u' (valRow hh' r) c) = st.acc (ix3 u' (valRow hh' r) c) := fun r c => by
    refine put3_out _ _ _ _ (k0 := 1) (k1 := 80) (k2 := 512) _ u' (valRow hh' r) c ?_
    rcases ne' with h | h
    · exact .inl (by omega)
    · exact .inr (.inl (by show 80 * hh'.val + r.val < 80 * hh.val ∨ 80 * hh.val + 80 ≤ 80 * hh'.val + r.val; omega))
  cases n with
  | zero => exact fun c => ⟨(h1 c).trans (h c).1, fun r => (h2 r c).trans ((h c).2 r)⟩
  | succ n => exact fun c => (h c).imp fun μ hμ => ⟨(h1 c).trans hμ.1, fun r => (h2 r c).trans (hμ.2 r)⟩

end Keep

/-! ## The walk -/

section Walk

variable (qr kr v) (Y : S8192x128.Idx → EReal) (n : ℕ)

/-- Before position `p`: the inputs and the results `Y` as they were, and every slot at the tiles it has had. -/
structure Inv (st : St Ideal) (p : ℕ) : Prop where
  reads : Reads qr kr v st
  o : st.o = Y
  slots : ∀ (u : Fin 4) (hh : Fin 2), Slot qr kr v st u hh (tileAt n u) (cntAt n p u)

/-- Buffer `b` has the scores of position `p`. -/
def Scores (st : St Ideal) (b : Bool) (p : ℕ) : Prop :=
  ∀ hh : Fin 2, Scored qr kr st b hh (keyAt n p) (tileAt n (slotAt n p)) (decide (p < 4))

/-- Before position `p`, its scores in buffer `b`. -/
def Mid (st : St Ideal) (b : Bool) (p : ℕ) : Prop := Inv qr kr v Y n st p ∧ Scores qr kr n st b p

variable {qr kr v Y n}

theorem full2 {p : ℕ} {b b' : Bool} (hb : b ≠ b') (p' : ℕ) (hp' : 4 ≤ p')
    {oq : Fin 3 → ℕ} {hq : ∀ a, oq a + S1x128x512.size a ≤ S16x256x512.size a} {ok : Fin 2 → ℕ} {hk : ∀ a, ok a + S512x128.size a ≤ S8192x256.size a}
    {oq' : Fin 3 → ℕ} {hq' : ∀ a, oq' a + S1x128x512.size a ≤ S16x256x512.size a} {ok' : Fin 2 → ℕ} {hk' : ∀ a, ok' a + S512x128.size a ≤ S8192x256.size a}
    (eq : oq = ![(tileAt n (slotAt n p')).val, 128 * (0 : Fin 2).val, 0]) (ek : ok = ![512 * (keyAt n p').val, 128 * (0 : Fin 2).val])
    (eq' : oq' = ![(tileAt n (slotAt n p')).val, 128 * (1 : Fin 2).val, 0]) (ek' : ok' = ![512 * (keyAt n p').val, 128 * (1 : Fin 2).val])
    (h : Mid qr kr v Y n st b p) :
    Mid qr kr v Y n ((st.full b' 0 hq hk).full b' 1 hq' hk') b p ∧ Scores qr kr n ((st.full b' 0 hq hk).full b' 1 hq' hk') b' p' := by
  have h1 := full_reads b' 0 hq hk h.1.reads
  refine ⟨⟨⟨full_reads b' 1 hq' hk' h1, h.1.o, fun u hh => full_slot _ _ _ _ (full_slot _ _ _ _ (h.1.slots u hh))⟩,
    fun hh => full_scored_keep _ _ _ _ (.inl hb) (full_scored_keep _ _ _ _ (.inl hb) (h.2 hh))⟩, fun hh => ?_⟩
  have e : decide (p' < 4) = false := decide_eq_false (by omega)
  rw [e]
  match hh with
  | 0 => exact full_scored_keep _ _ _ _ (.inr (by decide)) (full_scored h.1.reads b' 0 _ _ hq hk eq ek)
  | 1 => exact full_scored h1 b' 1 _ _ hq' hk' eq' ek'

theorem diag2 {p : ℕ} {b' : Bool} (p' : ℕ) (hp' : p' < 4)
    {oq : Fin 3 → ℕ} {hq : ∀ a, oq a + S1x128x512.size a ≤ S16x256x512.size a} {ok : Fin 2 → ℕ} {hk : ∀ a, ok a + S256x128.size a ≤ S8192x256.size a}
    {ol : Fin 2 → ℕ} {hl : ∀ a, ol a + S256x128.size a ≤ S8192x256.size a}
    {oq' : Fin 3 → ℕ} {hq' : ∀ a, oq' a + S1x128x512.size a ≤ S16x256x512.size a} {ok' : Fin 2 → ℕ} {hk' : ∀ a, ok' a + S256x128.size a ≤ S8192x256.size a}
    {ol' : Fin 2 → ℕ} {hl' : ∀ a, ol' a + S256x128.size a ≤ S8192x256.size a}
    (eq : oq = ![(tileAt n (slotAt n p')).val, 128 * (0 : Fin 2).val, 0]) (ek : ok = ![512 * (keyAt n p').val, 128 * (0 : Fin 2).val])
    (el : ol = ![512 * (keyAt n p').val + 256, 128 * (0 : Fin 2).val])
    (eq' : oq' = ![(tileAt n (slotAt n p')).val, 128 * (1 : Fin 2).val, 0]) (ek' : ok' = ![512 * (keyAt n p').val, 128 * (1 : Fin 2).val])
    (el' : ol' = ![512 * (keyAt n p').val + 256, 128 * (1 : Fin 2).val])
    (h : Inv qr kr v Y n st p) :
    Inv qr kr v Y n ((st.diag (⊥ : EReal) b' 0 hq hk hl).diag (⊥ : EReal) b' 1 hq' hk' hl') p
      ∧ Scores qr kr n ((st.diag (⊥ : EReal) b' 0 hq hk hl).diag (⊥ : EReal) b' 1 hq' hk' hl') b' p'
      ∧ ∀ b : Bool, b ≠ b' → Scores qr kr n st b p → Scores qr kr n ((st.diag (⊥ : EReal) b' 0 hq hk hl).diag (⊥ : EReal) b' 1 hq' hk' hl') b p := by
  have h1 := diag_reads b' 0 hq hk hl ⊥ h.reads
  refine ⟨⟨diag_reads b' 1 hq' hk' hl' ⊥ h1, h.o, fun u hh => diag_slot _ _ _ _ _ _ (diag_slot _ _ _ _ _ _ (h.slots u hh))⟩, fun hh => ?_,
    fun b hb hs hh => diag_scored_keep _ _ _ _ _ _ (.inl hb) (diag_scored_keep _ _ _ _ _ _ (.inl hb) (hs hh))⟩
  have e : decide (p' < 4) = true := decide_eq_true hp'
  have e' : keyAt n p' = tileAt n (slotAt n p') := if_pos hp'
  rw [e, e']
  rw [e'] at ek el ek' el'
  match hh with
  | 0 => exact diag_scored_keep _ _ _ _ _ _ (.inr (by decide)) (diag_scored h.reads b' 0 _ hq hk hl eq ek el)
  | 1 => exact diag_scored h1 b' 1 _ hq' hk' hl' eq' ek' el'

/-- One head's update of the position's slot. -/
theorem update1 (hn : n < 4) {p : ℕ} (hp : p < 34) {b : Bool} (hh : Fin 2)
    {om : Fin 3 → ℕ} {hm : ∀ a, om a + S1x1x512.size a ≤ S4x8x512.size a} {ov : Fin 3 → ℕ} {hv : ∀ a, ov a + S1x80x512.size a ≤ S16x160x512.size a}
    {oa : Fin 3 → ℕ} {ha : ∀ a, oa a + S1x80x512.size a ≤ S4x160x512.size a}
    (em : om = ![(slotAt n p).val, hh.val, 0]) (ev : ov = ![(keyAt n p).val, 80 * hh.val, 0]) (ea : oa = ![(slotAt n p).val, 80 * hh.val, 0])
    (hr : Reads qr kr v st) (hs : Scored qr kr st b hh (keyAt n p) (tileAt n (slotAt n p)) (decide (p < 4)))
    (hu : ∀ u : Fin 4, Slot qr kr v st u hh (tileAt n u) (cntAt n p u)) (u : Fin 4) :
    Slot qr kr v (st.update b hh hm hv ha) u hh (tileAt n u) (cntAt n (p + 1) u) := by
  by_cases e : slotAt n p = u
  · subst e
    have e1 : cntAt n (p + 1) (slotAt n p) = cntAt n p (slotAt n p) + 1 := by
      show cntAt n p (slotAt n p) + (if slotAt n p = slotAt n p then 1 else 0) = _
      rw [if_pos rfl]
    rw [e1]
    by_cases h4 : p < 4
    · have e2 : cntAt n p (slotAt n p) = 0 := cntAt_first ⟨n, hn⟩ ⟨p, h4⟩
      have h0 := hu (slotAt n p)
      rw [e2] at h0 ⊢
      rw [decide_eq_true h4] at hs
      exact update_first hr b hh (slotAt n p) (keyAt n p) _ hm hv ha em ev ea (if_pos h4) hs h0
    · have e2 : cntAt n p (slotAt n p) = (keyAt n p).val + 1 := cntAt_next ⟨n, hn⟩ ⟨p, hp⟩ (by show 4 ≤ p; omega)
      have h0 := hu (slotAt n p)
      rw [e2] at h0 ⊢
      rw [decide_eq_false h4] at hs
      exact update_next hr b hh (slotAt n p) (keyAt n p) _ hm hv ha em ev ea (keyAt n p).val (by simp) hs h0
  · have e1 : cntAt n (p + 1) u = cntAt n p u := by
      show cntAt n p u + (if slotAt n p = u then 1 else 0) = _
      rw [if_neg e, add_zero]
    rw [e1]
    exact update_slot_keep b hh (slotAt n p) hm hv ha em ea (.inl (Ne.symm e)) (hu u)

theorem update2 (hn : n < 4) {p : ℕ} (hp : p < 34) {b : Bool}
    {om : Fin 3 → ℕ} {hm : ∀ a, om a + S1x1x512.size a ≤ S4x8x512.size a} {ov : Fin 3 → ℕ} {hv : ∀ a, ov a + S1x80x512.size a ≤ S16x160x512.size a}
    {oa : Fin 3 → ℕ} {ha : ∀ a, oa a + S1x80x512.size a ≤ S4x160x512.size a}
    {om' : Fin 3 → ℕ} {hm' : ∀ a, om' a + S1x1x512.size a ≤ S4x8x512.size a} {ov' : Fin 3 → ℕ} {hv' : ∀ a, ov' a + S1x80x512.size a ≤ S16x160x512.size a}
    {oa' : Fin 3 → ℕ} {ha' : ∀ a, oa' a + S1x80x512.size a ≤ S4x160x512.size a}
    (em : om = ![(slotAt n p).val, (0 : Fin 2).val, 0]) (ev : ov = ![(keyAt n p).val, 80 * (0 : Fin 2).val, 0])
    (ea : oa = ![(slotAt n p).val, 80 * (0 : Fin 2).val, 0])
    (em' : om' = ![(slotAt n p).val, (1 : Fin 2).val, 0]) (ev' : ov' = ![(keyAt n p).val, 80 * (1 : Fin 2).val, 0])
    (ea' : oa' = ![(slotAt n p).val, 80 * (1 : Fin 2).val, 0])
    (h : Mid qr kr v Y n st b p) :
    Inv qr kr v Y n ((st.update b 0 hm hv ha).update b 1 hm' hv' ha') (p + 1) := by
  have h1 := update_reads b 0 hm hv ha h.1.reads
  refine ⟨update_reads b 1 hm' hv' ha' h1, h.1.o, fun u hh => ?_⟩
  match hh with
  | 0 =>
    exact update_slot_keep b 1 (slotAt n p) hm' hv' ha' em' ea' (.inr Fin.zero_ne_one)
      (update1 hn hp 0 em ev ea h.1.reads (h.2 0) (fun u => h.1.slots u 0) u)
  | 1 =>
    exact update1 hn hp 1 em' ev' ea' h1 (update_scored b 0 hm hv ha (h.2 1))
      (fun u => update_slot_keep b 0 (slotAt n p) hm hv ha em ea (.inr Fin.zero_ne_one.symm) (h.1.slots u 1)) u

/-- Scores of a full tile in the other buffer, then the update: one position further. -/
theorem mid_full {p : ℕ} (hn : n < 4) (hp : p < 34) (hp' : 4 ≤ p + 1) {b b' : Bool} (hb : b ≠ b')
    {oq : Fin 3 → ℕ} {hq : ∀ a, oq a + S1x128x512.size a ≤ S16x256x512.size a} {ok : Fin 2 → ℕ} {hk : ∀ a, ok a + S512x128.size a ≤ S8192x256.size a}
    {oq' : Fin 3 → ℕ} {hq' : ∀ a, oq' a + S1x128x512.size a ≤ S16x256x512.size a} {ok' : Fin 2 → ℕ} {hk' : ∀ a, ok' a + S512x128.size a ≤ S8192x256.size a}
    {om : Fin 3 → ℕ} {hm : ∀ a, om a + S1x1x512.size a ≤ S4x8x512.size a} {ov : Fin 3 → ℕ} {hv : ∀ a, ov a + S1x80x512.size a ≤ S16x160x512.size a}
    {oa : Fin 3 → ℕ} {ha : ∀ a, oa a + S1x80x512.size a ≤ S4x160x512.size a}
    {om' : Fin 3 → ℕ} {hm' : ∀ a, om' a + S1x1x512.size a ≤ S4x8x512.size a} {ov' : Fin 3 → ℕ} {hv' : ∀ a, ov' a + S1x80x512.size a ≤ S16x160x512.size a}
    {oa' : Fin 3 → ℕ} {ha' : ∀ a, oa' a + S1x80x512.size a ≤ S4x160x512.size a}
    (eq : oq = ![(tileAt n (slotAt n (p + 1))).val, 128 * (0 : Fin 2).val, 0]) (ek : ok = ![512 * (keyAt n (p + 1)).val, 128 * (0 : Fin 2).val])
    (eq' : oq' = ![(tileAt n (slotAt n (p + 1))).val, 128 * (1 : Fin 2).val, 0]) (ek' : ok' = ![512 * (keyAt n (p + 1)).val, 128 * (1 : Fin 2).val])
    (em : om = ![(slotAt n p).val, (0 : Fin 2).val, 0]) (ev : ov = ![(keyAt n p).val, 80 * (0 : Fin 2).val, 0])
    (ea : oa = ![(slotAt n p).val, 80 * (0 : Fin 2).val, 0])
    (em' : om' = ![(slotAt n p).val, (1 : Fin 2).val, 0]) (ev' : ov' = ![(keyAt n p).val, 80 * (1 : Fin 2).val, 0])
    (ea' : oa' = ![(slotAt n p).val, 80 * (1 : Fin 2).val, 0])
    (h : Mid qr kr v Y n st b p) :
    Mid qr kr v Y n ((((st.full b' 0 hq hk).full b' 1 hq' hk').update b 0 hm hv ha).update b 1 hm' hv' ha') b' (p + 1) := by
  obtain ⟨h1, h2⟩ := full2 hb (p + 1) hp' (hq := hq) (hk := hk) (hq' := hq') (hk' := hk') eq ek eq' ek' h
  exact ⟨update2 hn hp em ev ea em' ev' ea' h1, fun hh => update_scored _ _ _ _ _ (update_scored _ _ _ _ _ (h2 hh))⟩

/-- Scores of a tile of the diagonal in the other buffer, then the update: one position further. -/
theorem mid_diag {p : ℕ} (hn : n < 4) (hp' : p + 1 < 4) {b b' : Bool} (hb : b ≠ b')
    {oq : Fin 3 → ℕ} {hq : ∀ a, oq a + S1x128x512.size a ≤ S16x256x512.size a} {ok : Fin 2 → ℕ} {hk : ∀ a, ok a + S256x128.size a ≤ S8192x256.size a}
    {ol : Fin 2 → ℕ} {hl : ∀ a, ol a + S256x128.size a ≤ S8192x256.size a}
    {oq' : Fin 3 → ℕ} {hq' : ∀ a, oq' a + S1x128x512.size a ≤ S16x256x512.size a} {ok' : Fin 2 → ℕ} {hk' : ∀ a, ok' a + S256x128.size a ≤ S8192x256.size a}
    {ol' : Fin 2 → ℕ} {hl' : ∀ a, ol' a + S256x128.size a ≤ S8192x256.size a}
    {om : Fin 3 → ℕ} {hm : ∀ a, om a + S1x1x512.size a ≤ S4x8x512.size a} {ov : Fin 3 → ℕ} {hv : ∀ a, ov a + S1x80x512.size a ≤ S16x160x512.size a}
    {oa : Fin 3 → ℕ} {ha : ∀ a, oa a + S1x80x512.size a ≤ S4x160x512.size a}
    {om' : Fin 3 → ℕ} {hm' : ∀ a, om' a + S1x1x512.size a ≤ S4x8x512.size a} {ov' : Fin 3 → ℕ} {hv' : ∀ a, ov' a + S1x80x512.size a ≤ S16x160x512.size a}
    {oa' : Fin 3 → ℕ} {ha' : ∀ a, oa' a + S1x80x512.size a ≤ S4x160x512.size a}
    (eq : oq = ![(tileAt n (slotAt n (p + 1))).val, 128 * (0 : Fin 2).val, 0]) (ek : ok = ![512 * (keyAt n (p + 1)).val, 128 * (0 : Fin 2).val])
    (el : ol = ![512 * (keyAt n (p + 1)).val + 256, 128 * (0 : Fin 2).val])
    (eq' : oq' = ![(tileAt n (slotAt n (p + 1))).val, 128 * (1 : Fin 2).val, 0]) (ek' : ok' = ![512 * (keyAt n (p + 1)).val, 128 * (1 : Fin 2).val])
    (el' : ol' = ![512 * (keyAt n (p + 1)).val + 256, 128 * (1 : Fin 2).val])
    (em : om = ![(slotAt n p).val, (0 : Fin 2).val, 0]) (ev : ov = ![(keyAt n p).val, 80 * (0 : Fin 2).val, 0])
    (ea : oa = ![(slotAt n p).val, 80 * (0 : Fin 2).val, 0])
    (em' : om' = ![(slotAt n p).val, (1 : Fin 2).val, 0]) (ev' : ov' = ![(keyAt n p).val, 80 * (1 : Fin 2).val, 0])
    (ea' : oa' = ![(slotAt n p).val, 80 * (1 : Fin 2).val, 0])
    (h : Mid qr kr v Y n st b p) :
    Mid qr kr v Y n ((((st.diag (⊥ : EReal) b' 0 hq hk hl).diag (⊥ : EReal) b' 1 hq' hk' hl').update b 0 hm hv ha).update b 1 hm' hv' ha') b' (p + 1) := by
  obtain ⟨h1, h2, h3⟩ := diag2 (b' := b') (p + 1) hp' (hq := hq) (hk := hk) (hl := hl) (hq' := hq') (hk' := hk') (hl' := hl') eq ek el eq' ek' el' h.1
  exact ⟨update2 hn (by omega) em ev ea em' ev' ea' ⟨h1, h3 b hb h.2⟩, fun hh => update_scored _ _ _ _ _ (update_scored _ _ _ _ _ (h2 hh))⟩

end Walk

section Body

variable {Y : S8192x128.Idx → EReal} (i : grid0.Coords)

/-- The slots empty. -/
theorem init_inv (h : Reads qr kr v st) (ho : st.o = Y) : Inv qr kr v Y (i 2).val (st.init (F := Ideal) (⊥ : EReal)) 0 := by
  refine ⟨⟨h.q, h.k, h.v⟩, ho, fun u hh c => ⟨?_, fun r => ?_⟩⟩
  · refine (put3_in st.m _ _ _ _ u (headRow hh) c u (headRow hh) c (Nat.zero_add _).symm (Nat.zero_add _).symm (Nat.zero_add _).symm).trans ?_
    pointwise
  · refine (put3_in st.acc _ _ _ _ u (valRow hh r) c u (valRow hh r) c (Nat.zero_add _).symm (Nat.zero_add _).symm (Nat.zero_add _).symm).trans ?_
    pointwise
    first | rfl | skip

theorem head_mid (h : Reads qr kr v st) (ho : st.o = Y) : Mid qr kr v Y (i 2).val (st.head (F := Ideal) (⊥ : EReal) i) false 4 := by
  have hn := third_lt i
  obtain ⟨h0, s0, -⟩ := diag2 (b' := false) 0 (by omega) (hq := k0_off1_inb i) (hk := k0_off2_inb i) (hl := k0_off3_inb i)
    (hq' := k0_off4_inb i) (hk' := k0_off5_inb i) (hl' := k0_off6_inb i) (at1 i) (at2 i) (at3 i) (at4 i) (at5 i) (at6 i) (init_inv i h ho)
  have m1 := mid_diag (p := 0) hn (by omega) (b := false) (b' := true) (by decide)
    (hq := k0_off7_inb i 1) (hk := k0_off8_inb i 1) (hl := k0_off9_inb i 1) (hq' := k0_off10_inb i 1) (hk' := k0_off11_inb i 1) (hl' := k0_off12_inb i 1)
    (hm := inb_S4x8x512_S1x1x512_0_0_0) (hv := k0_off13_inb i) (ha := inb_S4x160x512_S1x80x512_0_0_0)
    (hm' := inb_S4x8x512_S1x1x512_0_1_0) (hv' := k0_off14_inb i) (ha' := inb_S4x160x512_S1x80x512_0_80_0)
    (at7 i 1) (at8 i 1) (at9 i 1) (at10 i 1) (at11 i 1) (at12 i 1) rfl (at13 i) rfl rfl (at14 i) rfl ⟨h0, s0⟩
  have m2 := mid_diag (p := 1) hn (by omega) (b := true) (b' := false) (by decide)
    (hq := k0_off15_inb i) (hk := k0_off16_inb i) (hl := k0_off17_inb i) (hq' := k0_off18_inb i) (hk' := k0_off19_inb i) (hl' := k0_off20_inb i)
    (hm := inb_S4x8x512_S1x1x512_1_0_0) (hv := k0_off21_inb i 1) (ha := inb_S4x160x512_S1x80x512_1_0_0)
    (hm' := inb_S4x8x512_S1x1x512_1_1_0) (hv' := k0_off22_inb i 1) (ha' := inb_S4x160x512_S1x80x512_1_80_0)
    (at15 i) (at16 i) (at17 i) (at18 i) (at19 i) (at20 i) rfl (at21 i 1) rfl rfl (at22 i 1) rfl m1
  have m3 := mid_diag (p := 2) hn (by omega) (b := false) (b' := true) (by decide)
    (hq := k0_off7_inb i 0) (hk := k0_off8_inb i 0) (hl := k0_off9_inb i 0) (hq' := k0_off10_inb i 0) (hk' := k0_off11_inb i 0) (hl' := k0_off12_inb i 0)
    (hm := inb_S4x8x512_S1x1x512_2_0_0) (hv := k0_off23_inb i) (ha := inb_S4x160x512_S1x80x512_2_0_0)
    (hm' := inb_S4x8x512_S1x1x512_2_1_0) (hv' := k0_off24_inb i) (ha' := inb_S4x160x512_S1x80x512_2_80_0)
    (at7 i 0) (at8 i 0) (at9 i 0) (at10 i 0) (at11 i 0) (at12 i 0) rfl (at23 i) rfl rfl (at24 i) rfl m2
  exact mid_full (p := 3) hn (by omega) (by omega) (b := true) (b' := false) (by decide)
    (hq := k0_off25_inb i 0) (hk := k0_off26_inb i 0) (hq' := k0_off27_inb i 0) (hk' := k0_off28_inb i 0)
    (hm := inb_S4x8x512_S1x1x512_3_0_0) (hv := k0_off21_inb i 0) (ha := inb_S4x160x512_S1x80x512_3_0_0)
    (hm' := inb_S4x8x512_S1x1x512_3_1_0) (hv' := k0_off22_inb i 0) (ha' := inb_S4x160x512_S1x80x512_3_80_0)
    (at25 i 0) (at26 i 0) (at27 i 0) (at28 i 0) rfl (at21 i 0) rfl rfl (at22 i 0) rfl m3

theorem trips_eq : k0_t1_loop.trips = 2 := by decide +kernel

theorem pair_mid (t : Fin k0_t1_loop.trips) (u : Fin 7) (h : Mid qr kr v Y (i 2).val st false (14 * t.val + 2 * u.val + 4)) :
    Mid qr kr v Y (i 2).val (st.pair i t u) false (14 * t.val + 2 * u.val + 6) := by
  have hn := third_lt i
  have ht : t.val < 2 := trips_eq ▸ t.isLt
  have m1 := mid_full (p := 14 * t.val + 2 * u.val + 4) hn (by omega) (by omega) (b := false) (b' := true) (by decide)
    (hq := k0_off29_inb i t u 0) (hk := k0_off30_inb i t u 0) (hq' := k0_off31_inb i t u 0) (hk' := k0_off32_inb i t u 0)
    (hm := k0_off33_inb i t u) (hv := k0_off34_inb i t u) (ha := k0_off35_inb i t u)
    (hm' := k0_off36_inb i t u) (hv' := k0_off37_inb i t u) (ha' := k0_off38_inb i t u)
    (at29 i t u 0) (at30 i t u 0) (at31 i t u 0) (at32 i t u 0) (at33 i t u) (at34 i t u) (at35 i t u) (at36 i t u) (at37 i t u) (at38 i t u) h
  exact mid_full (p := 14 * t.val + 2 * u.val + 5) hn (by omega) (by omega) (b := true) (b' := false) (by decide)
    (hq := k0_off29_inb i t u 1) (hk := k0_off30_inb i t u 1) (hq' := k0_off31_inb i t u 1) (hk' := k0_off32_inb i t u 1)
    (hm := k0_off39_inb i t u) (hv := k0_off40_inb i t u) (ha := k0_off41_inb i t u)
    (hm' := k0_off42_inb i t u) (hv' := k0_off43_inb i t u) (ha' := k0_off44_inb i t u)
    (at29 i t u 1) (at30 i t u 1) (at31 i t u 1) (at32 i t u 1) (at39 i t u) (at40 i t u) (at41 i t u) (at42 i t u) (at43 i t u) (at44 i t u) m1

theorem trips_mid (n : ℕ) (hn : n ≤ k0_t1_loop.trips) (h : Mid qr kr v Y (i 2).val st false 4) :
    Mid qr kr v Y (i 2).val (st.trips i n) false (14 * n + 4) := by
  induction n with
  | zero => exact h
  | succ n ih =>
    unfold St.trips
    rw [dif_pos (by omega : n < k0_t1_loop.trips)]
    exact pair_mid i ⟨n, by omega⟩ 6 (pair_mid i ⟨n, by omega⟩ 5 (pair_mid i ⟨n, by omega⟩ 4 (pair_mid i ⟨n, by omega⟩ 3
      (pair_mid i ⟨n, by omega⟩ 2 (pair_mid i ⟨n, by omega⟩ 1 (pair_mid i ⟨n, by omega⟩ 0 (ih (by omega))))))))

theorem last_inv (h : Mid qr kr v Y (i 2).val st false 32) : Inv qr kr v Y (i 2).val (st.last i) 34 := by
  have hn := third_lt i
  have m1 := mid_full (p := 32) hn (by omega) (by omega) (b := false) (b' := true) (by decide)
    (hq := k0_off25_inb i 1) (hk := k0_off26_inb i 1) (hq' := k0_off27_inb i 1) (hk' := k0_off28_inb i 1)
    (hm := k0_off45_inb i 0) (hv := k0_off46_inb i 0) (ha := k0_off47_inb i 0)
    (hm' := k0_off48_inb i 0) (hv' := k0_off49_inb i 0) (ha' := k0_off50_inb i 0)
    (at25 i 1) (at26 i 1) (at27 i 1) (at28 i 1) (at45 i 0) (at46 i 0) (at47 i 0) (at48 i 0) (at49 i 0) (at50 i 0) h
  exact update2 hn (p := 33) (by omega) (at45 i 1) (at46 i 1) (at47 i 1) (at48 i 1) (at49 i 1) (at50 i 1) m1

/-- After the whole walk every slot holds the sums over the tiles up to its diagonal. -/
theorem walk (h : Reads qr kr v st) (ho : st.o = Y) :
    Inv qr kr v Y (i 2).val (((st.head (F := Ideal) (⊥ : EReal) i).trips i k0_t1_loop.trips).last i) 34 := by
  have := trips_mid i k0_t1_loop.trips le_rfl (head_mid i h ho)
  refine last_inv i ?_
  have e : 14 * k0_t1_loop.trips + 4 = 32 := by rw [trips_eq]
  generalize (st.head (F := Ideal) (⊥ : EReal) i).trips i k0_t1_loop.trips = st' at this ⊢
  rw [e] at this
  exact this

end Body

end Cert.Attn

end
-- ==== Proof.Outs.lean ====
/-
  What a grid point writes: for each of its four query tiles the quotient of a slot's weighted values by the sum of the
  weights, which the row of ones gives. The quotient does not depend on the reference point of the weights.
-/
module

public import proofs.«01_k».proof.Proof.Walk

@[expose] public section

set_option synthInstance.maxSize 4096
set_option maxRecDepth 16384

noncomputable section

namespace Cert.Attn

open Cert.KernelIdeal Cert.KernelIdeal.Gen
open Idealize.ShloMosaic

section Maths

variable (qr : S16x256x512.Idx → ℝ) (kr : S8192x256.Idx → ℝ) (v : S16x160x512.Idx → EReal)

/-- A pair of heads' attention: query `c` of tile `qt`, coordinate `d`. -/
def attnAt (hh : Fin 2) (qt : Fin 16) (d : Fin 64) (c : Fin 512) : EReal :=
  Ideal.div (rowSum qr kr v qt.val hh qt 0 ⟨d.val, by omega⟩ c) (rowSum qr kr v qt.val hh qt 0 64 c)

/-- The row of ones sums the weights: a positive real. -/
theorem weight_nonneg (mk : Bool) (hh : Fin 2) (kt qt : Fin 16) (μ : ℝ) (j c : Fin 512) :
    ∃ w : ℝ, 0 ≤ w ∧ weight qr kr mk hh kt qt μ j c = (w : EReal) := by
  unfold weight
  split
  · exact ⟨0, le_rfl, rfl⟩
  · exact ⟨_, (pow2_pos _).le, rfl⟩

variable (h1 : ∀ (kt : Fin 16) (hh : Fin 2) (j : Fin 512), v (ix3 kt (valRow hh 64) j) = 1)

include h1 in
theorem tileSum_ones (mk : Bool) (hh : Fin 2) (kt qt : Fin 16) (μ : ℝ) (c : Fin 512) :
    ∃ w : ℝ, 0 ≤ w ∧ tileSum qr kr v mk hh kt qt μ 64 c = (w : EReal) := by
  choose w hw hw' using fun j => weight_nonneg qr kr mk hh kt qt μ j c
  refine ⟨∑ j, w j, Finset.sum_nonneg fun j _ => hw j, ?_⟩
  unfold tileSum
  rw [← coe_sum]
  exact Finset.sum_congr rfl fun j _ => by rw [h1, one_mul, hw']

include h1 in
theorem rowSum_ones (n : ℕ) (hh : Fin 2) (qt : Fin 16) (μ : ℝ) (c : Fin 512) :
    ∃ w : ℝ, 0 < w ∧ rowSum qr kr v n hh qt μ 64 c = (w : EReal) := by
  choose w hw hw' using fun kt : ℕ => tileSum_ones qr kr v h1 false hh (Fin.ofNat 16 kt) qt μ c
  choose x hx hx' using fun j => weight_nonneg qr kr true hh qt qt μ j c
  have h0 : weight qr kr true hh qt qt μ 0 c = (Real.rpow 2 (score qr kr hh qt qt 0 c - μ) : EReal) := by
    unfold weight
    rw [if_neg (by simp)]
  have p0 : 0 < x 0 := by
    have := (hx' 0).symm.trans h0
    rw [EReal.coe_eq_coe_iff] at this
    rw [this]
    exact pow2_pos _
  refine ⟨(∑ j, x j) + ∑ kt ∈ Finset.range n, w kt, ?_, ?_⟩
  · exact add_pos_of_pos_of_nonneg (Finset.sum_pos' (fun j _ => hx j) ⟨0, Finset.mem_univ _, p0⟩) (Finset.sum_nonneg fun kt _ => hw kt)
  · unfold rowSum
    rw [EReal.coe_add, ← coe_sum, ← coe_sum]
    refine congrArg₂ (· + ·) ?_ (Finset.sum_congr rfl fun kt _ => hw' kt)
    unfold tileSum
    exact Finset.sum_congr rfl fun j _ => by rw [h1, one_mul, hx']

/-- A quotient by a positive real. -/
theorem div_real (x : EReal) (w : ℝ) (hw : 0 < w) : Ideal.div x (w : EReal) = ((w⁻¹ : ℝ) : EReal) * x := by
  unfold Ideal.div
  rw [if_neg (by exact_mod_cast hw.ne'), mul_comm, EReal.coe_inv]

include h1 in
theorem quotient_eq (hh : Fin 2) (qt : Fin 16) (μ : ℝ) (d : Fin 64) (c : Fin 512) :
    Ideal.div (rowSum qr kr v qt.val hh qt μ ⟨d.val, by omega⟩ c) (rowSum qr kr v qt.val hh qt μ 64 c) = attnAt qr kr v hh qt d c := by
  unfold attnAt
  obtain ⟨w, hw, e⟩ := rowSum_ones qr kr v h1 qt.val hh qt 0 c
  have p := pow2_pos (0 - μ)
  rw [← scale_rowSum qr kr v qt.val hh qt 0 μ, ← scale_rowSum qr kr v qt.val hh qt 0 μ 64, e, ← EReal.coe_mul,
    div_real _ _ (mul_pos p hw), div_real _ _ hw, ← mul_assoc, ← EReal.coe_mul]
  congr 2
  field_simp

end Maths

variable {qr : S16x256x512.Idx → ℝ} {kr : S8192x256.Idx → ℝ} {v : S16x160x512.Idx → EReal} {st : St Ideal}

/-- The quotients of slot `u`. -/
def outVal (acc : S4x160x512.Idx → EReal) (u : Fin 4) (c : Fin 512) (d : Fin 128) : EReal :=
  Ideal.div (acc (ix3 u (valRow (Fin.ofNat 2 (d.val / 64)) ⟨d.val % 64, by omega⟩) c)) (acc (ix3 u (valRow (Fin.ofNat 2 (d.val / 64)) 64) c))

theorem out_in (u : Fin 4) (t : Fin 16) {oo : Fin 2 → ℕ} (ho : ∀ a, oo a + S512x128.size a ≤ S8192x128.size a)
    (e : oo = ![512 * t.val, 0]) (c : Fin 512) (d : Fin 128) : (st.out u ho).o (ix2 (keyRow t c) d) = outVal st.acc u c d := by
  subst e
  refine (put2_in st.o _ _ _ c d (keyRow t c) d rfl (Nat.zero_add _).symm).trans ?_
  refine (outTile_apply _ _ _ _ c d).trans ?_
  unfold outVal
  split
  · rename_i h
    have e1 : d.val / 64 = 0 := by omega
    have e2 : d.val % 64 = d.val := by omega
    exact congrArg₂ Ideal.div
      (window3 st.acc _ _ _ (inb_a u 0) (0 : Fin 1) (⟨d.val, h⟩ : Fin 64) c u _ c rfl (by simp [valRow, e1, e2]) (Nat.zero_add _).symm)
      (window3 st.acc _ _ _ (inb_l u 0) (0 : Fin 1) (0 : Fin 1) c u _ c rfl (by simp [valRow, e1]) (Nat.zero_add _).symm)
  · rename_i h
    have e1 : d.val / 64 = 1 := by omega
    have e2 : d.val % 64 = d.val - 64 := by omega
    exact congrArg₂ Ideal.div
      (window3 st.acc _ _ _ (inb_a u 1) (0 : Fin 1) (⟨d.val - 64, by omega⟩ : Fin 64) c u _ c rfl (by simp [valRow, e1, e2]) (Nat.zero_add _).symm)
      (window3 st.acc _ _ _ (inb_l u 1) (0 : Fin 1) (0 : Fin 1) c u _ c rfl (by simp [valRow, e1]) (Nat.zero_add _).symm)

theorem out_out (u : Fin 4) (t t' : Fin 16) {oo : Fin 2 → ℕ} (ho : ∀ a, oo a + S512x128.size a ≤ S8192x128.size a)
    (e : oo = ![512 * t'.val, 0]) (ne : t ≠ t') (c : Fin 512) (d : Fin 128) : (st.out u ho).o (ix2 (keyRow t c) d) = st.o (ix2 (keyRow t c) d) := by
  subst e
  have : t.val ≠ t'.val := fun h => ne (Fin.ext h)
  refine put2_out _ _ _ (k0 := 512) (k1 := 128) _ (keyRow t c) d (.inl ?_)
  show 512 * t.val + c.val < 512 * t'.val ∨ 512 * t'.val + 512 ≤ 512 * t.val + c.val
  omega

theorem tileAt_inj : ∀ (n u u' : Fin 4), u ≠ u' → tileAt n.val u ≠ tileAt n.val u' := by decide +kernel

theorem outs_in (i : grid0.Coords) (u : Fin 4) (c : Fin 512) (d : Fin 128) :
    (st.outs i).o (ix2 (keyRow (tileAt (i 2).val u) c) d) = outVal st.acc u c d := by
  have ne : ∀ u' : Fin 4, u ≠ u' → tileAt (i 2).val u ≠ tileAt (i 2).val u' := fun u' => tileAt_inj ⟨(i 2).val, third_lt i⟩ u u'
  unfold St.outs
  match u with
  | 0 =>
    exact (out_out 3 _ _ _ (at52 i 0) (ne _ (by decide)) c d).trans ((out_out 2 _ _ _ (at53 i) (ne _ (by decide)) c d).trans
      ((out_out 1 _ _ _ (at52 i 1) (ne _ (by decide)) c d).trans (out_in 0 _ _ (at51 i) c d)))
  | 1 =>
    exact (out_out 3 _ _ _ (at52 i 0) (ne _ (by decide)) c d).trans ((out_out 2 _ _ _ (at53 i) (ne _ (by decide)) c d).trans
      (out_in 1 _ _ (at52 i 1) c d))
  | 2 => exact (out_out 3 _ _ _ (at52 i 0) (ne _ (by decide)) c d).trans (out_in 2 _ _ (at53 i) c d)
  | 3 => exact out_in 3 _ _ (at52 i 0) c d

theorem outs_out (i : grid0.Coords) (t : Fin 16) (ne : ∀ u : Fin 4, t ≠ tileAt (i 2).val u) (c : Fin 512) (d : Fin 128) :
    (st.outs i).o (ix2 (keyRow t c) d) = st.o (ix2 (keyRow t c) d) := by
  unfold St.outs
  exact (out_out 3 _ _ _ (at52 i 0) (ne _) c d).trans ((out_out 2 _ _ _ (at53 i) (ne _) c d).trans
    ((out_out 1 _ _ _ (at52 i 1) (ne _) c d).trans (out_out 0 _ _ _ (at51 i) (ne _) c d)))

/-- The body writes the attention of its four tiles … -/
theorem body_in (h1 : ∀ (kt : Fin 16) (hh : Fin 2) (j : Fin 512), v (ix3 kt (valRow hh 64) j) = 1) (hr : Reads qr kr v st)
    (i : grid0.Coords) (u : Fin 4) (c : Fin 512) (d : Fin 128) :
    (st.body (F := Ideal) (⊥ : EReal) i).o (ix2 (keyRow (tileAt (i 2).val u) c) d)
      = attnAt qr kr v (Fin.ofNat 2 (d.val / 64)) (tileAt (i 2).val u) ⟨d.val % 64, by omega⟩ c := by
  unfold St.body
  rw [outs_in]
  have h := (walk i hr rfl).slots u (Fin.ofNat 2 (d.val / 64))
  rw [cntAt_all ⟨(i 2).val, third_lt i⟩ u] at h
  obtain ⟨μ, -, ha⟩ := h c
  unfold outVal
  rw [ha ⟨d.val % 64, by omega⟩, ha 64]
  exact quotient_eq qr kr v h1 (Fin.ofNat 2 (d.val / 64)) (tileAt (i 2).val u) μ ⟨d.val % 64, by omega⟩ c

/-- … and leaves the others as they were. -/
theorem body_out (hr : Reads qr kr v st) (i : grid0.Coords) (t : Fin 16) (ne : ∀ u : Fin 4, t ≠ tileAt (i 2).val u) (c : Fin 512) (d : Fin 128) :
    (st.body (F := Ideal) (⊥ : EReal) i).o (ix2 (keyRow t c) d) = st.o (ix2 (keyRow t c) d) := by
  unfold St.body
  rw [outs_out _ _ ne, (walk i hr rfl).o]

end Cert.Attn

end
-- ==== Proof.Row.lean ====
/-
  One query's attention as the reference forms it: the exponentials of the masked scores relative to their greatest are
  powers of two relative to a real, the sums over all keys are the sums over the key tiles up to the diagonal, and the values
  summed with the normalised weights are the quotient of the two sums.
-/
module

public import proofs.«01_k».proof.Proof.Outs

@[expose] public section

set_option synthInstance.maxSize 4096
set_option maxRecDepth 16384

noncomputable section

namespace Cert.Attn

open Cert.KernelIdeal Cert.KernelIdeal.Gen
open Idealize.ShloMosaic

theorem log_two_pos : (0 : ℝ) < Real.log 2 := Real.log_pos one_lt_two

/-- A natural exponential of a score scaled by the logarithm of two is a power of two. -/
theorem exp_scaled (s M : ℝ) :
    Ideal.exp (((s * Real.log 2 : ℝ) : EReal) - (M : EReal)) = ((Real.rpow 2 (s - M / Real.log 2) : ℝ) : EReal) := by
  rw [← EReal.coe_sub]
  show ((Real.exp _ : ℝ) : EReal) = (((2 : ℝ) ^ (s - M / Real.log 2) : ℝ) : EReal)
  rw [Real.rpow_def_of_pos two_pos, mul_sub, mul_div_cancel₀ _ log_two_pos.ne', mul_comm s]

theorem exp_bot_sub (M : ℝ) : Ideal.exp (⊥ - (M : EReal)) = 0 := by
  rw [EReal.bot_sub]; rfl

/-- A sum over the keys, tile by tile. -/
theorem sum_tiles (f : Fin 8192 → EReal) : ∑ K, f K = ∑ kt : Fin 16, ∑ j : Fin 512, f (keyRow kt j) := by
  rw [← Fintype.sum_prod_type' (f := fun (kt : Fin 16) (j : Fin 512) => f (keyRow kt j))]
  refine Fintype.sum_equiv
    { toFun := fun K => ((⟨K.val / 512, by omega⟩ : Fin 16), (⟨K.val % 512, by omega⟩ : Fin 512))
      invFun := fun p => keyRow p.1 p.2
      left_inv := fun K => Fin.ext (by show 512 * (K.val / 512) + K.val % 512 = K.val; omega)
      right_inv := fun p => Prod.ext (Fin.ext (by show (512 * p.1.val + p.2.val) / 512 = p.1.val; omega))
        (Fin.ext (by show (512 * p.1.val + p.2.val) % 512 = p.2.val; omega)) } _ _ fun K => ?_
  exact congrArg f (Fin.ext (by show K.val = 512 * (K.val / 512) + K.val % 512; omega))

/-- A sum over the tiles that ends with tile `T`. -/
theorem sum_upto (T : Fin 16) (g : Fin 16 → EReal) (h : ∀ t, T < t → g t = 0) :
    ∑ t, g t = g T + ∑ t ∈ Finset.range T.val, g (Fin.ofNat 16 t) := by
  have e : ∑ t, g t = ∑ t ∈ Finset.range 16, g (Fin.ofNat 16 t) := by
    rw [Finset.sum_range]
    exact Finset.sum_congr rfl fun t _ => congrArg g (Fin.ext (Nat.mod_eq_of_lt t.isLt).symm)
  have e' : ∑ t ∈ Finset.range (T.val + 1), g (Fin.ofNat 16 t) = ∑ t ∈ Finset.range 16, g (Fin.ofNat 16 t) := by
    refine Finset.sum_subset (Finset.range_subset_range.mpr T.isLt) fun t ht hn => h _ ?_
    rw [Finset.mem_range] at ht hn
    show T.val < t % 16
    omega
  rw [e, ← e', Finset.sum_range_succ, add_comm]
  exact congrArg (· + _) (congrArg g (Fin.ext (Nat.mod_eq_of_lt T.isLt)))

section Row

variable (qr : S16x256x512.Idx → ℝ) (kr : S8192x256.Idx → ℝ) (v : S16x160x512.Idx → EReal)

/-- A query's scaled scores: −∞ for the keys after it. -/
def RowScores (X : Fin 8192 → EReal) (hh : Fin 2) (T : Fin 16) (c : Fin 512) : Prop :=
  ∀ (kt : Fin 16) (j : Fin 512), X (keyRow kt j)
    = if 512 * kt.val + j.val ≤ 512 * T.val + c.val then ((score qr kr hh kt T j c * Real.log 2 : ℝ) : EReal) else ⊥

variable {qr kr v} {X : Fin 8192 → EReal} {hh : Fin 2} {T : Fin 16} {c : Fin 512} (hX : RowScores qr kr X hh T c)

include hX in
/-- The greatest of the scores is a real. -/
theorem row_max : ∃ M : ℝ, Finset.univ.fold max ⊥ X = (M : EReal) := by
  refine fold_max_real X (fun K => ?_) (keyRow T c) ?_
  · have e : K = keyRow ⟨K.val / 512, by omega⟩ ⟨K.val % 512, by omega⟩ :=
      Fin.ext (by show K.val = 512 * (K.val / 512) + K.val % 512; omega)
    rw [e, hX]
    split
    · exact EReal.coe_ne_top _
    · exact bot_ne_top
  · rw [hX, if_pos le_rfl]
    exact EReal.coe_ne_bot _

include hX in
/-- The exponentials, by the key's tile. -/
theorem row_weight (M : ℝ) (kt : Fin 16) (j : Fin 512) :
    Ideal.exp (X (keyRow kt j) - (M : EReal))
      = if kt ≤ T then weight qr kr (decide (kt = T)) hh kt T (M / Real.log 2) j c else 0 := by
  rw [hX]
  unfold weight
  by_cases hlt : kt ≤ T
  · rw [if_pos hlt]
    have hlt' : kt.val ≤ T.val := hlt
    by_cases he : kt = T
    · subst he
      by_cases hj : c.val < j.val
      · rw [if_neg (by omega), if_pos ⟨by simp, hj⟩, exp_bot_sub]
      · rw [if_pos (by omega), if_neg fun h => hj h.2, exp_scaled]
    · have hne : kt.val ≠ T.val := fun h => he (Fin.ext h)
      rw [if_pos (by omega), if_neg fun h => he (of_decide_eq_true h.1), exp_scaled]
  · have hlt' : ¬ kt.val ≤ T.val := hlt
    rw [if_neg hlt, if_neg (by omega), exp_bot_sub]

include hX in
/-- The values, weighted by the exponentials and summed over all keys. -/
theorem row_sum (M : ℝ) (r : Fin 80) (u : Fin 8192 → EReal) (hu : ∀ kt j, u (keyRow kt j) = v (ix3 kt (valRow hh r) j)) :
    ∑ K, u K * Ideal.exp (X K - (M : EReal)) = rowSum qr kr v T.val hh T (M / Real.log 2) r c := by
  rw [sum_tiles]
  simp only [row_weight hX, hu]
  rw [sum_upto T _ fun t ht => Finset.sum_eq_zero fun j _ => by rw [if_neg (not_le.mpr ht), mul_zero]]
  unfold rowSum tileSum
  refine congrArg₂ (· + ·) ?_ (Finset.sum_congr rfl fun t ht => Finset.sum_congr rfl fun j _ => ?_)
  · refine Finset.sum_congr rfl fun j _ => ?_
    rw [if_pos le_rfl, decide_eq_true rfl]
  · have ht' : (Fin.ofNat 16 t).val < T.val := by
      rw [Finset.mem_range] at ht
      show t % 16 < T.val
      omega
    rw [if_pos (show Fin.ofNat 16 t ≤ T from le_of_lt ht'), decide_eq_false fun h => by rw [h] at ht'; exact lt_irrefl _ ht']

include hX in
/-- The attention of a query, the weights normalised before the values are summed. -/
theorem row_attn (h1 : ∀ kt hh j, v (ix3 kt (valRow hh 64) j) = 1) (d : Fin 64) (M : ℝ) (u : Fin 8192 → EReal)
    (hu : ∀ kt j, u (keyRow kt j) = v (ix3 kt (valRow hh ⟨d.val, by omega⟩) j)) :
    ∑ K, u K * Ideal.div (Ideal.exp (X K - (M : EReal))) (∑ K, Ideal.exp (X K - (M : EReal))) = attnAt qr kr v hh T d c := by
  obtain ⟨w, hw, e⟩ := rowSum_ones qr kr v h1 T.val hh T (M / Real.log 2) c
  have hL : ∑ K, Ideal.exp (X K - (M : EReal)) = (w : EReal) := by
    rw [← e, ← row_sum hX M 64 (fun _ => 1) fun kt j => (h1 kt hh j).symm]
    simp only [one_mul]
  rw [hL, ← quotient_eq qr kr v h1 hh T (M / Real.log 2) d c, e, div_real _ w hw, ← row_sum hX M _ u hu,
    coe_mul_sum _ _ (inv_pos.mpr hw).le]
  refine Finset.sum_congr rfl fun K _ => ?_
  rw [div_real _ w hw, mul_left_comm]

end Row

end Cert.Attn

end
-- ==== Proof.Result.lean ====
/-
  The kernel's result array, over the extended reals: point by point each pair of heads' block is filled with the attention
  of the pair, four query tiles at a point, and written back after the fourth.
-/
module

public import proofs.«01_k».proof.Proof.KernelIdealRun
public import proofs.«01_k».proof.Proof.Outs
public import Idealize.ShloMosaic.Lib.Pipeline.ArrRel
public import Idealize.ShloMosaic.Lib.Pipeline.ValueKit

@[expose] public section

set_option synthInstance.maxSize 4096
set_option maxRecDepth 16384

noncomputable section

namespace Cert.Attn

open Cert.KernelIdeal Cert.KernelIdeal.Gen
open Idealize.ShloMosaic Idealize.ShloMosaic.TcCoe
open Idealize.ShloMosaic.Pipeline (Dat RDat)

/-! ## The blocks of a pair of heads -/

section Blocks

variable {α : Type}

/-- The queries' block of batch `b` and pair `h`. -/
def blockQ (x : S64x2048x512.Idx → α) (b : Fin 4) (h : Fin 8) : S16x256x512.Idx → α := fun i =>
  x (ix3 ⟨16 * b.val + (i 0).val, by have : (i 0).val < 16 := (i 0).isLt; omega⟩ ⟨256 * h.val + (i 1).val, by have : (i 1).val < 256 := (i 1).isLt; omega⟩ (i 2))
/-- The keys' block. -/
def blockK (x : S32768x2048.Idx → α) (b : Fin 4) (h : Fin 8) : S8192x256.Idx → α := fun i =>
  x (ix2 ⟨8192 * b.val + (i 0).val, by have : (i 0).val < 8192 := (i 0).isLt; omega⟩ ⟨256 * h.val + (i 1).val, by have : (i 1).val < 256 := (i 1).isLt; omega⟩)
/-- The values' block. -/
def blockV (x : S64x1280x512.Idx → α) (b : Fin 4) (h : Fin 8) : S16x160x512.Idx → α := fun i =>
  x (ix3 ⟨16 * b.val + (i 0).val, by have : (i 0).val < 16 := (i 0).isLt; omega⟩ ⟨160 * h.val + (i 1).val, by have : (i 1).val < 160 := (i 1).isLt; omega⟩ (i 2))

end Blocks

section Target

variable (q : S64x2048x512.Idx → ℝ) (k : S32768x2048.Idx → ℝ) (v : S64x1280x512.Idx → EReal)

theorem ones_lt (h : Fin 16) : 80 * h.val + 64 < 1280 := by omega

/-- Row 64 of each head's values holds ones. -/
def OnesRow : Prop := ∀ (a : Fin 64) (h : Fin 16) (j : Fin 512), v (ix3 a ⟨80 * h.val + 64, ones_lt h⟩ j) = 1

/-- Pair `h` of batch `b`: query `c` of tile `t`, column `d` of the pair's. -/
def pairAttn (b : Fin 4) (h : Fin 8) (t : Fin 16) (c : Fin 512) (d : Fin 128) : EReal :=
  attnAt (blockQ q b h) (blockK k b h) (blockV v b h) (Fin.ofNat 2 (d.val / 64)) t ⟨d.val % 64, by omega⟩ c

/-- The whole result. -/
def attnArr : S32768x1024.Idx → EReal := fun i =>
  pairAttn q k v (Fin.ofNat 4 ((i 0).val / 8192)) (Fin.ofNat 8 ((i 1).val / 128)) (Fin.ofNat 16 ((i 0).val % 8192 / 512))
    (Fin.ofNat 512 ((i 0).val % 512)) (Fin.ofNat 128 ((i 1).val % 128))

end Target

/-! ## The points -/

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, (grid0.coords t 1).val] :=
  (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, (grid0.coords t 1).val] :=
  (by decide +kernel : ∀ t : Fin grid0.N, _)
theorem coords_group : ∀ t : Fin cfg0.N, (grid0.coords t 2).val = t.val % 4 :=
  (by decide +kernel : ∀ t : Fin grid0.N, _)
theorem coords_pred : ∀ t : Fin cfg0.N, t.val % 4 ≠ 0 → ∀ h : t.val - 1 < cfg0.N,
    grid0.coords ⟨t.val - 1, h⟩ 0 = grid0.coords t 0 ∧ grid0.coords ⟨t.val - 1, h⟩ 1 = grid0.coords t 1 :=
  (by decide +kernel : ∀ t : Fin grid0.N, t.val % 4 ≠ 0 → ∀ h : t.val - 1 < grid0.N,
    grid0.coords ⟨t.val - 1, h⟩ 0 = grid0.coords t 0 ∧ grid0.coords ⟨t.val - 1, h⟩ 1 = grid0.coords t 1)
theorem tile_covered : ∀ T : Fin 16, ∃ n u : Fin 4, tileAt n.val u = T := by decide +kernel

section Run

variable (m : (ℓ : Loc nD τ sig) → Buf (Elt Ideal) ℓ) (c : Dev nD)

theorem iblk_q (t : Fin cfg0.N) : (iblk (F := Ideal) m c 0 t : S16x256x512.Idx → EReal)
    = blockQ (m ((c : Thread nD τ).loc main_arg0)) (grid0.coords t 0) (grid0.coords t 1) := by
  funext x
  blk_simp [iblk]
  unfold blockQ
  refine congrArg (m ((c : Thread nD τ).loc main_arg0)) ?_
  blk_ext [idx0]

theorem iblk_k (t : Fin cfg0.N) : (iblk (F := Ideal) m c 1 t : S8192x256.Idx → EReal)
    = blockK (m ((c : Thread nD τ).loc main_arg1)) (grid0.coords t 0) (grid0.coords t 1) := by
  funext x
  blk_simp [iblk]
  unfold blockK
  refine congrArg (m ((c : Thread nD τ).loc main_arg1)) ?_
  blk_ext [idx1]

theorem iblk_v (t : Fin cfg0.N) : (iblk (F := Ideal) m c 2 t : S16x160x512.Idx → EReal)
    = blockV (m ((c : Thread nD τ).loc main_arg2)) (grid0.coords t 0) (grid0.coords t 1) := by
  funext x
  blk_simp [iblk]
  unfold blockV
  refine congrArg (m ((c : Thread nD τ).loc main_arg2)) ?_
  blk_ext [idx2]

/-! ## The result's block from point to point -/

variable (q : S64x2048x512.Idx → ℝ) (k : S32768x2048.Idx → ℝ) (v : S64x1280x512.Idx → EReal)
  (hq : m ((c : Thread nD τ).loc main_arg0) = fun i => ((q i : ℝ) : EReal))
  (hk : m ((c : Thread nD τ).loc main_arg1) = fun i => ((k i : ℝ) : EReal))
  (hv : m ((c : Thread nD τ).loc main_arg2) = v)
  (h1 : OnesRow v)

include hq hk hv in
theorem reads_before (t : Fin cfg0.N) (Y : S8192x128.Idx → EReal) (acc mx s mb) :
    Reads (blockQ q (grid0.coords t 0) (grid0.coords t 1)) (blockK k (grid0.coords t 0) (grid0.coords t 1))
      (blockV v (grid0.coords t 0) (grid0.coords t 1)) (Hand.before (F := Ideal) m c t Y acc mx s mb) := by
  refine ⟨?_, ?_, ?_⟩
  · refine (iblk_q m c t).trans ?_
    rw [hq]; rfl
  · refine (iblk_k m c t).trans ?_
    rw [hk]; rfl
  · refine (iblk_v m c t).trans ?_
    rw [hv]

include h1 in
theorem block_ones (b : Fin 4) (h : Fin 8) (kt : Fin 16) (hh : Fin 2) (j : Fin 512) : blockV v b h (ix3 kt (valRow hh 64) j) = 1 := by
  refine Eq.trans (congrArg v ?_) (h1 ⟨16 * b.val + kt.val, by omega⟩ ⟨2 * h.val + hh.val, by omega⟩ j)
  refine congrArg₂ (fun x y => ix3 x y j) rfl (Fin.ext ?_)
  show 160 * h.val + (80 * hh.val + 64) = 80 * (2 * h.val + hh.val) + 64
  omega

theorem mask_eq : (Hand.mask (F := Ideal) : EReal) = ⊥ := rfl

include hq hk hv h1 in
/-- What a point may leave of the result's block: the attention of the tiles that it and the points before it, of the same
pair of heads, have. -/
theorem leaves_val (n : ℕ) : ∀ (t : Fin cfg0.N), t.val = n → ∀ X : S8192x128.Idx → EReal, (Hand.rdat (F := Ideal) m c).Leaves 3 t X →
    ∀ (g : ℕ) (u : Fin 4), g ≤ (grid0.coords t 2).val → ∀ (e : Fin 512) (d : Fin 128),
      X (ix2 (keyRow (tileAt g u) e) d) = pairAttn q k v (grid0.coords t 0) (grid0.coords t 1) (tileAt g u) e d := by
  induction n with
  | zero =>
    rintro t ht X ⟨Y, -, acc, mx, s, mb, rfl⟩ g u hg e d
    have hc : (grid0.coords t 2).val = 0 := by rw [coords_group, ht]
    have hg0 : g = (grid0.coords t 2).val := by omega
    subst hg0
    exact body_in (block_ones v h1 _ _) (reads_before m c q k v hq hk hv t Y acc mx s mb) (grid0.coords t) u e d
  | succ n ih =>
    rintro t ht X ⟨Y, hY, acc, mx, s, mb, rfl⟩ g u hg e d
    by_cases hin : ∃ u' : Fin 4, tileAt g u = tileAt (grid0.coords t 2).val u'
    · obtain ⟨u', e'⟩ := hin
      rw [e']
      exact body_in (block_ones v h1 _ _) (reads_before m c q k v hq hk hv t Y acc mx s mb) (grid0.coords t) u' e d
    · have hlt : g < (grid0.coords t 2).val := lt_of_le_of_ne hg fun h => hin ⟨u, by rw [h]⟩
      have h4 : t.val % 4 ≠ 0 := by rw [← coords_group]; omega
      refine (body_out (reads_before m c q k v hq hk hv t Y acc mx s mb) (grid0.coords t) (tileAt g u) (fun u' h => hin ⟨u', h⟩) e d).trans ?_
      have hb : t.val - 1 < cfg0.N := Nat.lt_of_le_of_lt (Nat.sub_le _ _) t.isLt
      have hf := (RDat.finds_of_pos (Hand.rdat (F := Ideal) m c) (w := 3) (t := t) rfl (by omega) Y).mp hY
      have hfl : (cfg0.win 3).flush ⟨t.val - 1, hb⟩ ≠ true := fun h => by
        have := (flush0_3 ⟨t.val - 1, hb⟩).mp h
        have : (t.val - 1) % 4 = 3 := this
        omega
      have hl := hf.resolve_left hfl
      obtain ⟨c0, c1⟩ := coords_pred t h4 hb
      have c2 : (grid0.coords ⟨t.val - 1, hb⟩ 2).val = (t.val - 1) % 4 := coords_group ⟨t.val - 1, hb⟩
      have c2' := coords_group t
      have := ih ⟨t.val - 1, hb⟩ (by show t.val - 1 = n; omega) Y hl g u (by rw [c2]; omega) e d
      rw [c0, c1] at this
      exact this

variable {m}

include hq hk hv h1 in
/-- The kernel's result. -/
theorem result_eq {r} (h : Pipeline.RDat.FramePost (cfgs 0) (Hand.rdat (F := Ideal) m) (V m) r) :
    r.2.mem ((c : Thread nD τ).loc main_v0) = attnArr q k v := by
  obtain ⟨after, hl, ha⟩ := h.exists_exact c
  refine (ha 3).trans ?_
  refine ((Hand.rdat (F := Ideal) m c).withAfter after).arrAt_eq_of_covers 3 (attnArr q k v) (by decide +kernel) fun t hf y => ?_
  blk_simp
  have hfl := (flush0_3 t).mp hf
  have h3 : (grid0.coords t 2).val = 3 := by rw [coords_group, hfl]
  obtain ⟨n, u, hT⟩ := tile_covered (Fin.ofNat 16 ((y 0).val / 512))
  have hX := leaves_val m c q k v hq hk hv h1 t.val t rfl (after 3 t) (hl 3 t hf) n.val u (by omega)
  have b0 : (y 0).val < 8192 := (y 0).isLt
  have b1 : (y 1).val < 128 := (y 1).isLt
  have g0 : (grid0.coords t 0).val < 4 := (grid0.coords t 0).isLt
  have g1 : (grid0.coords t 1).val < 8 := (grid0.coords t 1).isLt
  have e0 : (((win0_3.blk t).view.emb y) 0 : ℕ) = (grid0.coords t 0).val * 8192 + (y 0).val := by blk_simp [idx3]
  have e1 : (((win0_3.blk t).view.emb y) 1 : ℕ) = (grid0.coords t 1).val * 128 + (y 1).val := by blk_simp [idx3]
  have hy : y = ix2 (keyRow (tileAt n.val u) ⟨(y 0).val % 512, by omega⟩) (⟨(y 1).val, b1⟩ : Fin 128) := by
    rw [hT]
    funext a
    match a with
    | 0 => exact Fin.ext (by show (y 0).val = 512 * ((y 0).val / 512 % 16) + (y 0).val % 512; omega)
    | 1 => rfl
  refine (congrArg (after 3 t) hy).trans ((hX _ _).trans ?_)
  unfold attnArr
  rw [e0, e1, hT]
  have f0 : Fin.ofNat 4 (((grid0.coords t 0).val * 8192 + (y 0).val) / 8192) = grid0.coords t 0 :=
    Fin.ext (by show ((grid0.coords t 0).val * 8192 + (y 0).val) / 8192 % 4 = (grid0.coords t 0).val; omega)
  have f1 : Fin.ofNat 8 (((grid0.coords t 1).val * 128 + (y 1).val) / 128) = grid0.coords t 1 :=
    Fin.ext (by show ((grid0.coords t 1).val * 128 + (y 1).val) / 128 % 8 = (grid0.coords t 1).val; omega)
  have f2 : ((grid0.coords t 0).val * 8192 + (y 0).val) % 8192 = (y 0).val := by omega
  have f3 : Fin.ofNat 512 (((grid0.coords t 0).val * 8192 + (y 0).val) % 512) = ⟨(y 0).val % 512, by omega⟩ :=
    Fin.ext (by show ((grid0.coords t 0).val * 8192 + (y 0).val) % 512 % 512 = (y 0).val % 512; omega)
  have f4 : Fin.ofNat 128 (((grid0.coords t 1).val * 128 + (y 1).val) % 128) = ⟨(y 1).val, b1⟩ :=
    Fin.ext (by show ((grid0.coords t 1).val * 128 + (y 1).val) % 128 % 128 = (y 1).val; omega)
  rw [f0, f1, f2, f3, f4]

end Run

end Cert.Attn

end
-- ==== Proof.Reference.lean ====
/-
  The reference's result over the extended reals: its operations read at an index, and each query's row taken to the
  attention that the kernel leaves.
-/
module

public import proofs.«01_k».proof.Proof.Gen.ReferenceIdeal.Run
public import proofs.«01_k».proof.Proof.Row
public import proofs.«01_k».proof.Proof.Result
public import Idealize.ShloMosaic.Lib.Pointwise

@[expose] public section

set_option maxRecDepth 16384
set_option synthInstance.maxSize 4096

noncomputable section

namespace Cert.Attn

open Cert.ReferenceIdeal Cert.ReferenceIdeal.Gen
open Idealize.ShloMosaic Idealize.ShloMosaic.TcCoe

/-! ## The reference in pieces -/

/-- The queries, by batch, position, head and coordinate. -/
def refQ (q : FVec Ideal S64x2048x512 .bf16) : FVec Ideal S4x8192x16x128 .f32 :=
  extf .f32 (shapeCast _ (transpose S4x16x512x16x128 [0, 1, 4, 2, 3] (shapeCast _ q shapeCasts_S64x2048x512_S4x16x16x128x512)
    transposes_S4x16x16x128x512_S4x16x512x16x128_0_1_4_2_3) shapeCasts_S4x16x512x16x128_S4x8192x16x128) bitsLt_bf16_f32
/-- The keys. -/
def refK (k : FVec Ideal S32768x2048 .bf16) : FVec Ideal S4x8192x16x128 .f32 :=
  extf .f32 (shapeCast _ k shapeCasts_S32768x2048_S4x8192x16x128) bitsLt_bf16_f32
/-- The values, without the row of ones. -/
def refV (v : FVec Ideal S64x1280x512 .bf16) : FVec Ideal S4x8192x16x64 .f32 :=
  extf .f32 (shapeCast _ (transpose S4x16x512x16x64 [0, 1, 4, 2, 3] (extractStridedSlice S4x16x16x64x512 ![0, 0, 0, 0, 0]
    (shapeCast _ v shapeCasts_S64x1280x512_S4x16x16x80x512) slices_S4x16x16x80x512_S4x16x16x64x512_0_0_0_0_0)
    transposes_S4x16x16x64x512_S4x16x512x16x64_0_1_4_2_3) shapeCasts_S4x16x512x16x64_S4x8192x16x64) bitsLt_bf16_f32
/-- The masked scores. -/
def refScore (q : FVec Ideal S64x2048x512 .bf16) (k : FVec Ideal S32768x2048 .bf16) : FVec Ideal S4x16x8192x8192 .f32 :=
  select (broadcastInDim S4x16x8192x8192 ![2, 3] bcast_S8192x8192_S4x16x8192x8192_2_3 (cmpi .sle (broadcastInDim S8192x8192
    ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0
    (iotaInDim S8192 32 0))))) (mulf (Host.dotGeneral dot_S4x8192x16x128_S4x8192x16x128_S4x16x8192x8192_3_3_1_1_02_02 none
    (refQ q) (refK k)) (broadcastInDim S4x16x8192x8192 ![] bcast_S_S4x16x8192x8192 (Host.log (constant (F := Ideal) S_ .f32
    0x40000000#32)))) (broadcastInDim S4x16x8192x8192 ![] bcast_S_S4x16x8192x8192 (id (constant (F := Ideal) S_ .f32
    0xFF800000#32)))
/-- The greatest score of a query. -/
def refMax (X : FVec Ideal S4x16x8192x8192 .f32) : FVec Ideal S4x16x8192 .f32 :=
  maximumf (broadcastInDim S4x16x8192 ![] bcast_S_S4x16x8192 (constant (F := Ideal) S_ .f32 0xFF800000#32)) (Host.reduce
    FloatOps.maximumf X (constant (F := Ideal) S_ .f32 0xFF800000#32) reducesTo_S4x16x8192x8192_S4x16x8192_d3 h_S_)
/-- The exponentials, relative to the greatest. -/
def refExp (X : FVec Ideal S4x16x8192x8192 .f32) : FVec Ideal S4x16x8192x8192 .f32 :=
  Host.exp (subf X (broadcastInDim S4x16x8192x8192 ![0, 1, 2, 3] bcast_S4x16x8192x1_S4x16x8192x8192_0_1_2_3 (broadcastInDim
    S4x16x8192x1 ![0, 1, 2] bcast_S4x16x8192_S4x16x8192x1_0_1_2 (refMax X))))
/-- The weights: the exponentials over their sum. -/
def refSoft (X : FVec Ideal S4x16x8192x8192 .f32) : FVec Ideal S4x16x8192x8192 .f32 :=
  Host.divf (refExp X) (broadcastInDim S4x16x8192x8192 ![0, 1, 2, 3] bcast_S4x16x8192x1_S4x16x8192x8192_0_1_2_3
    (broadcastInDim S4x16x8192x1 ![0, 1, 2] bcast_S4x16x8192_S4x16x8192x1_0_1_2 (Host.reduceAdd (refExp X) (constant (F :=
    Ideal) S_ .f32 0x00000000#32) reducesTo_S4x16x8192x8192_S4x16x8192_d3 h_S_)))
/-- The values, weighted and summed. -/
def refOut (v : FVec Ideal S64x1280x512 .bf16) (W : FVec Ideal S4x16x8192x8192 .f32) : FVec Ideal S32768x1024 .bf16 :=
  truncf .bf16 (shapeCast _ (transpose S4x8192x16x64 [0, 3, 1, 2] (Host.dotGeneral
    dot_S4x8192x16x64_S4x16x8192x8192_S4x16x64x8192_1_3_3_2_02_01 none (refV v) W)
    transposes_S4x16x64x8192_S4x8192x16x64_0_3_1_2) shapeCasts_S4x8192x16x64_S32768x1024) bitsLt_bf16_f32

theorem res_split (m : (ℓ : Loc nD τ sig) → Buf (Elt Ideal) ℓ) (c : Dev nD) :
    (Value.res_main_v36 (F := Ideal) m c : S32768x1024.Idx → EReal)
      = refOut (m ((c.tc : Thread nD τ).loc main_arg2))
        (refSoft (refScore (m ((c.tc : Thread nD τ).loc main_arg0)) (m ((c.tc : Thread nD τ).loc main_arg1)))) := rfl

/-! ## The pieces at an index -/

theorem refQ_apply (q : FVec Ideal S64x2048x512 .bf16) (b : Fin 4) (Q : Fin 8192) (h : Fin 16) (e : Fin 128) :
    refQ q (ix4 b Q h e) = q (ix3 ⟨b.val * 16 + Q.val / 512, by omega⟩ ⟨h.val * 128 + e.val, by omega⟩ ⟨Q.val % 512, by omega⟩) := by
  pointwise [refQ]

theorem refK_apply (k : FVec Ideal S32768x2048 .bf16) (b : Fin 4) (K : Fin 8192) (h : Fin 16) (e : Fin 128) :
    refK k (ix4 b K h e) = k (ix2 ⟨b.val * 8192 + K.val, by omega⟩ ⟨h.val * 128 + e.val, by omega⟩) := by
  pointwise [refK]

theorem refV_apply (v : FVec Ideal S64x1280x512 .bf16) (b : Fin 4) (K : Fin 8192) (h : Fin 16) (d : Fin 64) :
    refV v (ix4 b K h d) = v (ix3 ⟨b.val * 16 + K.val / 512, by omega⟩ ⟨h.val * 80 + d.val, by omega⟩ ⟨K.val % 512, by omega⟩) := by
  pointwise [refV]

theorem neg_inf : Ideal.ofBits .f32 0xFF800000#32 = ⊥ := by simp [Ideal.ofBits, Ideal.ieee]

theorem two_bits : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [two_bits]
  exact if_neg (by norm_num)

theorem refScore_apply (q : FVec Ideal S64x2048x512 .bf16) (k : FVec Ideal S32768x2048 .bf16) (b : Fin 4) (Q K : Fin 8192) (h : Fin 16) :
    refScore q k (ix4 b h Q K) = if K.val ≤ Q.val
      then (∑ e : Fin 128, refQ q (ix4 b Q h e) * refK k (ix4 b K h e)) * ((Real.log 2 : ℝ) : EReal) else ⊥ := by
  pointwise [refScore]
  rw [select_sle K.isLt Q.isLt, log_two]
  exact congrArg (fun z => if K.val ≤ Q.val then _ else z) neg_inf

/-- A maximum over the last of four axes. -/
theorem hostMax_last {n0 n1 n2 n3 : ℕ} {u : Shape} (X : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (i0 : Fin n0) (i1 : Fin n1) (i2 : Fin n2) :
    Host.reduce FloatOps.maximumf X c h hu (ix3 i0 i1 i2)
      = Finset.univ.fold max (c (Shape.Idx.first hu)) fun K : Fin n3 => X (ix4 i0 i1 i2 K) :=
  (Host.reduce_eq_fold _ X c h hu _).trans (h.fold_fiber_r4_a3 _ _ _ X)

theorem hostMax_scores (X : FVec Ideal S4x16x8192x8192 .f32) (c : FVec Ideal S_ .f32) (b : Fin 4) (Q : Fin 8192) (h : Fin 16) :
    Host.reduce FloatOps.maximumf X c reducesTo_S4x16x8192x8192_S4x16x8192_d3 h_S_ (ix3 b h Q)
      = Finset.univ.fold max (c (Shape.Idx.first h_S_)) fun K : Fin 8192 => X (ix4 b h Q K) :=
  hostMax_last X c reducesTo_S4x16x8192x8192_S4x16x8192_d3 h_S_ b h Q

theorem max_bound (R : FVec Ideal S4x16x8192 .f32) (j : S4x16x8192.Idx) :
    maximumf (broadcastInDim S4x16x8192 ![] bcast_S_S4x16x8192 (constant (F := Ideal) S_ .f32 0xFF800000#32)) R j = max ⊥ (R j) := by
  pointwise
  rw [neg_inf]

theorem const_neg_inf (s : Shape) (j : s.Idx) : constant (F := Ideal) s .f32 0xFF800000#32 j = (⊥ : EReal) := by
  pointwise
  rw [neg_inf]

theorem refMax_read (X : FVec Ideal S4x16x8192x8192 .f32) (j : S4x16x8192.Idx) :
    refMax X j = max ⊥ (Host.reduce FloatOps.maximumf X (constant (F := Ideal) S_ .f32 0xFF800000#32)
      reducesTo_S4x16x8192x8192_S4x16x8192_d3 h_S_ j) := by
  unfold refMax
  exact max_bound _ j

theorem refMax_apply (X : FVec Ideal S4x16x8192x8192 .f32) (b : Fin 4) (Q : Fin 8192) (h : Fin 16) :
    refMax X (ix3 b h Q) = Finset.univ.fold max ⊥ fun K => X (ix4 b h Q K) := by
  rw [refMax_read, hostMax_scores, const_neg_inf]
  exact max_eq_right bot_le

theorem refExp_apply (X : FVec Ideal S4x16x8192x8192 .f32) (b : Fin 4) (Q K : Fin 8192) (h : Fin 16) :
    refExp X (ix4 b h Q K) = Ideal.exp (X (ix4 b h Q K) - refMax X (ix3 b h Q)) := by
  pointwise [refExp]

theorem refSoft_apply (X : FVec Ideal S4x16x8192x8192 .f32) (b : Fin 4) (Q K : Fin 8192) (h : Fin 16) :
    refSoft X (ix4 b h Q K) = Ideal.div (refExp X (ix4 b h Q K)) (∑ K, refExp X (ix4 b h Q K)) := by
  pointwise [refSoft]

theorem refOut_apply (v : FVec Ideal S64x1280x512 .bf16) (W : FVec Ideal S4x16x8192x8192 .f32) (b : Fin 4) (Q : Fin 8192) (h : Fin 16)
    (d : Fin 64) :
    refOut v W (ix2 ⟨8192 * b.val + Q.val, by omega⟩ ⟨64 * h.val + d.val, by omega⟩)
      = ∑ K : Fin 8192, refV v (ix4 b K h d) * W (ix4 b h Q K) := by
  pointwise [refOut]

/-! ## A query's row -/

section Value

variable (q : S64x2048x512.Idx → ℝ) (k : S32768x2048.Idx → ℝ) (v : S64x1280x512.Idx → EReal)

/-- Head `hh` of pair `hp`. -/
def headOf (hp : Fin 8) (hh : Fin 2) : Fin 16 := ⟨2 * hp.val + hh.val, by omega⟩

theorem scores_row (b : Fin 4) (hp : Fin 8) (hh : Fin 2) (T : Fin 16) (c : Fin 512) :
    RowScores (blockQ q b hp) (blockK k b hp)
      (fun K => refScore (fun i => ((q i : ℝ) : EReal)) (fun i => ((k i : ℝ) : EReal)) (ix4 b (headOf hp hh) (keyRow T c) K)) hh T c := by
  intro kt j
  show refScore _ _ _ = _
  rw [refScore_apply]
  refine if_congr Iff.rfl ?_ rfl
  rw [EReal.coe_mul]
  refine congrArg (· * ((Real.log 2 : ℝ) : EReal)) ?_
  unfold score
  rw [← dot_real]
  refine Finset.sum_congr rfl fun e _ => ?_
  rw [refQ_apply, refK_apply, mul_comm]
  unfold blockQ blockK
  refine congrArg₂ (· * ·) (congrArg (fun i => ((k i : ℝ) : EReal)) ?_) (congrArg (fun i => ((q i : ℝ) : EReal)) ?_)
  · refine congrArg₂ ix2 (Fin.ext ?_) (Fin.ext ?_)
    · show b.val * 8192 + (512 * kt.val + j.val) = 8192 * b.val + (512 * kt.val + j.val)
      omega
    · show (2 * hp.val + hh.val) * 128 + e.val = 256 * hp.val + (128 * hh.val + e.val)
      omega
  · refine congr (congrArg₂ ix3 (Fin.ext ?_) (Fin.ext ?_)) (Fin.ext ?_)
    · show b.val * 16 + (512 * T.val + c.val) / 512 = 16 * b.val + T.val
      omega
    · show (2 * hp.val + hh.val) * 128 + e.val = 256 * hp.val + (128 * hh.val + e.val)
      omega
    · show (512 * T.val + c.val) % 512 = c.val
      omega

theorem values_row (b : Fin 4) (hp : Fin 8) (hh : Fin 2) (d : Fin 64) (kt : Fin 16) (j : Fin 512) :
    refV v (ix4 b (keyRow kt j) (headOf hp hh) d) = blockV v b hp (ix3 kt (valRow hh ⟨d.val, by omega⟩) j) := by
  rw [refV_apply]
  unfold blockV
  refine congrArg v (congr (congrArg₂ ix3 (Fin.ext ?_) (Fin.ext ?_)) (Fin.ext ?_))
  · show b.val * 16 + (512 * kt.val + j.val) / 512 = 16 * b.val + kt.val
    omega
  · show (2 * hp.val + hh.val) * 80 + d.val = 160 * hp.val + (80 * hh.val + d.val)
    omega
  · show (512 * kt.val + j.val) % 512 = j.val
    omega

variable (h1 : OnesRow v)

include h1 in
theorem ref_row (b : Fin 4) (hp : Fin 8) (hh : Fin 2) (T : Fin 16) (c : Fin 512) (d : Fin 64) :
    refOut v (refSoft (refScore (fun i => ((q i : ℝ) : EReal)) (fun i => ((k i : ℝ) : EReal))))
        (ix2 ⟨8192 * b.val + (keyRow T c).val, by omega⟩ ⟨64 * (headOf hp hh).val + d.val, by omega⟩)
      = attnAt (blockQ q b hp) (blockK k b hp) (blockV v b hp) hh T d c := by
  obtain ⟨M, hM⟩ := row_max (scores_row q k b hp hh T c)
  rw [refOut_apply]
  simp only [refSoft_apply, refExp_apply, refMax_apply]
  rw [hM]
  exact row_attn (scores_row q k b hp hh T c) (block_ones v h1 b hp) d M _ (values_row v b hp hh d)

include h1 in
/-- The reference's result is the attention that the kernel leaves. -/
theorem ref_value : refOut v (refSoft (refScore (fun i => ((q i : ℝ) : EReal)) (fun i => ((k i : ℝ) : EReal)))) = attnArr q k v := by
  funext i
  have h0 : (i 0).val < 32768 := (i 0).isLt
  have h1' : (i 1).val < 1024 := (i 1).isLt
  have e := ref_row q k v h1 ⟨(i 0).val / 8192, by omega⟩ ⟨(i 1).val / 128, by omega⟩ ⟨(i 1).val % 128 / 64, by omega⟩
    ⟨(i 0).val % 8192 / 512, by omega⟩ ⟨(i 0).val % 512, by omega⟩ ⟨(i 1).val % 64, by omega⟩
  have ei : (ix2 ⟨8192 * ((i 0).val / 8192) + (512 * ((i 0).val % 8192 / 512) + (i 0).val % 512), by omega⟩
      ⟨64 * (2 * ((i 1).val / 128) + (i 1).val % 128 / 64) + (i 1).val % 64, by omega⟩ : S32768x1024.Idx) = i := by
    refine Eq.trans ?_ (eq_ix2 i).symm
    refine congrArg₂ ix2 (Fin.ext ?_) (Fin.ext ?_)
    · show 8192 * ((i 0).val / 8192) + (512 * ((i 0).val % 8192 / 512) + (i 0).val % 512) = (i 0).val
      omega
    · show 64 * (2 * ((i 1).val / 128) + (i 1).val % 128 / 64) + (i 1).val % 64 = (i 1).val
      omega
  refine (congrArg _ ei.symm).trans (e.trans ?_)
  unfold attnArr pairAttn
  have a0 : (Fin.ofNat 4 ((i 0).val / 8192)) = (⟨(i 0).val / 8192, by omega⟩ : Fin 4) := Fin.ext (Nat.mod_eq_of_lt (by omega))
  have a1 : (Fin.ofNat 8 ((i 1).val / 128)) = (⟨(i 1).val / 128, by omega⟩ : Fin 8) := Fin.ext (Nat.mod_eq_of_lt (by omega))
  have a2 : (Fin.ofNat 16 ((i 0).val % 8192 / 512)) = (⟨(i 0).val % 8192 / 512, by omega⟩ : Fin 16) :=
    Fin.ext (Nat.mod_eq_of_lt (by omega))
  have a3 : (Fin.ofNat 512 ((i 0).val % 512)) = (⟨(i 0).val % 512, by omega⟩ : Fin 512) := Fin.ext (Nat.mod_eq_of_lt (by omega))
  have a4 : (Fin.ofNat 2 ((Fin.ofNat 128 ((i 1).val % 128)).val / 64)) = (⟨(i 1).val % 128 / 64, by omega⟩ : Fin 2) :=
    Fin.ext (by show (i 1).val % 128 % 128 / 64 % 2 = (i 1).val % 128 / 64; omega)
  have a5 : (⟨(Fin.ofNat 128 ((i 1).val % 128)).val % 64, by omega⟩ : Fin 64) = ⟨(i 1).val % 64, by omega⟩ :=
    Fin.ext (by show (i 1).val % 128 % 128 % 64 = (i 1).val % 64; omega)
  rw [a0, a1, a2, a3, a4, a5]

end Value

end Cert.Attn

end
-- ==== Proof.Given.lean ====
/-
  What the precondition gives: real queries and keys, and the row of ones below each head's values.
-/
module

public import proofs.«01_k».proof.Proof.Gen.Pre_finite_with_ones
public import proofs.«01_k».proof.Proof.Weights
public import proofs.«01_k».proof.Proof.Result
public import Idealize.ShloMosaic.Lib.Pointwise

@[expose] public section

set_option synthInstance.maxSize 4096

noncomputable section

namespace Cert.Attn

open Cert.Pre_finite_with_ones Cert.Pre_finite_with_ones.Gen
open Idealize.ShloMosaic

theorem inf_bits : Ideal.ofBits .bf16 0x7F80#16 = ⊤ := by simp [Ideal.ofBits, Ideal.ieee]

/-- A number whose absolute value lies below ∞ is a real. -/
theorem real_of_abs_lt {x : EReal} (h : max x (-x) < ⊤) : ∃ r : ℝ, x = r := by
  refine exists_real (fun e => ?_) (fun e => ?_)
  · rw [e] at h
    exact absurd (lt_of_le_of_lt (le_max_left _ _) h) (lt_irrefl _)
  · rw [e] at h
    exact absurd (lt_of_le_of_lt (le_max_right _ _) h) (by simp)

theorem of_bit {p : Prop} [Decidable p] (h : BitVec.ofBool (decide p) = 1#1) : p := by
  by_contra hn
  rw [decide_eq_false hn] at h
  exact absurd h (by decide)

variable {x : FVec Ideal S64x2048x512 .bf16} {y : FVec Ideal S32768x2048 .bf16} {v : FVec Ideal S64x1280x512 .bf16}

theorem queries_real (h : (fn (F := Ideal) x y v).1 = fun _ => 1#1) : ∃ q : S64x2048x512.Idx → ℝ, x = fun i => ((q i : ℝ) : EReal) := by
  have : ∀ i, ∃ r : ℝ, (x i : EReal) = r := fun i => by
    have hi := congrFun h i
    revert hi
    pointwise [fn]
    rw [inf_bits]
    exact fun hi => real_of_abs_lt (of_bit hi)
  choose q hq using this
  exact ⟨q, funext hq⟩

theorem keys_real (h : (fn (F := Ideal) x y v).2.1 = fun _ => 1#1) : ∃ k : S32768x2048.Idx → ℝ, y = fun i => ((k i : ℝ) : EReal) := by
  have : ∀ i, ∃ r : ℝ, (y i : EReal) = r := fun i => by
    have hi := congrFun h i
    revert hi
    pointwise [fn]
    rw [inf_bits]
    exact fun hi => real_of_abs_lt (of_bit hi)
  choose k hk using this
  exact ⟨k, funext hk⟩

theorem ones_row (h : (fn (F := Ideal) x y v).2.2 = fun _ => 1#1) : OnesRow v := fun a g j => by
  have hi := congrFun h (ix3 a g j)
  revert hi
  pointwise [fn]
  refine fun hi => Eq.trans (congrArg v ?_) (of_bit hi)
  refine congrArg₂ (fun s t => ix3 s t j) rfl (Fin.ext ?_)
  show 80 * g.val + 64 = g.val * 80 + 64
  omega

end Cert.Attn

end
-- ==== Proof.MergeSpec.lean ====
/-
  The merge over the extended reals, entry by entry: the gated sum of the three branches' products, its projection, and the
  normalisation of a row. The attention branch's gate, which the kernel computes by the hyperbolic tangent, is `z σ(z)`.
-/
module

public import Idealize.ShloMosaic.Lib.Pointwise

@[expose] public section

noncomputable section

namespace Cert.Merge

open Idealize.ShloMosaic

theorem half_bits : Ideal.ofBits .f32 0x3F000000#32 = ((1 / 2 : ℝ) : EReal) := by
  simp [Ideal.ofBits, Ideal.ieee]
  rw [← EReal.coe_mul]
  norm_num

/-- With `h = z / 2`, the numbers `h tanh h + h` and `z / (1 + exp (-z))` are the same. -/
theorem silu_real (z : ℝ) : 1 / 2 * z * Real.tanh (1 / 2 * z) + 1 / 2 * z = z * (1 + Real.exp (-z))⁻¹ := by
  have hp : 0 < Real.exp (1 / 2 * z) := Real.exp_pos _
  have hz : Real.exp (-z) = (Real.exp (1 / 2 * z))⁻¹ * (Real.exp (1 / 2 * z))⁻¹ := by
    rw [← Real.exp_neg, ← Real.exp_add]
    congr 1
    ring
  have hn : Real.exp (-(1 / 2 * z)) = (Real.exp (1 / 2 * z))⁻¹ := Real.exp_neg _
  rw [Real.tanh_eq_sinh_div_cosh, Real.sinh_eq, Real.cosh_eq, hz, hn]
  generalize Real.exp (1 / 2 * z) = p at hp
  have h1 : p ^ 2 + 1 ≠ 0 := by positivity
  field_simp
  ring

theorem silu_ideal (z : ℝ) : Ideal.ofBits .f32 0x3F000000#32 * (z : EReal) * Ideal.tanh (Ideal.ofBits .f32 0x3F000000#32 * (z : EReal))
      + Ideal.ofBits .f32 0x3F000000#32 * (z : EReal) = (z : EReal) * Ideal.logistic (z : EReal) := by
  rw [half_bits, ← EReal.coe_mul, Ideal.tanh_coe, ← EReal.coe_mul, ← EReal.coe_add, silu_real, EReal.coe_mul, Ideal.logistic_coe]

variable (ya yb yc : Fin 1024 → EReal) (ga gb gc : Fin 1024 → EReal) (wa wb wc wo : Fin 1024 → Fin 1024 → EReal)

/-- The gated sum of the branches' products, of a row. -/
def mixed (j : Fin 1024) : EReal :=
  Ideal.logistic (ga j) * (∑ e, ya e * wa e j) + Ideal.logistic (gb j) * (∑ e, yb e * wb e j)
    + Ideal.logistic (gc j) * (∑ e, yc e * wc e j)

/-- Its projection. -/
def proj (n : Fin 1024) : EReal := ∑ j, mixed ya yb yc ga gb gc wa wb wc j * wo j n

/-- A row scaled to mean square one, by the weight `g`. -/
def normed (x : Fin 1024 → EReal) (g : Fin 1024 → EReal) (n : Fin 1024) : EReal :=
  x n * Ideal.rsqrt (Ideal.div (∑ k, x k * x k) (Ideal.ofBits .f32 0x44800000#32) + Ideal.ofBits .f32 0x358637BD#32) * g n

/-- A row of the result. -/
def rowOut (x g : Fin 1024 → EReal) (n : Fin 1024) : EReal := x n + normed (proj ya yb yc ga gb gc wa wb wc wo) g n

end Cert.Merge

end
-- ==== Proof.MergeBody.lean ====
/-
  What the merge kernel's body stores, at an index: the row of the merge over the loaded blocks.
-/
module

public import proofs.«01_k».proof.Proof.Gen.Kernel2Ideal.Value
public import proofs.«01_k».proof.Proof.MergeSpec
public import Idealize.ShloMosaic.Lib.Pointwise
public import Idealize.ShloMosaic.Lib.Pipeline.ValueKit

@[expose] public section

set_option maxRecDepth 16384
set_option synthInstance.maxSize 4096

noncomputable section

namespace Cert.Merge

open Cert.Kernel2Ideal Cert.Kernel2Ideal.Gen
open Idealize.ShloMosaic Idealize.ShloMosaic.TcCoe

/-- A product of a tile with a weight. -/
def tileDot (x : FVec Ideal S512x1024 .bf16) (w : FVec Ideal S1x1x1024x1024 .bf16) : FVec Ideal S512x1024 .f32 :=
  matmul dot_S512x1024_S1024x1024_S512x1024_1_0_0_1_n_n none x (shapeCast S1024x1024 w shapeCasts_S1x1x1024x1024_S1024x1024)
    (constant (F := Ideal) S512x1024 .f32 0x00000000#32)

theorem tileDot_apply (x : FVec Ideal S512x1024 .bf16) (w : FVec Ideal S1x1x1024x1024 .bf16) (r : Fin 512) (j : Fin 1024) :
    tileDot x w (ix2 r j) = ∑ e : Fin 1024, x (ix2 r e) * w (ix4 0 0 e j) := by
  pointwise [tileDot]

/-- A tile's rows normalised. -/
def tileNorm (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits (F := Ideal) .f32 0x44800000#32)))
    (broadcast S512x1 (Scalar.ofBits (F := Ideal) .f32 0x358637BD#32)))) broadcasts_S512x1_S512x1024)) (broadcastTo S512x1024 g broadcasts_S1x1024_S512x1024)

theorem tileNorm_apply (x : FVec Ideal S512x1024 .f32) (g : FVec Ideal S1x1024 .f32) (r : Fin 512) (n : Fin 1024) :
    tileNorm x g (ix2 r n) = normed (fun k => x (ix2 r k)) (fun k => g (ix2 0 k)) n := by
  pointwise [tileNorm]
  rfl

theorem pay2_apply (o z : FVec Ideal S512x1024 .bf16) (r : Fin 512) (e : Fin 1024) :
    k0_pay2 (F := Ideal) o z (ix2 r e) = o (ix2 r e) * (Ideal.ofBits .f32 0x3F000000#32 * z (ix2 r e)
      * Ideal.tanh (Ideal.ofBits .f32 0x3F000000#32 * z (ix2 r e)) + Ideal.ofBits .f32 0x3F000000#32 * z (ix2 r e)) := by
  pointwise [k0_pay2]

theorem pay4_apply (g : FVec Ideal S512x1024 .bf16) (i : S512x1024.Idx) : k0_pay4 (F := Ideal) g i = Ideal.logistic (g i) := by
  pointwise [k0_pay4]

theorem pay3_split (ga ya : FVec Ideal S512x1024 .bf16) (wa : FVec Ideal S1x1x1024x1024 .bf16) (gb yb : FVec Ideal S512x1024 .bf16)
    (wb : FVec Ideal S1x1x1024x1024 .bf16) : k0_pay3 (F := Ideal) ga ya wa gb yb wb
      = addf (mulf (k0_pay4 (F := Ideal) ga) (tileDot ya wa)) (mulf (k0_pay4 (F := Ideal) gb) (tileDot yb wb)) := rfl

theorem pay1_split (yc : FVec Ideal S512x1024 .bf16) (ab gc : FVec Ideal S512x1024 .f32) (wc wo : FVec Ideal S1x1x1024x1024 .bf16)
    (x : FVec Ideal S512x1024 .f32) (g : FVec Ideal S1x1024 .f32) : k0_pay1 (F := Ideal) yc ab gc wc wo x g
      = addf x (tileNorm (tileDot (truncf .bf16 (addf ab (mulf gc (tileDot yc wc))) bitsLt_bf16_f32) wo) g) := rfl

theorem ld_tile {e : EltTy} (X : S512x1024.Idx → Elt Ideal e) : View.ld X r0_0 = X := View.ld_unit_lit _ X (by decide)
theorem ld_weight {e : EltTy} (X : S1x1x1024x1024.Idx → Elt Ideal e) : View.ld X r0_1 = X := View.ld_unit_lit _ X (by decide)
theorem ld_scale {e : EltTy} (X : S1x1024.Idx → Elt Ideal e) : View.ld X r0_2 = X := View.ld_unit_lit _ X (by decide)
theorem canon_tile (X : S512x1024.Idx → Elt Ideal (.f32 : EltTy)) :
    View.canon [(⟨r0_0, X⟩ : View.Piece (Elt Ideal) S512x1024 .f32)] = X := View.canon_cons_unit_lit _ X [] (by decide)

/-- The body's result at an index. -/
theorem out_apply (x : FVec Ideal S512x1024 .f32) (ya yb o z ga gb gc : FVec Ideal S512x1024 .bf16)
    (wa wb wc wo : FVec Ideal S1x1x1024x1024 .bf16) (g : FVec Ideal S1x1024 .f32) (r : Fin 512) (n : Fin 1024) :
    out0_13 (F := Ideal) x ya yb o z ga gb gc wa wb wc wo g (ix2 r n)
      = rowOut (fun e => ya (ix2 r e)) (fun e => yb (ix2 r e)) (fun e => k0_pay2 (F := Ideal) o z (ix2 r e)) (fun e => ga (ix2 r e))
        (fun e => gb (ix2 r e)) (fun e => gc (ix2 r e)) (fun e j => wa (ix4 0 0 e j)) (fun e j => wb (ix4 0 0 e j))
        (fun e j => wc (ix4 0 0 e j)) (fun e j => wo (ix4 0 0 e j)) (fun e => x (ix2 r e)) (fun e => g (ix2 0 e)) n := by
  unfold out0_13
  rw [canon_tile]
  simp only [ld_tile, ld_weight, ld_scale]
  rw [pay1_split, pay3_split]
  show x (ix2 r n) + tileNorm _ g (ix2 r n) = _
  rw [tileNorm_apply]
  unfold rowOut
  refine congrArg (fun p => x (ix2 r n) + normed p _ n) (funext fun k => ?_)
  rw [tileDot_apply]
  unfold proj
  refine Finset.sum_congr rfl fun j _ => congrArg (· * wo (ix4 0 0 j k)) ?_
  show k0_pay4 (F := Ideal) ga (ix2 r j) * tileDot ya wa (ix2 r j) + k0_pay4 (F := Ideal) gb (ix2 r j) * tileDot yb wb (ix2 r j)
    + k0_pay4 (F := Ideal) gc (ix2 r j) * tileDot (k0_pay2 (F := Ideal) o z) wc (ix2 r j) = _
  rw [pay4_apply, pay4_apply, pay4_apply, tileDot_apply, tileDot_apply, tileDot_apply]
  rfl

end Cert.Merge

end
-- ==== Proof.MergeReference.lean ====
/-
  The merge's reference at an index: the row of the merge over the arrays.
-/
module

public import proofs.«01_k».proof.Proof.Gen.Reference2Ideal.Run
public import proofs.«01_k».proof.Proof.MergeSpec
public import Idealize.ShloMosaic.Lib.Pointwise

@[expose] public section

set_option maxRecDepth 16384
set_option synthInstance.maxSize 4096

noncomputable section

namespace Cert.Merge

open Cert.Reference2Ideal Cert.Reference2Ideal.Gen
open Idealize.ShloMosaic Idealize.ShloMosaic.TcCoe

/-! ## The reference in pieces -/

/-- A product of an array with a weight. -/
def fullDot (x : FVec Ideal S32768x1024 .f32) (w : FVec Ideal S1x1x1024x1024 .bf16) : FVec Ideal S32768x1024 .f32 :=
  Host.dotGeneral dot_S32768x1024_S1024x1024_S32768x1024_1_0_0_1_n_n none x
    (extf .f32 (shapeCast _ w shapeCasts_S1x1x1024x1024_S1024x1024) bitsLt_bf16_f32)
/-- The gates, three to a column. -/
def gates (p : FVec Ideal S32768x7168 .bf16) : FVec Ideal S32768x3x1024 .f32 :=
  shapeCast _ (Host.divf (broadcastInDim S32768x3072 ![] bcast_S_S32768x3072 (constant (F := Ideal) S_ .f32 0x3F800000#32)) (addf
    (broadcastInDim S32768x3072 ![] bcast_S_S32768x3072 (constant (F := Ideal) S_ .f32 0x3F800000#32)) (Host.exp (Host.negf (extf .f32
    (extractStridedSlice S32768x3072 ![0, 4096] p slices_S32768x7168_S32768x3072_0_4096) bitsLt_bf16_f32)))))
    shapeCasts_S32768x3072_S32768x3x1024
/-- The attention's branch, under its gate. -/
def gated (o : FVec Ideal S32768x1024 .bf16) (p : FVec Ideal S32768x7168 .bf16) : FVec Ideal S32768x1024 .f32 :=
  mulf (extf .f32 o bitsLt_bf16_f32) (mulf (extf .f32 (extractStridedSlice S32768x1024 ![0, 3072] p
    slices_S32768x7168_S32768x1024_0_3072) bitsLt_bf16_f32) (Host.divf (broadcastInDim S32768x1024 ![] bcast_S_S32768x1024
    (constant (F := Ideal) S_ .f32 0x3F800000#32)) (addf (broadcastInDim S32768x1024 ![] bcast_S_S32768x1024 (constant (F := Ideal) S_ .f32
    0x3F800000#32)) (Host.exp (Host.negf (extf .f32 (extractStridedSlice S32768x1024 ![0, 3072] p
    slices_S32768x7168_S32768x1024_0_3072) bitsLt_bf16_f32))))))
/-- The gated sum of three products. -/
def fullMix (G : FVec Ideal S32768x3x1024 .f32) (A B C : FVec Ideal S32768x1024 .f32) : FVec Ideal S32768x1024 .f32 :=
  addf (addf (mulf (shapeCast _ (extractStridedSlice S32768x1x1024 ![0, 0, 0] G slices_S32768x3x1024_S32768x1x1024_0_0_0)
    shapeCasts_S32768x1x1024_S32768x1024) A) (mulf (shapeCast _ (extractStridedSlice S32768x1x1024 ![0, 1, 0] G
    slices_S32768x3x1024_S32768x1x1024_0_1_0) shapeCasts_S32768x1x1024_S32768x1024) B)) (mulf (shapeCast _ (extractStridedSlice
    S32768x1x1024 ![0, 2, 0] G slices_S32768x3x1024_S32768x1x1024_0_2_0) shapeCasts_S32768x1x1024_S32768x1024) C)
/-- The rows normalised. -/
def fullNorm (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim
    S32768x1 ![0] bcast_S32768_S32768x1_0 (Host.reduceAdd (mulf x x) (constant (F := Ideal) S_ .f32 0x00000000#32)
    reducesTo_S32768x1024_S32768_d1 h_S_)) (broadcastInDim S32768x1 ![] bcast_S_S32768x1 (constant (F := Ideal) S_ .f32 0x44800000#32)))
    (broadcastInDim S32768x1 ![] bcast_S_S32768x1 (constant (F := Ideal) S_ .f32 0x358637BD#32))))))
    (broadcastInDim S32768x1024 ![0, 1] bcast_S1x1024_S32768x1024_0_1 (broadcastInDim S1x1024 ![1] bcast_S1024_S1x1024_1
    (shapeCast _ g shapeCasts_S1x1024_S1024)))
/-- The weights of the last layer. -/
def weight0 (w : FVec Ideal S2x5x1024x1024 .bf16) : FVec Ideal S1x1x1024x1024 .bf16 :=
  extractStridedSlice S1x1x1024x1024 ![1, 0, 0, 0] w slices_S2x5x1024x1024_S1x1x1024x1024_1_0_0_0
def weight1 (w : FVec Ideal S2x5x1024x1024 .bf16) : FVec Ideal S1x1x1024x1024 .bf16 :=
  extractStridedSlice S1x1x1024x1024 ![1, 1, 0, 0] w slices_S2x5x1024x1024_S1x1x1024x1024_1_1_0_0
def weight2 (w : FVec Ideal S2x5x1024x1024 .bf16) : FVec Ideal S1x1x1024x1024 .bf16 :=
  extractStridedSlice S1x1x1024x1024 ![1, 2, 0, 0] w slices_S2x5x1024x1024_S1x1x1024x1024_1_2_0_0
def weight3 (w : FVec Ideal S2x5x1024x1024 .bf16) : FVec Ideal S1x1x1024x1024 .bf16 :=
  extractStridedSlice S1x1x1024x1024 ![1, 3, 0, 0] w slices_S2x5x1024x1024_S1x1x1024x1024_1_3_0_0

/-- The whole reference. -/
def refMerge (x : FVec Ideal S32768x1024 .f32) (ya yb o : FVec Ideal S32768x1024 .bf16) (p : FVec Ideal S32768x7168 .bf16)
    (w : FVec Ideal S2x5x1024x1024 .bf16) (g : FVec Ideal S1x1024 .f32) : FVec Ideal S32768x1024 .f32 :=
  addf x (fullNorm (fullDot (fullMix (gates p) (fullDot (extf .f32 ya bitsLt_bf16_f32) (weight0 w))
    (fullDot (extf .f32 yb bitsLt_bf16_f32) (weight1 w)) (fullDot (gated o p) (weight2 w))) (weight3 w)) g)

theorem res_split (m : (ℓ : Loc nD τ sig) → Buf (Elt Ideal) ℓ) (c : Dev nD) :
    (Value.res_main_v57 (F := Ideal) m c : S32768x1024.Idx → EReal)
      = refMerge (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

/-! ## The pieces at an index -/

theorem fullDot_apply (x : FVec Ideal S32768x1024 .f32) (w : FVec Ideal S1x1x1024x1024 .bf16) (T : Fin 32768) (j : Fin 1024) :
    fullDot x w (ix2 T j) = ∑ e : Fin 1024, x (ix2 T e) * w (ix4 0 0 e j) := by
  pointwise [fullDot]

theorem gates_apply (p : FVec Ideal S32768x7168 .bf16) (T : Fin 32768) (k : Fin 3) (j : Fin 1024) :
    gates p (ix3 T k j) = Ideal.logistic (p (ix2 T ⟨4096 + (k.val * 1024 + j.val), by omega⟩)) := by
  pointwise [gates]
  rfl

theorem gated_apply (o : FVec Ideal S32768x1024 .bf16) (p : FVec Ideal S32768x7168 .bf16) (T : Fin 32768) (j : Fin 1024) :
    gated o p (ix2 T j) = o (ix2 T j) * (p (ix2 T ⟨3072 + j.val, by omega⟩) * Ideal.logistic (p (ix2 T ⟨3072 + j.val, by omega⟩))) := by
  pointwise [gated]
  rfl

theorem fullMix_apply (G : FVec Ideal S32768x3x1024 .f32) (A B C : FVec Ideal S32768x1024 .f32) (T : Fin 32768) (j : Fin 1024) :
    fullMix G A B C (ix2 T j) = G (ix3 T 0 j) * A (ix2 T j) + G (ix3 T 1 j) * B (ix2 T j) + G (ix3 T 2 j) * C (ix2 T j) := by
  pointwise [fullMix]

theorem fullNorm_apply (x : FVec Ideal S32768x1024 .f32) (g : FVec Ideal S1x1024 .f32) (T : Fin 32768) (n : Fin 1024) :
    fullNorm x g (ix2 T n) = normed (fun k => x (ix2 T k)) (fun k => g (ix2 0 k)) n := by
  pointwise [fullNorm]
  rfl

theorem weight0_apply (w : FVec Ideal S2x5x1024x1024 .bf16) (e j : Fin 1024) : weight0 w (ix4 0 0 e j) = w (ix4 1 0 e j) := by
  pointwise [weight0]
theorem weight1_apply (w : FVec Ideal S2x5x1024x1024 .bf16) (e j : Fin 1024) : weight1 w (ix4 0 0 e j) = w (ix4 1 1 e j) := by
  pointwise [weight1]
theorem weight2_apply (w : FVec Ideal S2x5x1024x1024 .bf16) (e j : Fin 1024) : weight2 w (ix4 0 0 e j) = w (ix4 1 2 e j) := by
  pointwise [weight2]
theorem weight3_apply (w : FVec Ideal S2x5x1024x1024 .bf16) (e j : Fin 1024) : weight3 w (ix4 0 0 e j) = w (ix4 1 3 e j) := by
  pointwise [weight3]

theorem gateCol_lt (k : Fin 3) (j : Fin 1024) : 4096 + (k.val * 1024 + j.val) < 7168 := by omega
theorem zCol_lt (j : Fin 1024) : 3072 + j.val < 7168 := by omega

/-- Row `T` of the merge over the arrays. -/
def mergeRow (x : S32768x1024.Idx → EReal) (ya yb o : S32768x1024.Idx → EReal) (p : S32768x7168.Idx → EReal)
    (w : S2x5x1024x1024.Idx → EReal) (g : S1x1024.Idx → EReal) (T : Fin 32768) : Fin 1024 → EReal :=
  rowOut (fun e => ya (ix2 T e)) (fun e => yb (ix2 T e))
    (fun e => o (ix2 T e) * (p (ix2 T ⟨3072 + e.val, zCol_lt e⟩) * Ideal.logistic (p (ix2 T ⟨3072 + e.val, zCol_lt e⟩))))
    (fun e => p (ix2 T ⟨4096 + ((0 : Fin 3).val * 1024 + e.val), gateCol_lt 0 e⟩))
    (fun e => p (ix2 T ⟨4096 + ((1 : Fin 3).val * 1024 + e.val), gateCol_lt 1 e⟩))
    (fun e => p (ix2 T ⟨4096 + ((2 : Fin 3).val * 1024 + e.val), gateCol_lt 2 e⟩))
    (fun e j => w (ix4 1 0 e j)) (fun e j => w (ix4 1 1 e j)) (fun e j => w (ix4 1 2 e j)) (fun e j => w (ix4 1 3 e j))
    (fun e => x (ix2 T e)) (fun e => g (ix2 0 e))

theorem refMerge_apply (x : FVec Ideal S32768x1024 .f32) (ya yb o : FVec Ideal S32768x1024 .bf16) (p : FVec Ideal S32768x7168 .bf16)
    (w : FVec Ideal S2x5x1024x1024 .bf16) (g : FVec Ideal S1x1024 .f32) (T : Fin 32768) (n : Fin 1024) :
    refMerge x ya yb o p w g (ix2 T n) = mergeRow x ya yb o p w g T n := by
  show x (ix2 T n) + fullNorm _ g (ix2 T n) = _
  rw [fullNorm_apply]
  unfold mergeRow rowOut
  refine congrArg (fun q => x (ix2 T n) + normed q _ n) (funext fun k => ?_)
  rw [fullDot_apply]
  unfold proj
  refine Finset.sum_congr rfl fun j _ => ?_
  rw [weight3_apply, fullMix_apply, gates_apply, gates_apply, gates_apply, fullDot_apply, fullDot_apply, fullDot_apply]
  simp only [weight0_apply, weight1_apply, weight2_apply, gated_apply]
  rfl

end Cert.Merge

end
-- ==== Proof.MergeResult.lean ====
/-
  The merge kernel's result array: each point's block of 512 rows is the rows of the merge over the arrays.
-/
module

public import proofs.«01_k».proof.Proof.MergeBody
public import proofs.«01_k».proof.Proof.MergeReference

@[expose] public section

set_option maxRecDepth 16384
set_option synthInstance.maxSize 4096

noncomputable section

namespace Cert.Merge

open Cert.Kernel2Ideal Cert.Kernel2Ideal.Gen
open Idealize.ShloMosaic Idealize.ShloMosaic.TcCoe
open Idealize.ShloMosaic.Pipeline (Dat)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 3] := (by decide +kernel : ∀ t : Fin grid0.N, _)
theorem idx5 : ∀ t : Fin cfg0.N, win0_5.index t = ![(grid0.coords t 0).val, 4] := (by decide +kernel : ∀ t : Fin grid0.N, _)
theorem idx6 : ∀ t : Fin cfg0.N, win0_6.index t = ![(grid0.coords t 0).val, 5] := (by decide +kernel : ∀ t : Fin grid0.N, _)
theorem idx7 : ∀ t : Fin cfg0.N, win0_7.index t = ![(grid0.coords t 0).val, 6] := (by decide +kernel : ∀ t : Fin grid0.N, _)
theorem idx8 : ∀ t : Fin cfg0.N, win0_8.index t = ![1, 0, 0, 0] := (by decide +kernel : ∀ t : Fin grid0.N, _)
theorem idx9 : ∀ t : Fin cfg0.N, win0_9.index t = ![1, 1, 0, 0] := (by decide +kernel : ∀ t : Fin grid0.N, _)
theorem idx10 : ∀ t : Fin cfg0.N, win0_10.index t = ![1, 2, 0, 0] := (by decide +kernel : ∀ t : Fin grid0.N, _)
theorem idx11 : ∀ t : Fin cfg0.N, win0_11.index t = ![1, 3, 0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![(grid0.coords t 0).val, 0] := (by decide +kernel : ∀ t : Fin grid0.N, _)

/-- Row `r` of point `t`'s block. -/
def rowAt (t : Fin cfg0.N) (r : Fin 512) : Fin 32768 :=
  ⟨(grid0.coords t 0).val * 512 + r.val, by have : (grid0.coords t 0).val < 64 := (grid0.coords t 0).isLt; omega⟩

variable (m : (ℓ : Loc nD τ sig) → Buf (Elt Ideal) ℓ) (c : Dev nD)

theorem iblk_x (t : Fin cfg0.N) (r : Fin 512) (e : Fin 1024) :
    (iblk (F := Ideal) m c 0 t : S512x1024.Idx → EReal) (ix2 r e) = m ((c : Thread nD τ).loc main_arg0) (ix2 (rowAt t r) e) := by
  blk_simp [iblk]
  refine congrArg (m ((c : Thread nD τ).loc main_arg0)) ?_
  unfold rowAt
  blk_ext [idx0]

theorem iblk_ya (t : Fin cfg0.N) (r : Fin 512) (e : Fin 1024) :
    (iblk (F := Ideal) m c 1 t : S512x1024.Idx → EReal) (ix2 r e) = m ((c : Thread nD τ).loc main_arg1) (ix2 (rowAt t r) e) := by
  blk_simp [iblk]
  refine congrArg (m ((c : Thread nD τ).loc main_arg1)) ?_
  unfold rowAt
  blk_ext [idx1]

theorem iblk_yb (t : Fin cfg0.N) (r : Fin 512) (e : Fin 1024) :
    (iblk (F := Ideal) m c 2 t : S512x1024.Idx → EReal) (ix2 r e) = m ((c : Thread nD τ).loc main_arg2) (ix2 (rowAt t r) e) := by
  blk_simp [iblk]
  refine congrArg (m ((c : Thread nD τ).loc main_arg2)) ?_
  unfold rowAt
  blk_ext [idx2]

theorem iblk_o (t : Fin cfg0.N) (r : Fin 512) (e : Fin 1024) :
    (iblk (F := Ideal) m c 3 t : S512x1024.Idx → EReal) (ix2 r e) = m ((c : Thread nD τ).loc main_arg3) (ix2 (rowAt t r) e) := by
  blk_simp [iblk]
  refine congrArg (m ((c : Thread nD τ).loc main_arg3)) ?_
  unfold rowAt
  blk_ext [idx3]

theorem iblk_z (t : Fin cfg0.N) (r : Fin 512) (e : Fin 1024) :
    (iblk (F := Ideal) m c 4 t : S512x1024.Idx → EReal) (ix2 r e)
      = m ((c : Thread nD τ).loc main_arg4) (ix2 (rowAt t r) ⟨3072 + e.val, zCol_lt e⟩) := by
  blk_simp [iblk]
  refine congrArg (m ((c : Thread nD τ).loc main_arg4)) ?_
  unfold rowAt
  blk_ext [idx4]

theorem iblk_g0 (t : Fin cfg0.N) (r : Fin 512) (e : Fin 1024) :
    (iblk (F := Ideal) m c 5 t : S512x1024.Idx → EReal) (ix2 r e)
      = m ((c : Thread nD τ).loc main_arg4) (ix2 (rowAt t r) ⟨4096 + ((0 : Fin 3).val * 1024 + e.val), gateCol_lt 0 e⟩) := by
  blk_simp [iblk]
  refine congrArg (m ((c : Thread nD τ).loc main_arg4)) ?_
  unfold rowAt
  blk_ext [idx5]

theorem iblk_g1 (t : Fin cfg0.N) (r : Fin 512) (e : Fin 1024) :
    (iblk (F := Ideal) m c 6 t : S512x1024.Idx → EReal) (ix2 r e)
      = m ((c : Thread nD τ).loc main_arg4) (ix2 (rowAt t r) ⟨4096 + ((1 : Fin 3).val * 1024 + e.val), gateCol_lt 1 e⟩) := by
  blk_simp [iblk]
  refine congrArg (m ((c : Thread nD τ).loc main_arg4)) ?_
  unfold rowAt
  blk_ext [idx6]

theorem iblk_g2 (t : Fin cfg0.N) (r : Fin 512) (e : Fin 1024) :
    (iblk (F := Ideal) m c 7 t : S512x1024.Idx → EReal) (ix2 r e)
      = m ((c : Thread nD τ).loc main_arg4) (ix2 (rowAt t r) ⟨4096 + ((2 : Fin 3).val * 1024 + e.val), gateCol_lt 2 e⟩) := by
  blk_simp [iblk]
  refine congrArg (m ((c : Thread nD τ).loc main_arg4)) ?_
  unfold rowAt
  blk_ext [idx7]

theorem iblk_wa (t : Fin cfg0.N) (e j : Fin 1024) :
    (iblk (F := Ideal) m c 8 t : S1x1x1024x1024.Idx → EReal) (ix4 0 0 e j) = m ((c : Thread nD τ).loc main_arg5) (ix4 1 0 e j) := by
  blk_simp [iblk]
  refine congrArg (m ((c : Thread nD τ).loc main_arg5)) ?_
  blk_ext [idx8]

theorem iblk_wb (t : Fin cfg0.N) (e j : Fin 1024) :
    (iblk (F := Ideal) m c 9 t : S1x1x1024x1024.Idx → EReal) (ix4 0 0 e j) = m ((c : Thread nD τ).loc main_arg5) (ix4 1 1 e j) := by
  blk_simp [iblk]
  refine congrArg (m ((c : Thread nD τ).loc main_arg5)) ?_
  blk_ext [idx9]

theorem iblk_wc (t : Fin cfg0.N) (e j : Fin 1024) :
    (iblk (F := Ideal) m c 10 t : S1x1x1024x1024.Idx → EReal) (ix4 0 0 e j) = m ((c : Thread nD τ).loc main_arg5) (ix4 1 2 e j) := by
  blk_simp [iblk]
  refine congrArg (m ((c : Thread nD τ).loc main_arg5)) ?_
  blk_ext [idx10]

theorem iblk_wo (t : Fin cfg0.N) (e j : Fin 1024) :
    (iblk (F := Ideal) m c 11 t : S1x1x1024x1024.Idx → EReal) (ix4 0 0 e j) = m ((c : Thread nD τ).loc main_arg5) (ix4 1 3 e j) := by
  blk_simp [iblk]
  refine congrArg (m ((c : Thread nD τ).loc main_arg5)) ?_
  blk_ext [idx11]

theorem iblk_pn (t : Fin cfg0.N) (e : Fin 1024) :
    (iblk (F := Ideal) m c 12 t : S1x1024.Idx → EReal) (ix2 0 e) = m ((c : Thread nD τ).loc main_arg6) (ix2 0 e) := by
  blk_simp [iblk]
  refine congrArg (m ((c : Thread nD τ).loc main_arg6)) ?_
  blk_ext [idx12]

/-- The result, over the arrays. -/
def mergeArr : S32768x1024.Idx → EReal := fun i =>
  mergeRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The gate's logits are real. -/
def GateReal (p : S32768x7168.Idx → EReal) : Prop :=
  ∀ (T : Fin 32768) (e : Fin 1024), ∃ z : ℝ, p (ix2 T ⟨3072 + e.val, zCol_lt e⟩) = z

/-- The attention's branch under its gate, at an index. -/
def gatedAt (o : S32768x1024.Idx → EReal) (p : S32768x7168.Idx → EReal) (T : Fin 32768) (e : Fin 1024) : EReal :=
  o (ix2 T e) * (p (ix2 T ⟨3072 + e.val, zCol_lt e⟩) * Ideal.logistic (p (ix2 T ⟨3072 + e.val, zCol_lt e⟩)))

variable (hz : GateReal (m ((c : Thread nD τ).loc main_arg4)))

include hz in
theorem block_row (t : Fin cfg0.N) (r : Fin 512) (n : Fin 1024) :
    out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 r n)
      = mergeArr m c (ix2 (rowAt t r) n) := by
  refine (out_apply _ _ _ _ _ _ _ _ _ _ _ _ _ r n).trans ?_
  have hy : ∀ e : Fin 1024, k0_pay2 (F := Ideal) (iblk m c 3 t) (iblk m c 4 t) (ix2 r e)
      = gatedAt (m ((c : Thread nD τ).loc main_arg3)) (m ((c : Thread nD τ).loc main_arg4)) (rowAt t r) e := fun e => by
    unfold gatedAt
    refine (pay2_apply _ _ r e).trans ?_
    rw [iblk_o, iblk_z]
    obtain ⟨z, h⟩ := hz (rowAt t r) e
    rw [h]
    exact congrArg (HMul.hMul (α := EReal) (β := EReal) (γ := EReal) _) (silu_ideal z)
  show _ = mergeRow _ _ _ _ _ _ _ (rowAt t r) n
  unfold mergeRow
  simp only [hy, iblk_x, iblk_ya, iblk_yb, iblk_g0, iblk_g1, iblk_g2, iblk_wa, iblk_wb, iblk_wc, iblk_wo, iblk_pn]
  rfl

include hz in
/-- The kernel's result. -/
theorem result_eq : (dats (F := Ideal) m 0 c).arrAt 13 cfg0.N = mergeArr m c := by
  refine (dats (F := Ideal) m 0 c).arrAt_eq_of_covers 13 (mergeArr m c) (by decide +kernel) fun t hf y => ?_
  blk_simp
  have b0 : (y 0).val < 512 := (y 0).isLt
  have b1 : (y 1).val < 1024 := (y 1).isLt
  have e0 : (((win0_13.blk t).view.emb y) 0 : ℕ) = (grid0.coords t 0).val * 512 + (y 0).val := by blk_simp [idx13]
  have e1 : (((win0_13.blk t).view.emb y) 1 : ℕ) = (y 1).val := by blk_simp [idx13]
  have hy : (win0_13.blk t).view.emb y = ix2 (rowAt t ⟨(y 0).val, b0⟩) (⟨(y 1).val, b1⟩ : Fin 1024) := by
    funext a
    match a with
    | 0 => exact Fin.ext e0
    | 1 => exact Fin.ext e1
  refine Eq.trans ?_ (congrArg (mergeArr m c) hy.symm)
  refine Eq.trans ?_ (block_row m c hz t ⟨(y 0).val, b0⟩ ⟨(y 1).val, b1⟩)
  refine (congrFun (after0_13 (F := Ideal) m c t) _).trans ?_
  refine congrArg (out0_13 (F := Ideal) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)) ?_
  funext a
  match a with
  | 0 => rfl
  | 1 => rfl

/-- The reference's result. -/
theorem ref_value (x : FVec Ideal S32768x1024 .f32) (ya yb o : FVec Ideal S32768x1024 .bf16) (p : FVec Ideal S32768x7168 .bf16)
    (w : FVec Ideal S2x5x1024x1024 .bf16) (g : FVec Ideal S1x1024 .f32) :
    refMerge x ya yb o p w g = fun i => mergeRow x ya yb o p w g (i 0) (i 1) := funext fun i => by
  refine (congrArg (refMerge x ya yb o p w g) (eq_ix2 i)).trans ?_
  exact refMerge_apply x ya yb o p w g (i 0) (i 1)

end Cert.Merge

end
-- ==== Proof.MergeGiven.lean ====
/-
  What the merge's precondition gives: the logits of the attention's gate are real.
-/
module

public import proofs.«01_k».proof.Proof.Gen.Pre_gate_finite
public import proofs.«01_k».proof.Proof.Given
public import proofs.«01_k».proof.Proof.MergeResult

@[expose] public section

set_option synthInstance.maxSize 4096

noncomputable section

namespace Cert.Merge

open Cert.Pre_gate_finite Cert.Pre_gate_finite.Gen
open Idealize.ShloMosaic

variable {x : FVec Ideal S32768x1024 .f32} {ya yb o : FVec Ideal S32768x1024 .bf16} {p : FVec Ideal S32768x7168 .bf16}
  {w : FVec Ideal S2x5x1024x1024 .bf16} {g : FVec Ideal S1x1024 .f32}

theorem gate_real (h : fn (F := Ideal) x ya yb o p w g = fun _ => 1#1) : GateReal p := fun T e => by
  have hi := congrFun h (ix2 T e)
  revert hi
  pointwise [fn]
  rw [Cert.Attn.inf_bits]
  exact fun hi => Cert.Attn.real_of_abs_lt (Cert.Attn.of_bit hi)

end Cert.Merge

end
-- ==== Proof.Access.lean ====
/-
  Loads and stores of the whole of an owned buffer: a load reads its contents, a store leaves the payload.
-/
module

public import proofs.«01_k».proof.Proof.Held

@[expose] public section

set_option synthInstance.maxSize 4096

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem window_whole {s : Shape} {α : Type} (X : s.Idx → α) (off : Fin s.rank → ℕ) (h : ∀ a, off a = 0) (inb : ∀ a, off a + s.size a ≤ s.size a) :
    VecWindow.window X off s.size inb = X := by
  funext z
  refine congrArg X (funext fun a => Fin.ext ?_)
  show off a + 1 * (z a).val = (z a).val
  rw [h]; omega

theorem put_whole {s : Shape} {α : Type} (X : s.Idx → α) (off : Fin s.rank → ℕ) (h : ∀ a, off a = 0) (w : s.Idx → α) :
    VecWindow.put X off s.size w = w := by
  funext z
  unfold VecWindow.put
  rw [dif_pos (fun a => ⟨by rw [h]; exact Nat.zero_le _, by rw [h]; have := (z a).isLt; omega⟩)]
  refine congrArg w (funext fun a => Fin.ext ?_)
  show (z a).val - off a = (z a).val
  rw [h]; rfl

variable {nD : Nat} {τ : Topo} {sig : RefSig} {Val : EltTy → Type} {U : Type} [URA U] {Λ : Labels}
variable (defs : Defs nD τ sig Val Λ) (c : Thread nD τ) (E : Set ℕ)
variable {sh : Shape} {e : EltTy} (m : Memref sig c.2.kind .vmem sh e)

theorem load_whole {off : Fin sh.rank → ℕ} (h : ∀ a, off a = 0) {inb : ∀ a, off a + sh.size a ≤ sh.size a}
    {hl : m.view.LoadsAt (Rect.unit off sh.size inb).toLoadRect} {X : sh.Idx → Val e}
    {Q : ((Rect.unit off sh.size inb).toLoadRect.shape.Idx → Val e) → sProp (MT nD τ sig Unit Val ℕ U ℕ)} :
    owns c m fullShare X
      ⊢ iprop((owns c m fullShare X -∗ Q X)
        -∗ wp frame (wpE defs Variants.none c none) E (Prog.lift (.load m (Rect.unit off sh.size inb).toLoadRect hl)) Q) := by
  have := Attn.load_spec (U := U) defs c E m (off := off) (size := sh.size) (inb := inb) (hl := hl) (X := X) (Q := Q)
  rw [window_whole X off h inb] at this
  exact this

theorem store_whole {off : Fin sh.rank → ℕ} (h : ∀ a, off a = 0) {inb : ∀ a, off a + sh.size a ≤ sh.size a}
    {w : (Rect.unit off sh.size inb).shape.Idx → Val e} {hx : (m.access (Rect.unit off sh.size inb)).Stores Finset.univ}
    {hm : Finset.univ = Finset.univ ∨ ∀ a, (Rect.unit off sh.size inb).stride a = 1} {X : sh.Idx → Val e}
    {Q : PUnit → sProp (MT nD τ sig Unit Val ℕ U ℕ)} :
    owns c m fullShare X
      ⊢ iprop((owns c m fullShare w -∗ Q ⟨⟩)
        -∗ wp frame (wpE defs Variants.none c none) E (Prog.lift (.store m (Rect.unit off sh.size inb) w Finset.univ hx hm)) Q) := by
  have := Attn.store_spec (U := U) defs c E m (off := off) (size := sh.size) (inb := inb) (w := w) (hx := hx) (hm := hm) (X := X) (Q := Q)
  rw [put_whole X off h w] at this
  exact this

end Cert.Proj

end
-- ==== Proof.Kernel3IdealBody.lean ====
/-
  The body of the in-projection: at a row block's first point it normalises the rows into the scratch; at each point it
  stores the product of the scratch with the point's weights in the output the point is for.
-/
module

public import proofs.«01_k».proof.Proof.Gen.Kernel3Ideal.Frame
public import proofs.«01_k».proof.Proof.Access

@[expose] public section

set_option synthInstance.maxSize 4096

noncomputable section

namespace Cert.Kernel3Ideal.Hand

open Cert.Kernel3Ideal Cert.Kernel3Ideal.Gen Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the body stores -/

/-- The rows of a block, normalised. -/
def rows (x : FVec F S1024x1024 .f32) (g : FVec F S1x1024 .f32) : FVec F S1024x1024 .f32 :=
  mulf (mulf x (broadcastTo S1024x1024 (rsqrt (addf (divf (shapeCast S1024x1 (multiReduction .add [1] S1024 (mulf x x) 0x00000000#32
    reduces_S1024x1024_S1024 (.inl rfl) rfl) shapeCasts_S1024_S1024x1) (broadcast S1024x1 (Scalar.ofBits .f32 0x44800000#32)))
    (broadcast S1024x1 (Scalar.ofBits .f32 0x358637BD#32)))) broadcasts_S1024x1_S1024x1024)) (broadcastTo S1024x1024 g broadcasts_S1x1024_S1024x1024)
/-- What the scratch holds of them. -/
def kept (x : FVec F S1024x1024 .f32) (g : FVec F S1x1024 .f32) : FVec F S1024x1024 .bf16 :=
  shapeCast S1024x1024 (truncf .bf16 (rows x g) bitsLt_bf16_f32) shapeCasts_S1024x1024_S1024x1024
/-- The product with a block of `w_cat`. -/
def tail (h : FVec F S1024x1024 .bf16) (w : FVec F S1x1024x1024 .bf16) : FVec F S1024x1024 .f32 :=
  matmul dot_S1024x1024_S1024x1024_S1024x1024_1_0_0_1_n_n none h (shapeCast S1024x1024 w shapeCasts_S1x1024x1024_S1024x1024)
    (constant S1024x1024 .f32 0x00000000#32)
/-- The same, rounded. -/
def prod (h : FVec F S1024x1024 .bf16) (w : FVec F S1x1024x1024 .bf16) : FVec F S1024x1024 .bf16 :=
  truncf .bf16 (tail h w) bitsLt_bf16_f32
/-- The product of a block of `w_t` with the rows turned. -/
def turned (h : FVec F S1024x1024 .bf16) (w : FVec F S1x1024x1024 .bf16) : FVec F S1024x1024 .bf16 :=
  truncf .bf16 (matmul dot_S1024x1024_S1024x1024_S1024x1024_1_1_0_0_n_n none
    (shapeCast S1024x1024 w shapeCasts_S1x1024x1024_S1024x1024) h (constant S1024x1024 .f32 0x00000000#32)) bitsLt_bf16_f32

/-- The condition of the first step, as the kernel computes it. -/
def cond1 (i : grid0.Coords) : BitVec 1 :=
  Scalar.cmpi .ne (Scalar.extui (Scalar.cmpi .eq (BitVec.ofNat 32 (i 1).val) (0#32)) : BitVec 32) (0#32)

/-! ## The body's effect -/

section Effect

variable {U : Type} [URA U] {Λ : Labels} (defs : Defs nD τ sig (Elt F) Λ₀) (c : Dev nD) (E : Set ℕ)
variable (i : grid0.Coords) (arg2 : Memref sig .tc .vmem S1024x1024 .f32) (harg2 : arg2.IsWhole) (arg3 : Memref sig .tc .vmem S1x1024 .f32) (harg3 : arg3.IsWhole)
  (arg4 : Memref sig .tc .vmem S1x1024x1024 .bf16) (harg4 : arg4.IsWhole) (arg5 : Memref sig .tc .vmem S1x1024x1024 .bf16) (harg5 : arg5.IsWhole)
  (arg6 : Memref sig .tc .vmem S1024x1024 .bf16) (harg6 : arg6.IsWhole) (arg7 : Memref sig .tc .vmem S1024x1024 .f32) (harg7 : arg7.IsWhole)
  (arg8 : Memref sig .tc .vmem S1024x1024 .bf16) (harg8 : arg8.IsWhole) (arg9 : Memref sig .tc .vmem S1024x1024 .bf16) (harg9 : arg9.IsWhole)

/-- The eight buffers at their contents. -/
def Holds (x : S1024x1024.Idx → Elt F .f32) (g : S1x1024.Idx → Elt F .f32) (w wt : S1x1024x1024.Idx → Elt F .bf16)
    (A : S1024x1024.Idx → Elt F .bf16) (B : S1024x1024.Idx → Elt F .f32) (T d : S1024x1024.Idx → Elt F .bf16) : sProp (MT nD τ sig Unit (Elt F) ℕ U ℕ) :=
  iprop(owns (c : Thread nD τ) arg2 fullShare x ∗ owns (c : Thread nD τ) arg3 fullShare g ∗ owns (c : Thread nD τ) arg4 fullShare w
    ∗ owns (c : Thread nD τ) arg5 fullShare wt ∗ owns (c : Thread nD τ) arg6 fullShare A ∗ owns (c : Thread nD τ) arg7 fullShare B
    ∗ owns (c : Thread nD τ) arg8 fullShare T ∗ owns (c : Thread nD τ) arg9 fullShare d)

variable {x : S1024x1024.Idx → Elt F .f32} {g : S1x1024.Idx → Elt F .f32} {w wt : S1x1024x1024.Idx → Elt F .bf16}
    {A : S1024x1024.Idx → Elt F .bf16} {B : S1024x1024.Idx → Elt F .f32} {T d : S1024x1024.Idx → Elt F .bf16}

theorem zeros2 : ∀ a : Fin 2, (![0, 0] : Fin 2 → ℕ) a = 0 := by decide
theorem zeros3 : ∀ a : Fin 3, (![0, 0, 0] : Fin 3 → ℕ) a = 0 := by decide

set_option backward.isDefEq.respectTransparency.types false in
/-- A row block's first point. -/
theorem body_first (h1 : cond1 i = 1#1) (h2 : k0_cond2 i = 1#1) (h3 : k0_cond3 i ≠ 1#1) (h4 : k0_cond4 i ≠ 1#1)
    (Q : PUnit → sProp (MT nD τ sig Unit (Elt F) ℕ U ℕ)) :
    Holds c arg2 arg3 arg4 arg5 arg6 arg7 arg8 arg9 x g w wt A B T d
      ⊢ iprop((Holds c arg2 arg3 arg4 arg5 arg6 arg7 arg8 arg9 x g w wt (prod (kept x g) w) B T (kept x g) -∗ Q ⟨⟩)
        -∗ wp frame (wpE defs Variants.none c none) E
          (cc0_inproj (F := F) i arg2 harg2 arg3 harg3 arg4 harg4 arg5 harg5 arg6 harg6 arg7 harg7 arg8 harg8 arg9 harg9) Q) := by
  unfold cond1 at h1
  unfold Holds cc0_inproj
  rw [dif_pos h1, dif_pos h2, dif_neg h3, dif_neg h4]
  simp only [bind_assoc, pure_bind]
  iintro ⟨Hx, Hg, Hw, Hwt, HA, HB, HT, Hd⟩ K
  rw [wp_bind]; iapply (load_whole defs c E arg2 zeros2) $$ Hx; iintro Hx
  rw [wp_bind]; iapply (load_whole defs c E arg3 zeros2) $$ Hg; iintro Hg
  rw [wp_bind]; iapply (load_whole defs c E arg9 zeros2) $$ Hd; iintro Hd
  rw [wp_bind]; iapply (store_whole defs c E arg9 zeros2) $$ Hd; iintro Hd
  rw [wp_bind]; iapply (load_whole defs c E arg9 zeros2) $$ Hd; iintro Hd
  rw [wp_bind]; iapply (load_whole defs c E arg4 zeros3) $$ Hw; iintro Hw
  rw [wp_bind]; iapply (load_whole defs c E arg6 zeros2) $$ HA; iintro HA
  rw [wp_bind]; iapply (store_whole defs c E arg6 zeros2) $$ HA; iintro HA
  iapply le_wp_ret
  iapply K
  isplitl [Hx]; · iexact Hx
  isplitl [Hg]; · iexact Hg
  isplitl [Hw]; · iexact Hw
  isplitl [Hwt]; · iexact Hwt
  isplitl [HA]; · iexact HA
  isplitl [HB]; · iexact HB
  isplitl [HT]; · iexact HT
  iexact Hd

set_option backward.isDefEq.respectTransparency.types false in
/-- A point of the first output. -/
theorem body_main (h1 : cond1 i ≠ 1#1) (h2 : k0_cond2 i = 1#1) (h3 : k0_cond3 i ≠ 1#1) (h4 : k0_cond4 i ≠ 1#1)
    (Q : PUnit → sProp (MT nD τ sig Unit (Elt F) ℕ U ℕ)) :
    Holds c arg2 arg3 arg4 arg5 arg6 arg7 arg8 arg9 x g w wt A B T d
      ⊢ iprop((Holds c arg2 arg3 arg4 arg5 arg6 arg7 arg8 arg9 x g w wt (prod d w) B T d -∗ Q ⟨⟩)
        -∗ wp frame (wpE defs Variants.none c none) E
          (cc0_inproj (F := F) i arg2 harg2 arg3 harg3 arg4 harg4 arg5 harg5 arg6 harg6 arg7 harg7 arg8 harg8 arg9 harg9) Q) := by
  unfold cond1 at h1
  unfold Holds cc0_inproj
  rw [dif_neg h1, dif_pos h2, dif_neg h3, dif_neg h4]
  simp only [bind_assoc, pure_bind]
  iintro ⟨Hx, Hg, Hw, Hwt, HA, HB, HT, Hd⟩ K
  rw [wp_bind]; iapply (load_whole defs c E arg9 zeros2) $$ Hd; iintro Hd
  rw [wp_bind]; iapply (load_whole defs c E arg4 zeros3) $$ Hw; iintro Hw
  rw [wp_bind]; iapply (load_whole defs c E arg6 zeros2) $$ HA; iintro HA
  rw [wp_bind]; iapply (store_whole defs c E arg6 zeros2) $$ HA; iintro HA
  iapply le_wp_ret
  iapply K
  isplitl [Hx]; · iexact Hx
  isplitl [Hg]; · iexact Hg
  isplitl [Hw]; · iexact Hw
  isplitl [Hwt]; · iexact Hwt
  isplitl [HA]; · iexact HA
  isplitl [HB]; · iexact HB
  isplitl [HT]; · iexact HT
  iexact Hd

set_option backward.isDefEq.respectTransparency.types false in
/-- The point of the second output. -/
theorem body_tail (h1 : cond1 i ≠ 1#1) (h2 : k0_cond2 i ≠ 1#1) (h3 : k0_cond3 i = 1#1) (h4 : k0_cond4 i ≠ 1#1)
    (Q : PUnit → sProp (MT nD τ sig Unit (Elt F) ℕ U ℕ)) :
    Holds c arg2 arg3 arg4 arg5 arg6 arg7 arg8 arg9 x g w wt A B T d
      ⊢ iprop((Holds c arg2 arg3 arg4 arg5 arg6 arg7 arg8 arg9 x g w wt A (tail d w) T d -∗ Q ⟨⟩)
        -∗ wp frame (wpE defs Variants.none c none) E
          (cc0_inproj (F := F) i arg2 harg2 arg3 harg3 arg4 harg4 arg5 harg5 arg6 harg6 arg7 harg7 arg8 harg8 arg9 harg9) Q) := by
  unfold cond1 at h1
  unfold Holds cc0_inproj
  rw [dif_neg h1, dif_neg h2, dif_pos h3, dif_neg h4]
  simp only [bind_assoc, pure_bind]
  iintro ⟨Hx, Hg, Hw, Hwt, HA, HB, HT, Hd⟩ K
  rw [wp_bind]; iapply (load_whole defs c E arg9 zeros2) $$ Hd; iintro Hd
  rw [wp_bind]; iapply (load_whole defs c E arg4 zeros3) $$ Hw; iintro Hw
  rw [wp_bind]; iapply (load_whole defs c E arg7 zeros2) $$ HB; iintro HB
  rw [wp_bind]; iapply (store_whole defs c E arg7 zeros2) $$ HB; iintro HB
  iapply le_wp_ret
  iapply K
  isplitl [Hx]; · iexact Hx
  isplitl [Hg]; · iexact Hg
  isplitl [Hw]; · iexact Hw
  isplitl [Hwt]; · iexact Hwt
  isplitl [HA]; · iexact HA
  isplitl [HB]; · iexact HB
  isplitl [HT]; · iexact HT
  iexact Hd

set_option backward.isDefEq.respectTransparency.types false in
/-- A point of the third output. -/
theorem body_turned (h1 : cond1 i ≠ 1#1) (h2 : k0_cond2 i ≠ 1#1) (h3 : k0_cond3 i ≠ 1#1) (h4 : k0_cond4 i = 1#1)
    (Q : PUnit → sProp (MT nD τ sig Unit (Elt F) ℕ U ℕ)) :
    Holds c arg2 arg3 arg4 arg5 arg6 arg7 arg8 arg9 x g w wt A B T d
      ⊢ iprop((Holds c arg2 arg3 arg4 arg5 arg6 arg7 arg8 arg9 x g w wt A B (turned d wt) d -∗ Q ⟨⟩)
        -∗ wp frame (wpE defs Variants.none c none) E
          (cc0_inproj (F := F) i arg2 harg2 arg3 harg3 arg4 harg4 arg5 harg5 arg6 harg6 arg7 harg7 arg8 harg8 arg9 harg9) Q) := by
  unfold cond1 at h1
  unfold Holds cc0_inproj
  rw [dif_neg h1, dif_neg h2, dif_neg h3, dif_pos h4]
  simp only [bind_assoc, pure_bind]
  iintro ⟨Hx, Hg, Hw, Hwt, HA, HB, HT, Hd⟩ K
  rw [wp_bind]; iapply (load_whole defs c E arg5 zeros3) $$ Hwt; iintro Hwt
  rw [wp_bind]; iapply (load_whole defs c E arg9 zeros2) $$ Hd; iintro Hd
  rw [wp_bind]; iapply (load_whole defs c E arg8 zeros2) $$ HT; iintro HT
  rw [wp_bind]; iapply (store_whole defs c E arg8 zeros2) $$ HT; iintro HT
  iapply le_wp_ret
  iapply K
  isplitl [Hx]; · iexact Hx
  isplitl [Hg]; · iexact Hg
  isplitl [Hw]; · iexact Hw
  isplitl [Hwt]; · iexact Hwt
  isplitl [HA]; · iexact HA
  isplitl [HB]; · iexact HB
  isplitl [HT]; · iexact HT
  iexact Hd

end Effect

end Cert.Kernel3Ideal.Hand

end
-- ==== Proof.Kernel3IdealRun.lean ====
/-
  The launch of the in-projection. Between the points of a row block the scratch holds the block's rows, normalised; at
  each point one output's block is stored over, the other two are left as they were.
-/
module

public import proofs.«01_k».proof.Proof.Gen.Kernel3Ideal.Frame
public import proofs.«01_k».proof.Proof.Kernel3IdealBody
public import Idealize.ShloMosaic.Lib.Pipeline.ArrRel
public import Idealize.ShloMosaic.Lib.Pipeline.ValueKit

@[expose] public section

set_option synthInstance.maxSize 4096
set_option maxRecDepth 16384

noncomputable section

namespace Cert.Kernel3Ideal.Hand

open Cert.Kernel3Ideal Cert.Kernel3Ideal.Gen Cert.Proj
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

/-! ## The points -/

theorem idx0 : ∀ t : Fin cfg0.N, win0_0.index t = ![(grid0.coords t 0).val, 0] :=
  (by decide +kernel : ∀ t : Fin grid0.N, _)
theorem idx1 : ∀ t : Fin cfg0.N, win0_1.index t = ![0, 0] :=
  (by decide +kernel : ∀ t : Fin grid0.N, _)
/-- A point after another of the same row block. -/
theorem coords_next : ∀ s : Fin cfg0.N, s.val % 10 ≠ 0 → ∀ t : Fin cfg0.N, s.val = t.val + 1 → grid0.coords s 0 = grid0.coords t 0 := by
  have h : ∀ s : Fin grid0.N, s.val % 10 ≠ 0 → ∀ h : s.val - 1 < grid0.N, grid0.coords s 0 = grid0.coords ⟨s.val - 1, h⟩ 0 := by decide +kernel
  intro s hs t e
  have := h s hs (Nat.lt_of_le_of_lt (Nat.sub_le _ _) s.isLt)
  rw [this]
  exact congrArg (fun u => grid0.coords u 0) (Fin.ext (by show s.val - 1 = t.val; omega))
/-- Which steps a point takes. -/
theorem steps_at : ∀ t : Fin cfg0.N,
    (t.val % 10 = 0 ∧ cond1 (grid0.coords t) = 1#1 ∧ k0_cond2 (grid0.coords t) = 1#1 ∧ k0_cond3 (grid0.coords t) ≠ 1#1 ∧ k0_cond4 (grid0.coords t) ≠ 1#1)
    ∨ (t.val % 10 ≠ 0 ∧ cond1 (grid0.coords t) ≠ 1#1 ∧ k0_cond2 (grid0.coords t) = 1#1 ∧ k0_cond3 (grid0.coords t) ≠ 1#1 ∧ k0_cond4 (grid0.coords t) ≠ 1#1)
    ∨ (t.val % 10 ≠ 0 ∧ cond1 (grid0.coords t) ≠ 1#1 ∧ k0_cond2 (grid0.coords t) ≠ 1#1 ∧ k0_cond3 (grid0.coords t) = 1#1 ∧ k0_cond4 (grid0.coords t) ≠ 1#1)
    ∨ (t.val % 10 ≠ 0 ∧ cond1 (grid0.coords t) ≠ 1#1 ∧ k0_cond2 (grid0.coords t) ≠ 1#1 ∧ k0_cond3 (grid0.coords t) ≠ 1#1 ∧ k0_cond4 (grid0.coords t) = 1#1) :=
  (by decide +kernel : ∀ t : Fin grid0.N, _)

theorem rowOf_lt (b : Fin 32) (i : Fin 1024) : 1024 * b.val + i.val < 32768 := by omega

/-- Block `b` of 1024 rows. -/
def rowBlock {α : Type} (X : S32768x1024.Idx → α) (b : Fin 32) : S1024x1024.Idx → α := fun i =>
  X (ix2 ⟨1024 * b.val + (i 0).val, rowOf_lt b (i 0)⟩ (i 1))

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

theorem iblk_x (c : Dev nD) (t : Fin cfg0.N) : (iblk m c 0 t : S1024x1024.Idx → Elt F .f32)
    = rowBlock (m ((c : Thread nD τ).loc main_arg0)) (grid0.coords t 0) := by
  funext x
  blk_simp [iblk]
  unfold rowBlock
  refine congrArg (m ((c : Thread nD τ).loc main_arg0)) ?_
  blk_ext [idx0]

theorem iblk_g (c : Dev nD) (t : Fin cfg0.N) : (iblk m c 1 t : S1x1024.Idx → Elt F .f32) = m ((c : Thread nD τ).loc main_arg1) := by
  funext x
  blk_simp [iblk]
  refine congrArg (m ((c : Thread nD τ).loc main_arg1)) ?_
  blk_ext [idx1]

/-- The scratch, once row block `b` has been normalised. -/
def held (c : Dev nD) (b : Fin 32) : S1024x1024.Idx → Elt F .bf16 :=
  kept (rowBlock (m ((c : Thread nD τ).loc main_arg0)) b) (m ((c : Thread nD τ).loc main_arg1))

/-! ## What a point leaves -/

/-- What the body leaves of the first output's block at point `t`, handed `Y`. -/
def Out4 (c : Dev nD) (t : Fin cfg0.N) (Y X : S1024x1024.Idx → Elt F .bf16) : Prop :=
  X = if k0_cond2 (grid0.coords t) = 1#1 then prod (held m c (grid0.coords t 0)) (iblk m c 2 t) else Y
/-- Of the second's. -/
def Out5 (c : Dev nD) (t : Fin cfg0.N) (Y X : S1024x1024.Idx → Elt F .f32) : Prop :=
  X = if k0_cond3 (grid0.coords t) = 1#1 then tail (held m c (grid0.coords t 0)) (iblk m c 2 t) else Y
/-- Of the third's. -/
def Out6 (c : Dev nD) (t : Fin cfg0.N) (Y X : S1024x1024.Idx → Elt F .bf16) : Prop :=
  X = if k0_cond4 (grid0.coords t) = 1#1 then turned (held m c (grid0.coords t 0)) (iblk m c 3 t) else Y

/-- Before point `t`, within a row block, the scratch holds the block's rows. -/
def Inv (c : Dev nD) (t : Fin (cfg0.N + 1)) : sProp 𝕄 :=
  iprop((∃ d, ⌜∀ s : Fin cfg0.N, s.val = t.val → s.val % 10 ≠ 0 → d = held m c (grid0.coords s 0)⌝
    ∗ owns (c : Thread nD τ) (Memref.whole cc0_scratch0) fullShare d) ∗ (∃ r, prngReg c r))

theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]; try rfl

theorem inv_in (c : Dev nD) : (Pipeline.ΦA spec0 c : sProp 𝕄) ⊢ Inv m c 0 := by
  rw [PhiA_eq]
  unfold Inv
  iintro ⟨⟨%d, H⟩, Hr⟩
  isplitl [H]
  · iexists d
    isplitr
    · ipureintro
      intro s h h'
      exact absurd (by rw [h]; rfl) h'
    · iexact H
  · iexact Hr

theorem inv_out (c : Dev nD) (t : Fin (cfg0.N + 1)) : Inv m c t ⊢ (Pipeline.ΦA spec0 c : sProp 𝕄) := by
  rw [PhiA_eq]
  unfold Inv
  iintro ⟨⟨%d, %h, H⟩, Hr⟩
  isplitl [H]
  · iexists d; iexact H
  · iexact Hr

/-! ## The launch's data -/

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
  Φ t := Inv m c t
  q _ := fullShare
  owed _ := 0

/-- The outputs' blocks are in the relations above to what they were. -/
def ovr (c : Dev nD) : (w : Fin cfg0.W) → Option (Fin cfg0.N → (Y X : (cfg0.win w).block.Idx → Elt F (cfg0.win w).elt) → Prop)
  | 0 => none
  | 1 => none
  | 2 => none
  | 3 => none
  | 4 => some (Out4 m c)
  | 5 => some (Out5 m c)
  | 6 => some (Out6 m c)

/-- The launch's data. -/
def rdat (c : Dev nD) : RDat τ (Elt F) Unit ℕ (UR sig nD τ) ℕ cfg0 c := (dats m 0 c).toR.override (ovr m c)

theorem finds0 (c : Dev nD) (t : Fin cfg0.N) (X) (h : (rdat m c).Finds 0 t X) : X = iblk m c 0 t := by
  obtain ⟨d, rfl⟩ := (dats m 0 c).toR_finds 0 t X (((dats m 0 c).toR.override_finds (ovr := ovr m c) rfl t X).mp h)
  exact before0_0_of m (dats m 0 c) rfl (fun _ => rfl) t d
theorem finds1 (c : Dev nD) (t : Fin cfg0.N) (X) (h : (rdat m c).Finds 1 t X) : X = iblk m c 1 t := by
  obtain ⟨d, rfl⟩ := (dats m 0 c).toR_finds 1 t X (((dats m 0 c).toR.override_finds (ovr := ovr m c) rfl t X).mp h)
  exact before0_1_of m (dats m 0 c) rfl (fun _ => rfl) t d
theorem finds2 (c : Dev nD) (t : Fin cfg0.N) (X) (h : (rdat m c).Finds 2 t X) : X = iblk m c 2 t := by
  obtain ⟨d, rfl⟩ := (dats m 0 c).toR_finds 2 t X (((dats m 0 c).toR.override_finds (ovr := ovr m c) rfl t X).mp h)
  exact before0_2_of m (dats m 0 c) rfl (fun _ => rfl) t d
theorem finds3 (c : Dev nD) (t : Fin cfg0.N) (X) (h : (rdat m c).Finds 3 t X) : X = iblk m c 3 t := by
  obtain ⟨d, rfl⟩ := (dats m 0 c).toR_finds 3 t X (((dats m 0 c).toR.override_finds (ovr := ovr m c) rfl t X).mp h)
  exact before0_3_of m (dats m 0 c) rfl (fun _ => rfl) t d

/-! ## The body at a point -/

/-- What the body is called with at point `t`, and what it returns. -/
def bodyPre (c : Dev nD) (t : Fin cfg0.N) (Y4 : S1024x1024.Idx → Elt F .bf16) (Y5 : S1024x1024.Idx → Elt F .f32) (Y6 : S1024x1024.Idx → Elt F .bf16) : sProp 𝕄 :=
  iprop(Inv m c t.castSucc ∗ (rdat m c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare Y4 ∗ owns (c : Thread nD τ) (win0_5.stage (cfg0.slots t 5)) fullShare Y5
    ∗ owns (c : Thread nD τ) (win0_6.stage (cfg0.slots t 6)) fullShare Y6)
def bodyPost (c : Dev nD) (t : Fin cfg0.N) (Y4 : S1024x1024.Idx → Elt F .bf16) (Y5 : S1024x1024.Idx → Elt F .f32) (Y6 : S1024x1024.Idx → Elt F .bf16) : sProp 𝕄 :=
  iprop(Inv m c t.succ ∗ (rdat m c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ (∃ X, ⌜Out4 m c t Y4 X⌝ ∗ owns (c : Thread nD τ) (win0_4.stage (cfg0.slots t 4)) fullShare X)
    ∗ (∃ X, ⌜Out5 m c t Y5 X⌝ ∗ owns (c : Thread nD τ) (win0_5.stage (cfg0.slots t 5)) fullShare X)
    ∗ (∃ X, ⌜Out6 m c t Y6 X⌝ ∗ owns (c : Thread nD τ) (win0_6.stage (cfg0.slots t 6)) fullShare X))

/-- After the point the scratch holds the rows of its row block. -/
theorem inv_next (c : Dev nD) (t : Fin cfg0.N) : iprop(owns (c : Thread nD τ) (Memref.whole cc0_scratch0) fullShare (held m c (grid0.coords t 0))
    ∗ (∃ r, prngReg c r)) ⊢ Inv m c t.succ := by
  unfold Inv
  iintro ⟨H, Hr⟩
  isplitl [H]
  · iexists _
    isplitr
    · ipureintro
      intro s h h'
      rw [coords_next s h' t h]
    · iexact H
  · iexact Hr

theorem sound_body (c : Dev nD) (t : Fin cfg0.N) (Y4 : S1024x1024.Idx → Elt F .bf16) (Y5 : S1024x1024.Idx → Elt F .f32) (Y6 : S1024x1024.Idx → Elt F .bf16) :
    bodyPre m c t Y4 Y5 Y6 ⊢ wp frame (wpE (defs₀ (F := F)) Variants.none c none) Set.univ (bodyAt0 t) (fun _ => bodyPost m c t Y4 Y5 Y6) := by
  unfold bodyPre bodyAt0
  rcases steps_at t with ⟨ht, h1, h2, h3, h4⟩ | ⟨ht, h1, h2, h3, h4⟩ | ⟨ht, h1, h2, h3, h4⟩ | ⟨ht, h1, h2, h3, h4⟩
  · unfold Inv
    iintro ⟨⟨⟨%d, %hd, Hd⟩, Hr⟩, HO, H0, H1, H2, H3, H4, H5, H6⟩
    have h := body_first (U := UR sig nD τ) (defs₀ (F := F)) c Set.univ (grid0.coords t)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6)) (Memref.whole cc0_scratch0) (Memref.isWhole_whole _)
      (x := iblk m c 0 t) (g := iblk m c 1 t) (w := iblk m c 2 t) (wt := iblk m c 3 t) (A := Y4) (B := Y5) (T := Y6) (d := d)
      h1 h2 h3 h4 (fun _ => bodyPost m c t Y4 Y5 Y6)
    rw [show kept (F := F) (iblk m c 0 t) (iblk m c 1 t) = held m c (grid0.coords t 0) from congrArg₂ kept (iblk_x m c t) (iblk_g m c t)] at h
    iapply h $$ [Hd H0 H1 H2 H3 H4 H5 H6]
    · unfold Holds
      isplitl [H0]; · iexact H0
      isplitl [H1]; · iexact H1
      isplitl [H2]; · iexact H2
      isplitl [H3]; · iexact H3
      isplitl [H4]; · iexact H4
      isplitl [H5]; · iexact H5
      isplitl [H6]; · iexact H6
      iexact Hd
    unfold Holds bodyPost
    iintro ⟨H0, H1, H2, H3, H4, H5, H6, Hd⟩
    isplitl [Hd Hr]
    · iapply inv_next
      isplitl [Hd]; · iexact Hd
      iexact Hr
    isplitl [HO]; · iexact HO
    isplitl [H0]; · iexact H0
    isplitl [H1]; · iexact H1
    isplitl [H2]; · iexact H2
    isplitl [H3]; · iexact H3
    isplitl [H4]
    · iexists _
      isplitr
      · ipureintro
        exact (if_pos h2).symm
      · iexact H4
    isplitl [H5]
    · iexists _
      isplitr
      · ipureintro
        exact (if_neg h3).symm
      · iexact H5
    iexists _
    isplitr
    · ipureintro
      exact (if_neg h4).symm
    · iexact H6
  · unfold Inv
    iintro ⟨⟨⟨%d, %hd, Hd⟩, Hr⟩, HO, H0, H1, H2, H3, H4, H5, H6⟩
    obtain rfl := hd t rfl ht
    have h := body_main (U := UR sig nD τ) (defs₀ (F := F)) c Set.univ (grid0.coords t)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6)) (Memref.whole cc0_scratch0) (Memref.isWhole_whole _)
      (x := iblk m c 0 t) (g := iblk m c 1 t) (w := iblk m c 2 t) (wt := iblk m c 3 t) (A := Y4) (B := Y5) (T := Y6) (d := held m c (grid0.coords t 0))
      h1 h2 h3 h4 (fun _ => bodyPost m c t Y4 Y5 Y6)
    iapply h $$ [Hd H0 H1 H2 H3 H4 H5 H6]
    · unfold Holds
      isplitl [H0]; · iexact H0
      isplitl [H1]; · iexact H1
      isplitl [H2]; · iexact H2
      isplitl [H3]; · iexact H3
      isplitl [H4]; · iexact H4
      isplitl [H5]; · iexact H5
      isplitl [H6]; · iexact H6
      iexact Hd
    unfold Holds bodyPost
    iintro ⟨H0, H1, H2, H3, H4, H5, H6, Hd⟩
    isplitl [Hd Hr]
    · iapply inv_next
      isplitl [Hd]; · iexact Hd
      iexact Hr
    isplitl [HO]; · iexact HO
    isplitl [H0]; · iexact H0
    isplitl [H1]; · iexact H1
    isplitl [H2]; · iexact H2
    isplitl [H3]; · iexact H3
    isplitl [H4]
    · iexists _
      isplitr
      · ipureintro
        exact (if_pos h2).symm
      · iexact H4
    isplitl [H5]
    · iexists _
      isplitr
      · ipureintro
        exact (if_neg h3).symm
      · iexact H5
    iexists _
    isplitr
    · ipureintro
      exact (if_neg h4).symm
    · iexact H6
  · unfold Inv
    iintro ⟨⟨⟨%d, %hd, Hd⟩, Hr⟩, HO, H0, H1, H2, H3, H4, H5, H6⟩
    obtain rfl := hd t rfl ht
    have h := body_tail (U := UR sig nD τ) (defs₀ (F := F)) c Set.univ (grid0.coords t)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6)) (Memref.whole cc0_scratch0) (Memref.isWhole_whole _)
      (x := iblk m c 0 t) (g := iblk m c 1 t) (w := iblk m c 2 t) (wt := iblk m c 3 t) (A := Y4) (B := Y5) (T := Y6) (d := held m c (grid0.coords t 0))
      h1 h2 h3 h4 (fun _ => bodyPost m c t Y4 Y5 Y6)
    iapply h $$ [Hd H0 H1 H2 H3 H4 H5 H6]
    · unfold Holds
      isplitl [H0]; · iexact H0
      isplitl [H1]; · iexact H1
      isplitl [H2]; · iexact H2
      isplitl [H3]; · iexact H3
      isplitl [H4]; · iexact H4
      isplitl [H5]; · iexact H5
      isplitl [H6]; · iexact H6
      iexact Hd
    unfold Holds bodyPost
    iintro ⟨H0, H1, H2, H3, H4, H5, H6, Hd⟩
    isplitl [Hd Hr]
    · iapply inv_next
      isplitl [Hd]; · iexact Hd
      iexact Hr
    isplitl [HO]; · iexact HO
    isplitl [H0]; · iexact H0
    isplitl [H1]; · iexact H1
    isplitl [H2]; · iexact H2
    isplitl [H3]; · iexact H3
    isplitl [H4]
    · iexists _
      isplitr
      · ipureintro
        exact (if_neg h2).symm
      · iexact H4
    isplitl [H5]
    · iexists _
      isplitr
      · ipureintro
        exact (if_pos h3).symm
      · iexact H5
    iexists _
    isplitr
    · ipureintro
      exact (if_neg h4).symm
    · iexact H6
  · unfold Inv
    iintro ⟨⟨⟨%d, %hd, Hd⟩, Hr⟩, HO, H0, H1, H2, H3, H4, H5, H6⟩
    obtain rfl := hd t rfl ht
    have h := body_turned (U := UR sig nD τ) (defs₀ (F := F)) c Set.univ (grid0.coords t)
      (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5))
      (win0_6.stage (cfg0.slots t 6)) (hstage0_6 ((cfg0.slots t 6).cast nbuf0_6)) (Memref.whole cc0_scratch0) (Memref.isWhole_whole _)
      (x := iblk m c 0 t) (g := iblk m c 1 t) (w := iblk m c 2 t) (wt := iblk m c 3 t) (A := Y4) (B := Y5) (T := Y6) (d := held m c (grid0.coords t 0))
      h1 h2 h3 h4 (fun _ => bodyPost m c t Y4 Y5 Y6)
    iapply h $$ [Hd H0 H1 H2 H3 H4 H5 H6]
    · unfold Holds
      isplitl [H0]; · iexact H0
      isplitl [H1]; · iexact H1
      isplitl [H2]; · iexact H2
      isplitl [H3]; · iexact H3
      isplitl [H4]; · iexact H4
      isplitl [H5]; · iexact H5
      isplitl [H6]; · iexact H6
      iexact Hd
    unfold Holds bodyPost
    iintro ⟨H0, H1, H2, H3, H4, H5, H6, Hd⟩
    isplitl [Hd Hr]
    · iapply inv_next
      isplitl [Hd]; · iexact Hd
      iexact Hr
    isplitl [HO]; · iexact HO
    isplitl [H0]; · iexact H0
    isplitl [H1]; · iexact H1
    isplitl [H2]; · iexact H2
    isplitl [H3]; · iexact H3
    isplitl [H4]
    · iexists _
      isplitr
      · ipureintro
        exact (if_neg h2).symm
      · iexact H4
    isplitl [H5]
    · iexists _
      isplitr
      · ipureintro
        exact (if_neg h3).symm
      · iexact H5
    iexists _
    isplitr
    · ipureintro
      exact (if_pos h4).symm
    · iexact H6

/-- The body table's row at the point is the body. -/
theorem defs₀_row (t : Fin cfg0.N) : defs₀ (F := F) .tc cfg0.body (cfg0.bodyArgs t (cfg0.slots t)) = bodyAt0 t := by
  unfold defs₀; rw [Defs.onTc_tc]

theorem leaves0 (c : Dev nD) (t : Fin cfg0.N) (Y) : (rdat m c).after 0 t Y (iblk m c 0 t) := rfl
theorem leaves1 (c : Dev nD) (t : Fin cfg0.N) (Y) : (rdat m c).after 1 t Y (iblk m c 1 t) := rfl
theorem leaves2 (c : Dev nD) (t : Fin cfg0.N) (Y) : (rdat m c).after 2 t Y (iblk m c 2 t) := rfl
theorem leaves3 (c : Dev nD) (t : Fin cfg0.N) (Y) : (rdat m c).after 3 t Y (iblk m c 3 t) := rfl

theorem body_obligation (c : Dev nD) : (rdat m c).BodyObligation (defs₀ (F := F)) Variants.none () Set.univ := fun t Y hY => by
  rw [bigSep_W0, bigSep_W0, defs₀_row]
  refine triple_restated (sound_body m c t (Y 4) (Y 5) (Y 6)) rfl ?_ fun _ => ?_
  · rw [finds0 m c t _ (hY 0), finds1 m c t _ (hY 1), finds2 m c t _ (hY 2), finds3 m c t _ (hY 3)]
    unfold bodyPre
    exact .rfl
  · unfold bodyPost
    rw [show (rdat m c).Φ t.succ = Inv m c t.succ from rfl,
      show (rdat m c).owesAt () t.succ = (rdat m c).owesAt () t.castSucc from rfl]
    iintro ⟨HS, HO, H0, H1, H2, H3, ⟨%X4, %hX4, H4⟩, ⟨%X5, %hX5, H5⟩, ⟨%X6, %hX6, H6⟩⟩
    isplitl [HS]; · iexact HS
    isplitl [HO]; · iexact HO
    isplitl [H0]
    · iexists _; isplitr
      · ipureintro; exact leaves0 m c t _
      · iexact H0
    isplitl [H1]
    · iexists _; isplitr
      · ipureintro; exact leaves1 m c t _
      · iexact H1
    isplitl [H2]
    · iexists _; isplitr
      · ipureintro; exact leaves2 m c t _
      · iexact H2
    isplitl [H3]
    · iexists _; isplitr
      · ipureintro; exact leaves3 m c t _
      · iexact H3
    isplitl [H4]
    · iexists X4; isplitr
      · ipureintro; exact hX4
      · iexact H4
    isplitl [H5]
    · iexists X5; isplitr
      · ipureintro; exact hX5
      · iexact H5
    iexists X6; isplitr
    · ipureintro; exact hX6
    · iexact H6

/-! ## The launch -/

set_option backward.isDefEq.respectTransparency.types false in
/-- Every weakly fair execution ends, with the inputs as launched and the results in the relations the points leave. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track cfgs (0 : Fin 1) launch0 defs₀ Variants.none (rdat m) m ρ main
    (body_obligation m) (fun c w => by fin_cases w <;> rfl) (fun _ _ => rfl) (V m) (hmain m Variants.none) (fun c w => rfl)
    (fun c => inv_in m c) (fun c => inv_out m c _) (Q' := _) (hQ' := fun _ h => h)

/-- The arguments are as launched. -/
theorem args_of {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨h.arr_in c 0 rfl, h.arr_in c 1 rfl, h.arr_in c 2 rfl, h.arr_in c 3 rfl⟩

end Cert.Kernel3Ideal.Hand

end
-- ==== Proof.ProjSpec.lean ====
/-
  The in-projection at an index: a row, normalised, against a column of weights.
-/
module

public import proofs.«01_k».proof.Proof.MergeSpec

@[expose] public section

noncomputable section

namespace Cert.Proj

open Idealize.ShloMosaic

/-- The row `x`, normalised and scaled by `g`, against the weights `w`. -/
def inprojAt (x g w : Fin 1024 → EReal) : EReal := ∑ e, Merge.normed x g e * w e

end Cert.Proj

end
-- ==== Proof.ProjReference.lean ====
/-
  The in-projection's reference at an index.
-/
module

public import proofs.«01_k».proof.Proof.Gen.Reference3Ideal.Run
public import proofs.«01_k».proof.Proof.ProjSpec
public import Idealize.ShloMosaic.Lib.Pointwise

@[expose] public section

set_option maxRecDepth 16384
set_option synthInstance.maxSize 4096

noncomputable section

namespace Cert.Proj

open Cert.Reference3Ideal Cert.Reference3Ideal.Gen
open Idealize.ShloMosaic Idealize.ShloMosaic.TcCoe

/-! ## The reference in pieces -/

/-- The rows normalised. -/
def fullNorm (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim
    S32768x1 ![0] bcast_S32768_S32768x1_0 (Host.reduceAdd (mulf x x) (constant (F := Ideal) S_ .f32 0x00000000#32)
    reducesTo_S32768x1024_S32768_d1 h_S_)) (broadcastInDim S32768x1 ![] bcast_S_S32768x1 (constant (F := Ideal) S_ .f32 0x44800000#32)))
    (broadcastInDim S32768x1 ![] bcast_S_S32768x1 (constant (F := Ideal) S_ .f32 0x358637BD#32))))))
    (broadcastInDim S32768x1024 ![0, 1] bcast_S1x1024_S32768x1024_0_1 (broadcastInDim S1x1024 ![1] bcast_S1024_S1x1024_1
    (shapeCast _ g shapeCasts_S1x1024_S1024)))
/-- The product with the first layer's `w_cat`. -/
def fullCat (h : FVec Ideal S32768x1024 .f32) (w : FVec Ideal S2x1024x8192 .bf16) : FVec Ideal S32768x8192 .f32 :=
  Host.dotGeneral dot_S32768x1024_S1024x8192_S32768x8192_1_0_0_1_n_n none h (extf .f32 (shapeCast _ (extractStridedSlice S1x1024x8192 ![0, 0, 0] w
    slices_S2x1024x8192_S1x1024x8192_0_0_0) shapeCasts_S1x1024x8192_S1024x8192) bitsLt_bf16_f32)
/-- The product with the first layer's `w_t`. -/
def fullTurned (h : FVec Ideal S32768x1024 .f32) (w : FVec Ideal S2x2048x1024 .bf16) : FVec Ideal S32768x2048 .f32 :=
  Host.dotGeneral dot_S32768x1024_S1024x2048_S32768x2048_1_0_0_1_n_n none h (transpose S1024x2048 [1, 0] (extf .f32 (shapeCast _
    (extractStridedSlice S1x2048x1024 ![0, 0, 0] w slices_S2x2048x1024_S1x2048x1024_0_0_0) shapeCasts_S1x2048x1024_S2048x1024) bitsLt_bf16_f32)
    transposes_S2048x1024_S1024x2048_1_0)
/-- The three results. -/
def refMain (p : FVec Ideal S32768x8192 .f32) : FVec Ideal S32768x7168 .bf16 :=
  truncf .bf16 (extractStridedSlice S32768x7168 ![0, 0] p slices_S32768x8192_S32768x7168_0_0) bitsLt_bf16_f32
def refTail (p : FVec Ideal S32768x8192 .f32) : FVec Ideal S32768x1024 .f32 :=
  extractStridedSlice S32768x1024 ![0, 7168] p slices_S32768x8192_S32768x1024_0_7168
def refTurned (p : FVec Ideal S32768x2048 .f32) : FVec Ideal S2048x32768 .bf16 :=
  truncf .bf16 (transpose S2048x32768 [1, 0] p transposes_S32768x2048_S2048x32768_1_0) bitsLt_bf16_f32

/-! ## The pieces at an index -/

theorem fullNorm_apply (x : FVec Ideal S32768x1024 .f32) (g : FVec Ideal S1x1024 .f32) (T : Fin 32768) (n : Fin 1024) :
    fullNorm x g (ix2 T n) = Merge.normed (fun k => x (ix2 T k)) (fun k => g (ix2 0 k)) n := by
  pointwise [fullNorm]
  rfl

theorem fullCat_apply (h : FVec Ideal S32768x1024 .f32) (w : FVec Ideal S2x1024x8192 .bf16) (T : Fin 32768) (j : Fin 8192) :
    fullCat h w (ix2 T j) = ∑ e : Fin 1024, h (ix2 T e) * w (ix3 0 e j) := by
  pointwise [fullCat]

theorem fullTurned_apply (h : FVec Ideal S32768x1024 .f32) (w : FVec Ideal S2x2048x1024 .bf16) (T : Fin 32768) (j : Fin 2048) :
    fullTurned h w (ix2 T j) = ∑ e : Fin 1024, h (ix2 T e) * w (ix3 0 j e) := by
  pointwise [fullTurned]

theorem mainCol_lt (j : Fin 7168) : j.val < 8192 := by omega
theorem tailCol_lt (j : Fin 1024) : 7168 + j.val < 8192 := by omega

theorem refMain_apply (p : FVec Ideal S32768x8192 .f32) (T : Fin 32768) (j : Fin 7168) :
    refMain p (ix2 T j) = p (ix2 T ⟨j.val, mainCol_lt j⟩) := by
  pointwise [refMain]
theorem refTail_apply (p : FVec Ideal S32768x8192 .f32) (T : Fin 32768) (j : Fin 1024) :
    refTail p (ix2 T j) = p (ix2 T ⟨7168 + j.val, tailCol_lt j⟩) := by
  pointwise [refTail]
theorem refTurned_apply (p : FVec Ideal S32768x2048 .f32) (j : Fin 2048) (T : Fin 32768) :
    refTurned p (ix2 j T) = p (ix2 T j) := by
  pointwise [refTurned]

/-! ## The three arrays -/

section Arrays

variable (x : S32768x1024.Idx → EReal) (g : S1x1024.Idx → EReal) (w : S2x1024x8192.Idx → EReal) (wt : S2x2048x1024.Idx → EReal)

/-- Row `T` against column `j` of the first layer's `w_cat`. -/
def catAt (T : Fin 32768) (j : Fin 8192) : EReal := inprojAt (fun k => x (ix2 T k)) (fun k => g (ix2 0 k)) (fun e => w (ix3 0 e j))
/-- Row `T` against row `j` of the first layer's `w_t`. -/
def turnedAt (j : Fin 2048) (T : Fin 32768) : EReal := inprojAt (fun k => x (ix2 T k)) (fun k => g (ix2 0 k)) (fun e => wt (ix3 0 j e))

/-- The first result. -/
def mainArr : S32768x7168.Idx → EReal := fun i => catAt x g w (i 0) ⟨(i 1).val, mainCol_lt (i 1)⟩
/-- The second. -/
def tailArr : S32768x1024.Idx → EReal := fun i => catAt x g w (i 0) ⟨7168 + (i 1).val, tailCol_lt (i 1)⟩
/-- The third. -/
def turnedArr : S2048x32768.Idx → EReal := fun i => turnedAt x g wt (i 0) (i 1)

theorem refMain_eq : refMain (fullCat (fullNorm x g) w) = mainArr x g w := by
  funext i
  obtain ⟨T, j, rfl⟩ : ∃ (T : Fin 32768) (j : Fin 7168), i = ix2 T j := ⟨i 0, i 1, eq_ix2 i⟩
  rw [refMain_apply, fullCat_apply]
  simp only [fullNorm_apply]
  rfl
theorem refTail_eq : refTail (fullCat (fullNorm x g) w) = tailArr x g w := by
  funext i
  obtain ⟨T, j, rfl⟩ : ∃ (T : Fin 32768) (j : Fin 1024), i = ix2 T j := ⟨i 0, i 1, eq_ix2 i⟩
  rw [refTail_apply, fullCat_apply]
  simp only [fullNorm_apply]
  rfl
theorem refTurned_eq : refTurned (fullTurned (fullNorm x g) wt) = turnedArr x g wt := by
  funext i
  obtain ⟨j, T, rfl⟩ : ∃ (j : Fin 2048) (T : Fin 32768), i = ix2 j T := ⟨i 0, i 1, eq_ix2 i⟩
  rw [refTurned_apply, fullTurned_apply]
  simp only [fullNorm_apply]
  rfl

end Arrays

end Cert.Proj

end
-- ==== Proof.ProjResult.lean ====
/-
  The in-projection's result arrays, over the extended reals: each block written back holds the rows of its row block,
  normalised, against the columns it is for.
-/
module

public import proofs.«01_k».proof.Proof.Kernel3IdealRun
public import proofs.«01_k».proof.Proof.ProjReference

@[expose] public section

set_option synthInstance.maxSize 4096
set_option maxRecDepth 16384

noncomputable section

namespace Cert.Proj

open Cert.Kernel3Ideal Cert.Kernel3Ideal.Gen Cert.Kernel3Ideal.Hand
open Idealize.ShloMosaic Idealize.ShloMosaic.TcCoe
open Idealize.ShloMosaic.Pipeline (Dat RDat)

/-! ## What the body stores, at an index -/

theorem kept_apply (x : FVec Ideal S1024x1024 .f32) (g : FVec Ideal S1x1024 .f32) (r e : Fin 1024) :
    kept (F := Ideal) x g (ix2 r e) = Merge.normed (fun k => x (ix2 r k)) (fun k => g (ix2 0 k)) e := by
  pointwise [kept, rows]
  rfl
theorem tail_apply (h : FVec Ideal S1024x1024 .bf16) (w : FVec Ideal S1x1024x1024 .bf16) (r n : Fin 1024) :
    tail (F := Ideal) h w (ix2 r n) = ∑ e : Fin 1024, h (ix2 r e) * w (ix3 0 e n) := by
  pointwise [tail]
theorem prod_apply (h : FVec Ideal S1024x1024 .bf16) (w : FVec Ideal S1x1024x1024 .bf16) (r n : Fin 1024) :
    prod (F := Ideal) h w (ix2 r n) = ∑ e : Fin 1024, h (ix2 r e) * w (ix3 0 e n) := by
  pointwise [prod, tail]
theorem turned_apply (h : FVec Ideal S1024x1024 .bf16) (w : FVec Ideal S1x1024x1024 .bf16) (r n : Fin 1024) :
    turned (F := Ideal) h w (ix2 r n) = ∑ e : Fin 1024, w (ix3 0 r e) * h (ix2 n e) := by
  pointwise [turned]

/-! ## The points -/

theorem coords0_eq : ∀ t : Fin cfg0.N, (grid0.coords t 0).val = t.val / 10 :=
  (by decide +kernel : ∀ t : Fin grid0.N, _)
theorem idx2 : ∀ t : Fin cfg0.N, win0_2.index t = ![0, 0, min (t.val % 10) 7] :=
  (by decide +kernel : ∀ t : Fin grid0.N, _)
theorem idx3 : ∀ t : Fin cfg0.N, win0_3.index t = ![0, t.val % 10 - 8, 0] :=
  (by decide +kernel : ∀ t : Fin grid0.N, _)
theorem idx4 : ∀ t : Fin cfg0.N, win0_4.index t = ![t.val / 10, min (t.val % 10) 6] :=
  (by decide +kernel : ∀ t : Fin grid0.N, _)
theorem idx5 : ∀ t : Fin cfg0.N, win0_5.index t = ![t.val / 10, 0] :=
  (by decide +kernel : ∀ t : Fin grid0.N, _)
theorem idx6 : ∀ t : Fin cfg0.N, win0_6.index t = ![t.val % 10 - 8, t.val / 10] :=
  (by decide +kernel : ∀ t : Fin grid0.N, _)
theorem cond2_iff : ∀ t : Fin cfg0.N, k0_cond2 (grid0.coords t) = 1#1 ↔ t.val % 10 < 7 :=
  (by decide +kernel : ∀ t : Fin grid0.N, _)
theorem cond3_iff : ∀ t : Fin cfg0.N, k0_cond3 (grid0.coords t) = 1#1 ↔ t.val % 10 = 7 :=
  (by decide +kernel : ∀ t : Fin grid0.N, _)
theorem cond4_iff : ∀ t : Fin cfg0.N, k0_cond4 (grid0.coords t) = 1#1 ↔ 7 < t.val % 10 :=
  (by decide +kernel : ∀ t : Fin grid0.N, _)
theorem no_flush4 : ∀ t : Fin cfg0.N, 6 ≤ t.val % 10 → t.val % 10 < 9 → win0_4.flush t = false :=
  (by decide +kernel : ∀ t : Fin grid0.N, 6 ≤ t.val % 10 → t.val % 10 < 9 → win0_4.flush t = false)
theorem flush6_late : ∀ t : Fin cfg0.N, win0_6.flush t = true → 7 < t.val % 10 :=
  (by decide +kernel : ∀ t : Fin grid0.N, win0_6.flush t = true → 7 < t.val % 10)

section Run

variable (m : (ℓ : Loc nD τ sig) → Buf (Elt Ideal) ℓ) (c : Dev nD)

theorem catCol_lt (t : Fin cfg0.N) (n : Fin 1024) : 1024 * min (t.val % 10) 7 + n.val < 8192 := by omega
theorem turnedRow_lt (t : Fin cfg0.N) (r : Fin 1024) : 1024 * (t.val % 10 - 8) + r.val < 2048 := by omega
theorem row_lt (t : Fin cfg0.N) (r : Fin 1024) : 1024 * (t.val / 10) + r.val < 32768 := by
  have h : t.val < 320 := t.isLt
  omega

theorem iblk_cat (t : Fin cfg0.N) (e n : Fin 1024) : (iblk (F := Ideal) m c 2 t : S1x1024x1024.Idx → EReal) (ix3 0 e n)
    = (m ((c : Thread nD τ).loc main_arg2) : S2x1024x8192.Idx → EReal) (ix3 0 e ⟨1024 * min (t.val % 10) 7 + n.val, catCol_lt t n⟩) := by
  blk_simp [iblk]
  refine congrArg (m ((c : Thread nD τ).loc main_arg2)) ?_
  blk_ext [idx2]

theorem iblk_turned (t : Fin cfg0.N) (r e : Fin 1024) : (iblk (F := Ideal) m c 3 t : S1x1024x1024.Idx → EReal) (ix3 0 r e)
    = (m ((c : Thread nD τ).loc main_arg3) : S2x2048x1024.Idx → EReal) (ix3 0 ⟨1024 * (t.val % 10 - 8) + r.val, turnedRow_lt t r⟩ e) := by
  blk_simp [iblk]
  refine congrArg (m ((c : Thread nD τ).loc main_arg3)) ?_
  blk_ext [idx3]

/-- Row `T` of the input, normalised. -/
def hRow (x : S32768x1024.Idx → EReal) (g : S1x1024.Idx → EReal) (T : Fin 32768) : Fin 1024 → EReal :=
  Merge.normed (fun k => x (ix2 T k)) (fun k => g (ix2 0 k))

theorem held_apply (t : Fin cfg0.N) (r e : Fin 1024) : (held (F := Ideal) m c (grid0.coords t 0) : S1024x1024.Idx → EReal) (ix2 r e)
    = hRow (m ((c : Thread nD τ).loc main_arg0)) (m ((c : Thread nD τ).loc main_arg1)) ⟨1024 * (t.val / 10) + r.val, row_lt t r⟩ e := by
  unfold held
  rw [kept_apply]
  unfold hRow
  refine congrArg (fun f => Merge.normed f _ e) (funext fun k => ?_)
  unfold rowBlock
  refine congrArg (fun T => (m ((c : Thread nD τ).loc main_arg0) : S32768x1024.Idx → EReal) (ix2 T k)) (Fin.ext ?_)
  show 1024 * (grid0.coords t 0).val + r.val = 1024 * (t.val / 10) + r.val
  rw [coords0_eq]

/-- The arrays of the three results. -/
def out0 : S32768x7168.Idx → EReal :=
  mainArr (m ((c : Thread nD τ).loc main_arg0)) (m ((c : Thread nD τ).loc main_arg1)) (m ((c : Thread nD τ).loc main_arg2))
def out1 : S32768x1024.Idx → EReal :=
  tailArr (m ((c : Thread nD τ).loc main_arg0)) (m ((c : Thread nD τ).loc main_arg1)) (m ((c : Thread nD τ).loc main_arg2))
def out2 : S2048x32768.Idx → EReal :=
  turnedArr (m ((c : Thread nD τ).loc main_arg0)) (m ((c : Thread nD τ).loc main_arg1)) (m ((c : Thread nD τ).loc main_arg3))

theorem cat_value (t : Fin cfg0.N) (r n : Fin 1024) :
    (∑ e : Fin 1024, (held (F := Ideal) m c (grid0.coords t 0) : S1024x1024.Idx → EReal) (ix2 r e)
        * (iblk (F := Ideal) m c 2 t : S1x1024x1024.Idx → EReal) (ix3 0 e n))
      = catAt (m ((c : Thread nD τ).loc main_arg0)) (m ((c : Thread nD τ).loc main_arg1)) (m ((c : Thread nD τ).loc main_arg2))
        ⟨1024 * (t.val / 10) + r.val, row_lt t r⟩ ⟨1024 * min (t.val % 10) 7 + n.val, catCol_lt t n⟩ :=
  Finset.sum_congr rfl fun e _ => congrArg₂ (HMul.hMul (α := EReal) (β := EReal) (γ := EReal)) (held_apply m c t r e) (iblk_cat m c t e n)

/-- The point's block of the first layer's `w_t`. -/
def turnedIn (t : Fin cfg0.N) (r e : Fin 1024) : EReal := (iblk (F := Ideal) m c 3 t : S1x1024x1024.Idx → EReal) (ix3 0 r e)

theorem turned_value (t : Fin cfg0.N) (r n : Fin 1024) :
    (∑ e : Fin 1024, turnedIn m c t r e
        * (held (F := Ideal) m c (grid0.coords t 0) : S1024x1024.Idx → EReal) (ix2 n e))
      = turnedAt (m ((c : Thread nD τ).loc main_arg0)) (m ((c : Thread nD τ).loc main_arg1)) (m ((c : Thread nD τ).loc main_arg3))
        ⟨1024 * (t.val % 10 - 8) + r.val, turnedRow_lt t r⟩ ⟨1024 * (t.val / 10) + n.val, row_lt t n⟩ :=
  Finset.sum_congr rfl fun e _ => (mul_comm (G := EReal) _ _).trans
    (congrArg₂ (HMul.hMul (α := EReal) (β := EReal) (γ := EReal)) (held_apply m c t n e) (iblk_turned m c t r e))

/-! ## The outputs' blocks from point to point -/

theorem mainIdx_lt (t : Fin cfg0.N) (n : Fin 1024) : 1024 * min (t.val % 10) 6 + n.val < 7168 := by omega

/-- What a point may leave of the first output's block. -/
theorem leaves4 (k : ℕ) : ∀ (t : Fin cfg0.N), t.val = k → ∀ X : S1024x1024.Idx → EReal, (rdat (F := Ideal) m c).Leaves 4 t X →
    ∀ r n : Fin 1024, X (ix2 r n) = out0 m c (ix2 ⟨1024 * (t.val / 10) + r.val, row_lt t r⟩ ⟨1024 * min (t.val % 10) 6 + n.val, mainIdx_lt t n⟩) := by
  induction k with
  | zero =>
    rintro t ht X ⟨Y, -, hX⟩ r n
    have hX' : X = if k0_cond2 (grid0.coords t) = 1#1 then prod (held m c (grid0.coords t 0)) (iblk m c 2 t) else Y := hX
    rw [if_pos ((cond2_iff t).mpr (by omega))] at hX'
    rw [hX', prod_apply]
    refine (cat_value m c t r n).trans ?_
    unfold out0 mainArr
    refine congrArg (catAt _ _ _ _) (Fin.ext ?_)
    show 1024 * min (t.val % 10) 7 + n.val = 1024 * min (t.val % 10) 6 + n.val
    omega
  | succ k ih =>
    rintro t ht X ⟨Y, hY, hX⟩ r n
    have hX' : X = if k0_cond2 (grid0.coords t) = 1#1 then prod (held m c (grid0.coords t 0)) (iblk m c 2 t) else Y := hX
    by_cases h7 : t.val % 10 < 7
    · rw [if_pos ((cond2_iff t).mpr h7)] at hX'
      rw [hX', prod_apply]
      refine (cat_value m c t r n).trans ?_
      unfold out0 mainArr
      refine congrArg (catAt _ _ _ _) (Fin.ext ?_)
      show 1024 * min (t.val % 10) 7 + n.val = 1024 * min (t.val % 10) 6 + n.val
      omega
    · rw [if_neg fun h => h7 ((cond2_iff t).mp h)] at hX'
      subst hX'
      have hb : t.val - 1 < cfg0.N := Nat.lt_of_le_of_lt (Nat.sub_le _ _) t.isLt
      have hf := (RDat.finds_of_pos (rdat (F := Ideal) m c) (w := 4) (t := t) rfl (by omega) X).mp hY
      have hfl : (cfg0.win 4).flush ⟨t.val - 1, hb⟩ ≠ true := fun h => by
        have := no_flush4 ⟨t.val - 1, hb⟩ (by show 6 ≤ (t.val - 1) % 10; omega) (by show (t.val - 1) % 10 < 9; omega)
        exact Bool.false_ne_true (this.symm.trans h)
      refine (ih ⟨t.val - 1, hb⟩ (by show t.val - 1 = k; omega) X (hf.resolve_left hfl) r n).trans ?_
      refine congrArg₂ (fun a b => out0 m c (ix2 a b)) (Fin.ext ?_) (Fin.ext ?_)
      · show 1024 * ((t.val - 1) / 10) + r.val = 1024 * (t.val / 10) + r.val
        omega
      · show 1024 * min ((t.val - 1) % 10) 6 + n.val = 1024 * min (t.val % 10) 6 + n.val
        omega

/-- What a point may leave of the second output's block, from the point on that stores it. -/
theorem leaves5 (k : ℕ) : ∀ (t : Fin cfg0.N), t.val % 10 = 7 + k → ∀ X : S1024x1024.Idx → EReal, (rdat (F := Ideal) m c).Leaves 5 t X →
    ∀ r n : Fin 1024, X (ix2 r n) = out1 m c (ix2 ⟨1024 * (t.val / 10) + r.val, row_lt t r⟩ n) := by
  induction k with
  | zero =>
    rintro t ht X ⟨Y, -, hX⟩ r n
    have hX' : X = if k0_cond3 (grid0.coords t) = 1#1 then tail (held m c (grid0.coords t 0)) (iblk m c 2 t) else Y := hX
    rw [if_pos ((cond3_iff t).mpr ht)] at hX'
    rw [hX', tail_apply]
    refine (cat_value m c t r n).trans ?_
    unfold out1 tailArr
    refine congrArg (catAt _ _ _ _) (Fin.ext ?_)
    show 1024 * min (t.val % 10) 7 + n.val = 7168 + n.val
    omega
  | succ k ih =>
    rintro t ht X ⟨Y, hY, hX⟩ r n
    have hX' : X = if k0_cond3 (grid0.coords t) = 1#1 then tail (held m c (grid0.coords t 0)) (iblk m c 2 t) else Y := hX
    rw [if_neg fun h => by have := (cond3_iff t).mp h; omega] at hX'
    subst hX'
    have hb : t.val - 1 < cfg0.N := Nat.lt_of_le_of_lt (Nat.sub_le _ _) t.isLt
    have hf := (RDat.finds_of_pos (rdat (F := Ideal) m c) (w := 5) (t := t) rfl (by omega) X).mp hY
    have hfl : (cfg0.win 5).flush ⟨t.val - 1, hb⟩ ≠ true := fun h => by
      have := (flush0_5 ⟨t.val - 1, hb⟩).mp h
      have : (t.val - 1) % 10 = 9 := this
      omega
    refine (ih ⟨t.val - 1, hb⟩ (by show (t.val - 1) % 10 = 7 + k; omega) X (hf.resolve_left hfl) r n).trans ?_
    refine congrArg (fun a => out1 m c (ix2 a n)) (Fin.ext ?_)
    show 1024 * ((t.val - 1) / 10) + r.val = 1024 * (t.val / 10) + r.val
    omega

/-- What a point that stores the third output's block leaves of it. -/
theorem leaves6 (t : Fin cfg0.N) (ht : 7 < t.val % 10) (X : S1024x1024.Idx → EReal) (hl : (rdat (F := Ideal) m c).Leaves 6 t X) (r n : Fin 1024) :
    X (ix2 r n) = out2 m c (ix2 ⟨1024 * (t.val % 10 - 8) + r.val, turnedRow_lt t r⟩ ⟨1024 * (t.val / 10) + n.val, row_lt t n⟩) := by
  obtain ⟨Y, -, hX⟩ := hl
  have hX' : X = if k0_cond4 (grid0.coords t) = 1#1 then turned (held m c (grid0.coords t 0)) (iblk m c 3 t) else Y := hX
  rw [if_pos ((cond4_iff t).mpr ht)] at hX'
  rw [hX', turned_apply]
  exact turned_value m c t r n

/-! ## The results -/

variable {m}

theorem main_eq {r} (h : Pipeline.RDat.FramePost (cfgs 0) (rdat (F := Ideal) m) (V m) r) :
    r.2.mem ((c.tc : Thread nD τ).loc main_v0_0) = out0 m c := by
  obtain ⟨after, hl, ha⟩ := h.exists_exact c
  refine (ha 4).trans ?_
  refine ((rdat (F := Ideal) m c).withAfter after).arrAt_eq_of_covers 4 (out0 m c) (by decide +kernel) fun t hf y => ?_
  blk_simp
  have b0 : (y 0).val < 1024 := (y 0).isLt
  have b1 : (y 1).val < 1024 := (y 1).isLt
  have hy : y = ix2 (⟨(y 0).val, b0⟩ : Fin 1024) (⟨(y 1).val, b1⟩ : Fin 1024) := eq_ix2 y
  refine (congrArg (after 4 t) hy).trans ((leaves4 m c t.val t rfl (after 4 t) (hl 4 t hf) _ _).trans ?_)
  refine congrArg (out0 m c) ?_
  blk_ext [idx4]

theorem tail_eq {r} (h : Pipeline.RDat.FramePost (cfgs 0) (rdat (F := Ideal) m) (V m) r) :
    r.2.mem ((c.tc : Thread nD τ).loc main_v0_1) = out1 m c := by
  obtain ⟨after, hl, ha⟩ := h.exists_exact c
  refine (ha 5).trans ?_
  refine ((rdat (F := Ideal) m c).withAfter after).arrAt_eq_of_covers 5 (out1 m c) (by decide +kernel) fun t hf y => ?_
  blk_simp
  have b0 : (y 0).val < 1024 := (y 0).isLt
  have b1 : (y 1).val < 1024 := (y 1).isLt
  have h9 := (flush0_5 t).mp hf
  have hy : y = ix2 (⟨(y 0).val, b0⟩ : Fin 1024) (⟨(y 1).val, b1⟩ : Fin 1024) := eq_ix2 y
  refine (congrArg (after 5 t) hy).trans ((leaves5 m c 2 t h9 (after 5 t) (hl 5 t hf) _ _).trans ?_)
  refine congrArg (out1 m c) ?_
  blk_ext [idx5]

theorem turned_eq {r} (h : Pipeline.RDat.FramePost (cfgs 0) (rdat (F := Ideal) m) (V m) r) :
    r.2.mem ((c.tc : Thread nD τ).loc main_v0_2) = out2 m c := by
  obtain ⟨after, hl, ha⟩ := h.exists_exact c
  refine (ha 6).trans ?_
  refine ((rdat (F := Ideal) m c).withAfter after).arrAt_eq_of_covers 6 (out2 m c) (by decide +kernel) fun t hf y => ?_
  blk_simp
  have b0 : (y 0).val < 1024 := (y 0).isLt
  have b1 : (y 1).val < 1024 := (y 1).isLt
  have hy : y = ix2 (⟨(y 0).val, b0⟩ : Fin 1024) (⟨(y 1).val, b1⟩ : Fin 1024) := eq_ix2 y
  refine (congrArg (after 6 t) hy).trans ((leaves6 m c t (flush6_late t hf) (after 6 t) (hl 6 t hf) _ _).trans ?_)
  refine congrArg (out2 m c) ?_
  blk_ext [idx6]

end Run

end Cert.Proj

end
-- ==== Proof.PostSpec.lean ====
/-
  The end of the state-space branch over the extended reals, entry by entry: GELU by the hyperbolic tangent, the gated linear unit
  of a row, and the branch's gate.
-/
module

public import proofs.«01_k».proof.Proof.MergeSpec

@[expose] public section

noncomputable section

namespace Cert.Post

open Idealize.ShloMosaic

/-- The factor of GELU that lies between zero and two. -/
def bend (y : EReal) : EReal :=
  Ideal.ofBits .f32 0x3F800000#32
    + Ideal.tanh (Ideal.ofBits .f32 0x3F4C422A#32 * (y + Ideal.ofBits .f32 0x3D372713#32 * (y * y * y)))

/-- GELU, by the hyperbolic tangent. -/
def gelu (y : EReal) : EReal := y * (Ideal.ofBits .f32 0x3F000000#32 * bend y)

theorem gelu_half (y : EReal) : Ideal.ofBits .f32 0x3F000000#32 * y * bend y = gelu y := by
  unfold gelu
  rw [mul_comm (Ideal.ofBits .f32 0x3F000000#32) y, mul_assoc]

/-- A row of the result: of the sums `y`, the gate's logits `z`, the weight `w` and the bias `b`. -/
def rowOut (y z b : Fin 1024 → EReal) (w : Fin 1024 → Fin 1024 → EReal) (n : Fin 1024) : EReal :=
  gelu (y n) * Ideal.logistic ((∑ e, gelu (y e) * w e n) + b n) * (z n * Ideal.logistic (z n))

end Cert.Post

end
-- ==== Proof.PostBody.lean ====
/-
  What the body of the state-space branch's end stores, at an index: the row over the loaded blocks, which hold it as a column.
-/
module

public import proofs.«01_k».proof.Proof.Gen.Kernel4Ideal.Value
public import proofs.«01_k».proof.Proof.PostSpec
public import Idealize.ShloMosaic.Lib.Pointwise
public import Idealize.ShloMosaic.Lib.Pipeline.ValueKit

@[expose] public section

set_option maxRecDepth 16384
set_option synthInstance.maxSize 4096

noncomputable section

namespace Cert.Post

open Cert.Kernel4Ideal Cert.Kernel4Ideal.Gen
open Idealize.ShloMosaic Idealize.ShloMosaic.TcCoe

/-- The scan's output plus the skipped input. -/
def tileSum (y : FVec Ideal S1024x512 .bf16) (d : FVec Ideal S1024x1 .f32) (u : FVec Ideal S1024x512 .bf16) : FVec Ideal S1024x512 .f32 :=
  addf (extf .f32 y bitsLt_bf16_f32) (mulf (broadcastTo S1024x512 d broadcasts_S1024x1_S1024x512) (extf .f32 u bitsLt_bf16_f32))

theorem tileSum_apply (y : FVec Ideal S1024x512 .bf16) (d : FVec Ideal S1024x1 .f32) (u : FVec Ideal S1024x512 .bf16) (e : Fin 1024)
    (r : Fin 512) : tileSum y d u (ix2 e r) = y (ix2 e r) + d (ix2 e 0) * u (ix2 e r) := by
  pointwise [tileSum]

/-- GELU of a tile. -/
def tileGelu (v : FVec Ideal S1024x512 .f32) : FVec Ideal S1024x512 .f32 :=
  mulf (mulf (broadcast S1024x512 (Scalar.ofBits (F := Ideal) .f32 0x3F000000#32)) v)
    (addf (broadcast S1024x512 (Scalar.ofBits (F := Ideal) .f32 0x3F800000#32))
      (tanh (mulf (broadcast S1024x512 (Scalar.ofBits (F := Ideal) .f32 0x3F4C422A#32))
        (addf v (mulf (broadcast S1024x512 (Scalar.ofBits (F := Ideal) .f32 0x3D372713#32)) (mulf (mulf v v) v))))))

theorem tileGelu_apply (v : FVec Ideal S1024x512 .f32) (e : Fin 1024) (r : Fin 512) :
    tileGelu v (ix2 e r) = gelu (v (ix2 e r)) := by
  refine Eq.trans ?_ (gelu_half _)
  rfl

/-- The product with the transposed weight, plus the bias. -/
def tileLogit (g : FVec Ideal S1024x512 .f32) (w : FVec Ideal S1x1x1024x1024 .bf16) (b : FVec Ideal S1024x1 .f32) :
    FVec Ideal S1024x512 .f32 :=
  addf (matmul dot_S1024x1024_S1024x512_S1024x512_1_0_0_1_n_n none (shapeCast S1024x1024 w shapeCasts_S1x1x1024x1024_S1024x1024)
    (truncf .bf16 g bitsLt_bf16_f32) (constant (F := Ideal) S1024x512 .f32 0x00000000#32))
    (broadcastTo S1024x512 b broadcasts_S1024x1_S1024x512)

theorem tileLogit_apply (g : FVec Ideal S1024x512 .f32) (w : FVec Ideal S1x1x1024x1024 .bf16) (b : FVec Ideal S1024x1 .f32)
    (n : Fin 1024) (r : Fin 512) :
    tileLogit g w b (ix2 n r) = (∑ e : Fin 1024, w (ix4 0 0 n e) * g (ix2 e r)) + b (ix2 n 0) := by
  pointwise [tileLogit]

/-- The gate by the hyperbolic tangent. -/
def tileGate (z : FVec Ideal S1024x512 .bf16) : FVec Ideal S1024x512 .f32 :=
  addf (mulf (mulf (broadcast S1024x512 (Scalar.ofBits (F := Ideal) .f32 0x3F000000#32)) (extf .f32 z bitsLt_bf16_f32))
    (tanh (mulf (broadcast S1024x512 (Scalar.ofBits (F := Ideal) .f32 0x3F000000#32)) (extf .f32 z bitsLt_bf16_f32))))
    (mulf (broadcast S1024x512 (Scalar.ofBits (F := Ideal) .f32 0x3F000000#32)) (extf .f32 z bitsLt_bf16_f32))

theorem tileGate_apply (z : FVec Ideal S1024x512 .bf16) (n : Fin 1024) (r : Fin 512) :
    tileGate z (ix2 n r) = Ideal.ofBits .f32 0x3F000000#32 * z (ix2 n r) * Ideal.tanh (Ideal.ofBits .f32 0x3F000000#32 * z (ix2 n r))
      + Ideal.ofBits .f32 0x3F000000#32 * z (ix2 n r) := rfl

/-- A tile turned. -/
def turn (v : FVec Ideal S1024x512 .f32) : FVec Ideal S512x1024 .f32 := transpose S512x1024 [1, 0] v transposes_S1024x512_p1_0_S512x1024

theorem turn_apply (v : FVec Ideal S1024x512 .f32) (r : Fin 512) (n : Fin 1024) : turn v (ix2 r n) = v (ix2 n r) := by
  pointwise [turn]

theorem pay2_split (y : FVec Ideal S1024x512 .bf16) (d : FVec Ideal S1024x1 .f32) (u : FVec Ideal S1024x512 .bf16)
    (w : FVec Ideal S1x1x1024x1024 .bf16) (b : FVec Ideal S1024x1 .f32) (z : FVec Ideal S1024x512 .bf16) :
    k0_pay2 (F := Ideal) y d u w b z = turn (mulf (mulf (tileGelu (tileSum y d u))
      (logistic (tileLogit (tileGelu (tileSum y d u)) w b))) (tileGate z)) := rfl

theorem pay1_apply (v : FVec Ideal S512x1024 .f32) (i : S512x1024.Idx) : k0_pay1 (F := Ideal) v i = (v i : EReal) := rfl

theorem ld_tile {e : EltTy} (X : S1024x512.Idx → Elt Ideal e) : View.ld X r0_0 = X := View.ld_unit_lit _ X (by decide)
theorem ld_column {e : EltTy} (X : S1024x1.Idx → Elt Ideal e) : View.ld X r0_1 = X := View.ld_unit_lit _ X (by decide)
theorem ld_weight {e : EltTy} (X : S1x1x1024x1024.Idx → Elt Ideal e) : View.ld X r0_2 = X := View.ld_unit_lit _ X (by decide)
theorem canon_tile (X : S512x1024.Idx → Elt Ideal (.bf16 : EltTy)) :
    View.canon [(⟨r0_3, X⟩ : View.Piece (Elt Ideal) S512x1024 .bf16)] = X := View.canon_cons_unit_lit _ X [] (by decide)

/-- The body's result at an index, where the gate's logit is real. -/
theorem out_apply (y u z : FVec Ideal S1024x512 .bf16) (d : FVec Ideal S1024x1 .f32) (w : FVec Ideal S1x1x1024x1024 .bf16)
    (b : FVec Ideal S1024x1 .f32) (r : Fin 512) (n : Fin 1024) (hz : ∃ x : ℝ, (z (ix2 n r) : EReal) = x) :
    out0_6 (F := Ideal) y u z d w b (ix2 r n)
      = rowOut (fun e => y (ix2 e r) + d (ix2 e 0) * u (ix2 e r)) (fun e => z (ix2 e r)) (fun e => b (ix2 e 0))
        (fun e k => w (ix4 0 0 k e)) n := by
  unfold out0_6
  rw [canon_tile]
  simp only [ld_tile, ld_column, ld_weight]
  rw [pay2_split, pay1_apply, turn_apply]
  show tileGelu (tileSum y d u) (ix2 n r) * Ideal.logistic (tileLogit (tileGelu (tileSum y d u)) w b (ix2 n r))
    * tileGate z (ix2 n r) = _
  have hg : tileGate z (ix2 n r) = (z (ix2 n r) : EReal) * Ideal.logistic (z (ix2 n r)) := by
    obtain ⟨x, h⟩ := hz
    rw [tileGate_apply, h]
    exact Cert.Merge.silu_ideal x
  rw [hg, tileLogit_apply, tileGelu_apply, tileSum_apply]
  unfold rowOut
  refine congrArg (fun s : EReal => gelu (y (ix2 n r) + d (ix2 n 0) * u (ix2 n r)) * Ideal.logistic (s + b (ix2 n 0))
    * (z (ix2 n r) * Ideal.logistic (z (ix2 n r)))) (Finset.sum_congr rfl fun e _ => ?_)
  rw [tileGelu_apply, tileSum_apply]
  exact mul_comm _ _

end Cert.Post

end
-- ==== Proof.PostReference.lean ====
/-
  The reference of the state-space branch's end at an index: the row over the arrays.
-/
module

public import proofs.«01_k».proof.Proof.Gen.Reference4Ideal.Run
public import proofs.«01_k».proof.Proof.PostSpec
public import Idealize.ShloMosaic.Lib.Pointwise

@[expose] public section

set_option maxRecDepth 16384
set_option synthInstance.maxSize 4096

noncomputable section

namespace Cert.Post

open Cert.Reference4Ideal Cert.Reference4Ideal.Gen
open Idealize.ShloMosaic Idealize.ShloMosaic.TcCoe

/-! ## The reference in pieces -/

/-- A constant array. -/
def fill (b : BitVec 32) : FVec Ideal S32768x1024 .f32 :=
  broadcastInDim S32768x1024 ![] bcast_S_S32768x1024 (constant (F := Ideal) S_ .f32 b)
/-- A column as every row. -/
def spread (d : FVec Ideal S1024x1 .f32) : FVec Ideal S32768x1024 .f32 :=
  broadcastInDim S32768x1024 ![0, 1] bcast_S1x1024_S32768x1024_0_1 (broadcastInDim S1x1024 ![1] bcast_S1024_S1x1024_1
    (shapeCast _ d shapeCasts_S1024x1_S1024))
/-- The scan's output, turned. -/
def outs (y : FVec Ideal S1024x32768 .bf16) : FVec Ideal S32768x1024 .f32 :=
  extf .f32 (transpose S32768x1024 [1, 0] y transposes_S1024x32768_S32768x1024_1_0) bitsLt_bf16_f32
/-- The branch's input. -/
def ins (p : FVec Ideal S2048x32768 .bf16) : FVec Ideal S32768x1024 .f32 :=
  extf .f32 (transpose S32768x1024 [1, 0] (extractStridedSlice S1024x32768 ![0, 0] p slices_S2048x32768_S1024x32768_0_0)
    transposes_S1024x32768_S32768x1024_1_0) bitsLt_bf16_f32
/-- The branch's gate's logits. -/
def logits (p : FVec Ideal S2048x32768 .bf16) : FVec Ideal S32768x1024 .f32 :=
  extf .f32 (transpose S32768x1024 [1, 0] (extractStridedSlice S1024x32768 ![1024, 0] p slices_S2048x32768_S1024x32768_1024_0)
    transposes_S1024x32768_S32768x1024_1_0) bitsLt_bf16_f32
/-- The logistic function. -/
def sigm (v : FVec Ideal S32768x1024 .f32) : FVec Ideal S32768x1024 .f32 :=
  Host.divf (fill 0x3F800000#32) (addf (fill 0x3F800000#32) (Host.exp (Host.negf v)))
/-- The scan's output plus the skipped input. -/
def fullSum (y : FVec Ideal S1024x32768 .bf16) (p : FVec Ideal S2048x32768 .bf16) (d : FVec Ideal S1024x1 .f32) :
    FVec Ideal S32768x1024 .f32 := addf (outs y) (mulf (spread d) (ins p))
/-- GELU. -/
def fullGelu (v : FVec Ideal S32768x1024 .f32) : FVec Ideal S32768x1024 .f32 :=
  mulf v (mulf (fill 0x3F000000#32) (addf (fill 0x3F800000#32) (Host.tanh (mulf (fill 0x3F4C422A#32)
    (addf v (mulf (fill 0x3D372713#32) (mulf (mulf v v) v)))))))
/-- The weight of the last layer, turned. -/
def weight (w : FVec Ideal S2x5x1024x1024 .bf16) : FVec Ideal S1024x1024 .f32 :=
  extf .f32 (transpose S1024x1024 [1, 0] (shapeCast _ (extractStridedSlice S1x1x1024x1024 ![1, 4, 0, 0] w
    slices_S2x5x1024x1024_S1x1x1024x1024_1_4_0_0) shapeCasts_S1x1x1024x1024_S1024x1024) transposes_S1024x1024_S1024x1024_1_0) bitsLt_bf16_f32
/-- A product with a weight. -/
def fullDot (x : FVec Ideal S32768x1024 .f32) (w : FVec Ideal S1024x1024 .f32) : FVec Ideal S32768x1024 .f32 :=
  Host.dotGeneral dot_S32768x1024_S1024x1024_S32768x1024_1_0_0_1_n_n none x w

/-- The whole reference. -/
def refPost (y : FVec Ideal S1024x32768 .bf16) (p : FVec Ideal S2048x32768 .bf16) (d : FVec Ideal S1024x1 .f32)
    (w : FVec Ideal S2x5x1024x1024 .bf16) (b : FVec Ideal S1024x1 .f32) : FVec Ideal S32768x1024 .bf16 :=
  truncf .bf16 (mulf (mulf (fullGelu (fullSum y p d)) (sigm (addf (fullDot (fullGelu (fullSum y p d)) (weight w)) (spread b))))
    (mulf (logits p) (sigm (logits p)))) bitsLt_bf16_f32

theorem res_split (m : (ℓ : Loc nD τ sig) → Buf (Elt Ideal) ℓ) (c : Dev nD) :
    (Value.res_main_v44 (F := Ideal) m c : S32768x1024.Idx → EReal)
      = refPost (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## The pieces at an index -/

theorem spread_apply (d : FVec Ideal S1024x1 .f32) (T : Fin 32768) (j : Fin 1024) : spread d (ix2 T j) = d (ix2 j 0) := by
  pointwise [spread]
theorem outs_apply (y : FVec Ideal S1024x32768 .bf16) (T : Fin 32768) (j : Fin 1024) : outs y (ix2 T j) = y (ix2 j T) := by
  pointwise [outs]

theorem inRow_lt (j : Fin 1024) : j.val < 2048 := by omega
theorem zRow_lt (j : Fin 1024) : 1024 + j.val < 2048 := by omega

theorem ins_apply (p : FVec Ideal S2048x32768 .bf16) (T : Fin 32768) (j : Fin 1024) :
    ins p (ix2 T j) = p (ix2 ⟨j.val, inRow_lt j⟩ T) := by
  pointwise [ins]
theorem logits_apply (p : FVec Ideal S2048x32768 .bf16) (T : Fin 32768) (j : Fin 1024) :
    logits p (ix2 T j) = p (ix2 ⟨1024 + j.val, zRow_lt j⟩ T) := by
  pointwise [logits]
theorem sig_apply (v : FVec Ideal S32768x1024 .f32) (T : Fin 32768) (j : Fin 1024) : sigm v (ix2 T j) = Ideal.logistic (v (ix2 T j)) := by
  pointwise [sigm, fill]
  rfl
theorem fullSum_apply (y : FVec Ideal S1024x32768 .bf16) (p : FVec Ideal S2048x32768 .bf16) (d : FVec Ideal S1024x1 .f32) (T : Fin 32768)
    (j : Fin 1024) : fullSum y p d (ix2 T j) = y (ix2 j T) + d (ix2 j 0) * p (ix2 ⟨j.val, inRow_lt j⟩ T) := by
  show outs y (ix2 T j) + spread d (ix2 T j) * ins p (ix2 T j) = _
  rw [outs_apply, spread_apply, ins_apply]
theorem fill_apply (b : BitVec 32) (T : Fin 32768) (j : Fin 1024) : fill b (ix2 T j) = Ideal.ofBits .f32 b := rfl
theorem fullGelu_apply (v : FVec Ideal S32768x1024 .f32) (T : Fin 32768) (j : Fin 1024) :
    fullGelu v (ix2 T j) = gelu (v (ix2 T j)) := by
  show v (ix2 T j) * (fill _ (ix2 T j) * (fill _ (ix2 T j) + Ideal.tanh (fill _ (ix2 T j) * (v (ix2 T j) + fill _ (ix2 T j)
    * (v (ix2 T j) * v (ix2 T j) * v (ix2 T j)))))) = _
  simp only [fill_apply]
  rfl
theorem weight_apply (w : FVec Ideal S2x5x1024x1024 .bf16) (e j : Fin 1024) : weight w (ix2 e j) = w (ix4 1 4 j e) := by
  pointwise [weight]
theorem fullDot_apply (x : FVec Ideal S32768x1024 .f32) (w : FVec Ideal S1024x1024 .f32) (T : Fin 32768) (j : Fin 1024) :
    fullDot x w (ix2 T j) = ∑ e : Fin 1024, x (ix2 T e) * w (ix2 e j) := by
  pointwise [fullDot]

/-- Row `T` of the result over the arrays. -/
def postRow (y : S1024x32768.Idx → EReal) (p : S2048x32768.Idx → EReal) (d : S1024x1.Idx → EReal) (w : S2x5x1024x1024.Idx → EReal)
    (b : S1024x1.Idx → EReal) (T : Fin 32768) : Fin 1024 → EReal :=
  rowOut (fun e => y (ix2 e T) + d (ix2 e 0) * p (ix2 ⟨e.val, inRow_lt e⟩ T)) (fun e => p (ix2 ⟨1024 + e.val, zRow_lt e⟩ T))
    (fun e => b (ix2 e 0)) (fun e k => w (ix4 1 4 k e))

theorem refPost_apply (y : FVec Ideal S1024x32768 .bf16) (p : FVec Ideal S2048x32768 .bf16) (d : FVec Ideal S1024x1 .f32)
    (w : FVec Ideal S2x5x1024x1024 .bf16) (b : FVec Ideal S1024x1 .f32) (T : Fin 32768) (n : Fin 1024) :
    refPost y p d w b (ix2 T n) = postRow y p d w b T n := by
  show fullGelu (fullSum y p d) (ix2 T n) * sigm (addf (fullDot (fullGelu (fullSum y p d)) (weight w)) (spread b)) (ix2 T n)
    * (logits p (ix2 T n) * sigm (logits p) (ix2 T n)) = _
  rw [sig_apply, sig_apply, logits_apply]
  show _ * Ideal.logistic (fullDot (fullGelu (fullSum y p d)) (weight w) (ix2 T n) + spread b (ix2 T n)) * _ = _
  rw [fullDot_apply, spread_apply]
  simp only [fullGelu_apply, fullSum_apply, weight_apply]
  rfl

end Cert.Post

end
-- ==== Proof.PostResult.lean ====
/-
  The result array of the state-space branch's end: each point's block of 512 rows is the rows over the arrays.
-/
module

public import proofs.«01_k».proof.Proof.PostBody
public import proofs.«01_k».proof.Proof.PostReference

@[expose] public section

set_option maxRecDepth 16384
set_option synthInstance.maxSize 4096

noncomputable section

namespace Cert.Post

open Cert.Kernel4Ideal Cert.Kernel4Ideal.Gen
open Idealize.ShloMosaic Idealize.ShloMosaic.TcCoe
open Idealize.ShloMosaic.Pipeline (Dat)

theorem idx0 : ∀ t : Fin cfg0.N, win0_0.index t = ![0, (grid0.coords t 0).val] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![1, (grid0.coords t 0).val] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![1, 4, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val, 0] := (by decide +kernel : ∀ t : Fin grid0.N, _)

/-- Row `r` of point `t`'s block. -/
def rowAt (t : Fin cfg0.N) (r : Fin 512) : Fin 32768 :=
  ⟨(grid0.coords t 0).val * 512 + r.val, by have : (grid0.coords t 0).val < 64 := (grid0.coords t 0).isLt; omega⟩

variable (m : (ℓ : Loc nD τ sig) → Buf (Elt Ideal) ℓ) (c : Dev nD)

theorem iblk_y (t : Fin cfg0.N) (r : Fin 512) (e : Fin 1024) :
    (iblk (F := Ideal) m c 0 t : S1024x512.Idx → EReal) (ix2 e r) = m ((c : Thread nD τ).loc main_arg0) (ix2 e (rowAt t r)) := by
  blk_simp [iblk]
  refine congrArg (m ((c : Thread nD τ).loc main_arg0)) ?_
  unfold rowAt
  blk_ext [idx0]

theorem iblk_u (t : Fin cfg0.N) (r : Fin 512) (e : Fin 1024) :
    (iblk (F := Ideal) m c 1 t : S1024x512.Idx → EReal) (ix2 e r)
      = m ((c : Thread nD τ).loc main_arg1) (ix2 ⟨e.val, inRow_lt e⟩ (rowAt t r)) := by
  blk_simp [iblk]
  refine congrArg (m ((c : Thread nD τ).loc main_arg1)) ?_
  unfold rowAt
  blk_ext [idx1]

theorem iblk_z (t : Fin cfg0.N) (r : Fin 512) (e : Fin 1024) :
    (iblk (F := Ideal) m c 2 t : S1024x512.Idx → EReal) (ix2 e r)
      = m ((c : Thread nD τ).loc main_arg1) (ix2 ⟨1024 + e.val, zRow_lt e⟩ (rowAt t r)) := by
  blk_simp [iblk]
  refine congrArg (m ((c : Thread nD τ).loc main_arg1)) ?_
  unfold rowAt
  blk_ext [idx2]

theorem iblk_d (t : Fin cfg0.N) (e : Fin 1024) :
    (iblk (F := Ideal) m c 3 t : S1024x1.Idx → EReal) (ix2 e 0) = m ((c : Thread nD τ).loc main_arg2) (ix2 e 0) := by
  blk_simp [iblk]
  refine congrArg (m ((c : Thread nD τ).loc main_arg2)) ?_
  blk_ext [idx3]

theorem iblk_w (t : Fin cfg0.N) (k e : Fin 1024) :
    (iblk (F := Ideal) m c 4 t : S1x1x1024x1024.Idx → EReal) (ix4 0 0 k e) = m ((c : Thread nD τ).loc main_arg3) (ix4 1 4 k e) := by
  blk_simp [iblk]
  refine congrArg (m ((c : Thread nD τ).loc main_arg3)) ?_
  blk_ext [idx4]

theorem iblk_b (t : Fin cfg0.N) (e : Fin 1024) :
    (iblk (F := Ideal) m c 5 t : S1024x1.Idx → EReal) (ix2 e 0) = m ((c : Thread nD τ).loc main_arg4) (ix2 e 0) := by
  blk_simp [iblk]
  refine congrArg (m ((c : Thread nD τ).loc main_arg4)) ?_
  blk_ext [idx5]

/-- The result, over the arrays. -/
def postArr : S32768x1024.Idx → EReal := fun i =>
  postRow (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The gate's logits are real. -/
def GateReal (p : S2048x32768.Idx → EReal) : Prop :=
  ∀ (T : Fin 32768) (e : Fin 1024), ∃ z : ℝ, p (ix2 ⟨1024 + e.val, zRow_lt e⟩ T) = z

/-- The scan's output plus the skipped input, at an index. -/
def sumAt (y : S1024x32768.Idx → EReal) (p : S2048x32768.Idx → EReal) (d : S1024x1.Idx → EReal) (T : Fin 32768) (e : Fin 1024) : EReal :=
  y (ix2 e T) + d (ix2 e 0) * p (ix2 ⟨e.val, inRow_lt e⟩ T)
/-- The same of a block. -/
def sumIn (y u : S1024x512.Idx → EReal) (d : S1024x1.Idx → EReal) (r : Fin 512) (e : Fin 1024) : EReal :=
  y (ix2 e r) + d (ix2 e 0) * u (ix2 e r)

variable (hz : GateReal (m ((c : Thread nD τ).loc main_arg1)))

include hz in
theorem block_row (t : Fin cfg0.N) (r : Fin 512) (n : Fin 1024) :
    out0_6 (F := Ideal) (iblk m c 0 t) (iblk m c 1 t) (iblk m c 2 t) (iblk m c 3 t) (iblk m c 4 t) (iblk m c 5 t) (ix2 r n)
      = postArr m c (ix2 (rowAt t r) n) := by
  refine (out_apply _ _ _ _ _ _ r n ?_).trans ?_
  · obtain ⟨z, h⟩ := hz (rowAt t r) n
    exact ⟨z, (iblk_z m c t r n).trans h⟩
  have hy : ∀ e : Fin 1024, sumIn (iblk (F := Ideal) m c 0 t) (iblk (F := Ideal) m c 1 t) (iblk (F := Ideal) m c 3 t) r e
      = sumAt (m ((c : Thread nD τ).loc main_arg0)) (m ((c : Thread nD τ).loc main_arg1)) (m ((c : Thread nD τ).loc main_arg2))
        (rowAt t r) e := fun e => by
    unfold sumIn sumAt
    rw [iblk_y, iblk_u, iblk_d]
  show rowOut (fun e => sumIn (iblk (F := Ideal) m c 0 t) (iblk (F := Ideal) m c 1 t) (iblk (F := Ideal) m c 3 t) r e) _ _ _ n
    = postRow _ _ _ _ _ (rowAt t r) n
  unfold postRow
  simp only [hy, iblk_z, iblk_w, iblk_b]
  rfl

include hz in
/-- The kernel's result. -/
theorem result_eq : (dats (F := Ideal) m 0 c).arrAt 6 cfg0.N = postArr m c := by
  refine (dats (F := Ideal) m 0 c).arrAt_eq_of_covers 6 (postArr m c) (by decide +kernel) fun t hf y => ?_
  blk_simp
  have b0 : (y 0).val < 512 := (y 0).isLt
  have b1 : (y 1).val < 1024 := (y 1).isLt
  have e0 : (((win0_6.blk t).view.emb y) 0 : ℕ) = (grid0.coords t 0).val * 512 + (y 0).val := by blk_simp [idx6]
  have e1 : (((win0_6.blk t).view.emb y) 1 : ℕ) = (y 1).val := by blk_simp [idx6]
  have hy : (win0_6.blk t).view.emb y = ix2 (rowAt t ⟨(y 0).val, b0⟩) (⟨(y 1).val, b1⟩ : Fin 1024) := by
    funext a
    match a with
    | 0 => exact Fin.ext e0
    | 1 => exact Fin.ext e1
  refine Eq.trans ?_ (congrArg (postArr m c) hy.symm)
  refine Eq.trans ?_ (block_row m c hz t ⟨(y 0).val, b0⟩ ⟨(y 1).val, b1⟩)
  refine (congrFun (after0_6 (F := Ideal) m c t) _).trans ?_
  refine congrArg (out0_6 (F := Ideal) (iblk m c 0 t) (iblk m c 1 t) (iblk m c 2 t) (iblk m c 3 t) (iblk m c 4 t) (iblk m c 5 t)) ?_
  funext a
  match a with
  | 0 => rfl
  | 1 => rfl

/-- The reference's result. -/
theorem ref_value (y : FVec Ideal S1024x32768 .bf16) (p : FVec Ideal S2048x32768 .bf16) (d : FVec Ideal S1024x1 .f32)
    (w : FVec Ideal S2x5x1024x1024 .bf16) (b : FVec Ideal S1024x1 .f32) :
    refPost y p d w b = fun i => postRow y p d w b (i 0) (i 1) := funext fun i => by
  refine (congrArg (refPost y p d w b) (eq_ix2 i)).trans ?_
  exact refPost_apply y p d w b (i 0) (i 1)

end Cert.Post

end
-- ==== Proof.PostGiven.lean ====
/-
  What the precondition of the state-space branch's end gives: the logits of the branch's gate are real.
-/
module

public import proofs.«01_k».proof.Proof.Gen.Pre_branch_gate_finite
public import proofs.«01_k».proof.Proof.Given
public import proofs.«01_k».proof.Proof.PostResult

@[expose] public section

set_option synthInstance.maxSize 4096

noncomputable section

namespace Cert.Post

open Cert.Pre_branch_gate_finite Cert.Pre_branch_gate_finite.Gen
open Idealize.ShloMosaic

variable {y : FVec Ideal S1024x32768 .bf16} {p : FVec Ideal S2048x32768 .bf16} {d : FVec Ideal S1024x1 .f32}
  {w : FVec Ideal S2x5x1024x1024 .bf16} {b : FVec Ideal S1024x1 .f32}

theorem gate_real (h : fn (F := Ideal) y p d w b = fun _ => 1#1) : GateReal p := fun T e => by
  have hi := congrFun h (ix2 e T)
  revert hi
  pointwise [fn]
  rw [Cert.Attn.inf_bits]
  exact fun hi => Cert.Attn.real_of_abs_lt (Cert.Attn.of_bit hi)

end Cert.Post

end
-- ==== Proof.lean ====
/-
  The proof of `Cert.Claim`, of the attention, the merge, the in-projection and the end of the state-space branch: the frames of
  the programs, that the idealized kernels are the kernels (the attention's with its mask named), and that over the extended reals kernel and reference have the
  same results.
-/
module

public import proofs.«01_k».proof.Defs
public import proofs.«01_k».proof.Proof.KernelRun
public import proofs.«01_k».proof.Proof.KernelIdealRun
public import proofs.«01_k».proof.Proof.Gen.ReferenceIdeal
public import proofs.«01_k».proof.Proof.Gen.Pre_finite_with_ones
public import proofs.«01_k».proof.Proof.Gen.Pre_gate_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.ReferenceIdeal.Run
public import proofs.«01_k».proof.Proof.Reference
public import proofs.«01_k».proof.Proof.Given
public import proofs.«01_k».proof.Proof.MergeResult
public import proofs.«01_k».proof.Proof.MergeGiven
public import proofs.«01_k».proof.Proof.Kernel3Run
public import proofs.«01_k».proof.Proof.ProjResult
public import proofs.«01_k».proof.Proof.PostResult
public import proofs.«01_k».proof.Proof.PostGiven
public import proofs.«01_k».proof.Proof.Gen.Pre_branch_gate_finite
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Claim
public import Idealize.ShloMosaic.Lib.Quiescent
public import Idealize.ShloMosaic.Lib.StableHlo.RunHlo

@[expose] public section

noncomputable section

namespace Cert.Proof

open Idealize.ShloMosaic Idealize.ShloMosaic.TcCoe Idealize.SL.Sem

theorem frame_kernel : Cert.quiescent_Kernel := fun m g _ =>
  θ_run_mono (Cert.Kernel.Hand.run_main m g) fun _ h => ⟨fun c => Cert.Kernel.Hand.args_of m h.1 c, h.2⟩

theorem frame_kernelIdeal : Cert.quiescent_KernelIdeal := fun m g _ =>
  θ_run_mono (Cert.KernelIdeal.Hand.run_main m g) fun _ h => ⟨fun c => Cert.KernelIdeal.Hand.args_of m h.1 c, h.2⟩

theorem frame_kernelIdeal_pre : Cert.quiescent_KernelIdeal_pre_finite_with_ones := fun m g _ =>
  θ_run_mono (Cert.KernelIdeal.Hand.run_main m g) fun _ h => ⟨fun c => Cert.KernelIdeal.Hand.args_of m h.1 c, h.2⟩

theorem frame_referenceIdeal : Cert.quiescent_ReferenceIdeal := fun m g _ =>
  θ_run_mono (Cert.ReferenceIdeal.Value.run m g) fun r h => ⟨fun c => (h c).2, sem_eq_zero_of_no_sems (by rfl) r.2⟩

theorem frame_referenceIdeal_pre : Cert.quiescent_ReferenceIdeal_pre_finite_with_ones := fun m g _ =>
  θ_run_mono (Cert.ReferenceIdeal.Value.run m g) fun r h => ⟨fun c => (h c).2, sem_eq_zero_of_no_sems (by rfl) r.2⟩

theorem preserves : Cert.preserves_Kernel_KernelIdeal :=
  IdealRules.named_const.statement Cert.KernelIdeal.κ "mask" .f32 0xF149F2CA#32 ⊥ rfl

/-- The kernel's attention is the reference's. -/
theorem algebraic : Cert.algebraic_KernelIdeal_ReferenceIdeal_pre_finite_with_ones := fun m g m' g' hpre hargs => by
  have key : ∀ c : Dev Cert.KernelIdeal.nD, ∃ (q : Cert.KernelIdeal.S64x2048x512.Idx → ℝ) (k : Cert.KernelIdeal.S32768x2048.Idx → ℝ),
      m ((c.tc : Thread Cert.KernelIdeal.nD Cert.KernelIdeal.τ).loc Cert.KernelIdeal.main_arg0) = (fun i => ((q i : ℝ) : EReal))
      ∧ m ((c.tc : Thread Cert.KernelIdeal.nD Cert.KernelIdeal.τ).loc Cert.KernelIdeal.main_arg1) = (fun i => ((k i : ℝ) : EReal)) :=
    fun c => by
      obtain ⟨q, hq⟩ := Cert.Attn.queries_real (hpre c).1
      obtain ⟨k, hk⟩ := Cert.Attn.keys_real (hpre c).2.1
      exact ⟨q, k, hq, hk⟩
  choose q k hq hk using key
  refine ⟨fun c => Cert.Attn.attnArr (q c) (k c)
    (m ((c.tc : Thread Cert.KernelIdeal.nD Cert.KernelIdeal.τ).loc Cert.KernelIdeal.main_arg2)),
    θ_run_mono (Cert.KernelIdeal.Hand.run_main m g) fun r h c => ⟨?_, Cert.KernelIdeal.Hand.args_of m h.1 c⟩,
    θ_run_mono (Cert.ReferenceIdeal.Value.run m' g') fun r h c => ⟨(h c).1.trans ?_, (h c).2⟩⟩
  · exact Cert.Attn.result_eq (m := m) c (q c) (k c) _ (hq c) (hk c) rfl (Cert.Attn.ones_row (hpre c).2.2) h.1
  · obtain ⟨e0, e1, e2⟩ := hargs c
    refine (Cert.Attn.res_split m' c).trans ?_
    rw [e0, e1, e2, hq c, hk c]
    exact Cert.Attn.ref_value (q c) (k c) _ (Cert.Attn.ones_row (hpre c).2.2)

/-! ## The merge -/

theorem frame_kernel2 : Cert.quiescent_Kernel2 := fun m g _ => Cert.Kernel2.Gen.frame m g

theorem frame_kernel2Ideal : Cert.quiescent_Kernel2Ideal := fun m g _ => Cert.Kernel2Ideal.Gen.frame m g

theorem frame_kernel2Ideal_pre : Cert.quiescent_Kernel2Ideal_pre_gate_finite := fun m g _ => Cert.Kernel2Ideal.Gen.frame m g

theorem frame_reference2Ideal : Cert.quiescent_Reference2Ideal := fun m g _ =>
  θ_run_mono (Cert.Reference2Ideal.Value.run m g) fun r h => ⟨fun c => (h c).2, sem_eq_zero_of_no_sems (by rfl) r.2⟩

theorem frame_reference2Ideal_pre : Cert.quiescent_Reference2Ideal_pre_gate_finite := fun m g _ =>
  θ_run_mono (Cert.Reference2Ideal.Value.run m g) fun r h => ⟨fun c => (h c).2, sem_eq_zero_of_no_sems (by rfl) r.2⟩

theorem preserves2 : Cert.preserves_Kernel2_Kernel2Ideal := trivial

/-- The kernel's merge is the reference's. -/
theorem algebraic2 : Cert.algebraic_Kernel2Ideal_Reference2Ideal_pre_gate_finite := fun m g m' g' hpre hargs =>
  ⟨fun c => Cert.Merge.mergeArr m c,
    θ_run_mono (Cert.Kernel2Ideal.Value.run_blocks m g) fun r h c =>
      ⟨(h c).1.trans (Cert.Merge.result_eq m c (Cert.Merge.gate_real (hpre c))), (h c).2⟩,
    θ_run_mono (Cert.Reference2Ideal.Value.run m' g') fun r h c => ⟨(h c).1.trans (by
      obtain ⟨e0, e1, e2, e3, e4, e5, e6⟩ := hargs c
      refine (Cert.Merge.res_split m' c).trans ?_
      rw [e0, e1, e2, e3, e4, e5, e6]
      exact Cert.Merge.ref_value _ _ _ _ _ _ _), (h c).2⟩⟩

/-! ## The in-projection -/

theorem frame_kernel3 : Cert.quiescent_Kernel3 := fun m g _ =>
  θ_run_mono (Cert.Kernel3.Hand.run_main m g) fun _ h => ⟨fun c => Cert.Kernel3.Hand.args_of m h.1 c, h.2⟩

theorem frame_kernel3Ideal : Cert.quiescent_Kernel3Ideal := fun m g _ =>
  θ_run_mono (Cert.Kernel3Ideal.Hand.run_main m g) fun _ h => ⟨fun c => Cert.Kernel3Ideal.Hand.args_of m h.1 c, h.2⟩

theorem frame_reference3Ideal : Cert.quiescent_Reference3Ideal := fun m g _ =>
  θ_run_mono (Cert.Reference3Ideal.Value.run m g) fun r h => ⟨fun c => (h c).2.2.2, sem_eq_zero_of_no_sems (by rfl) r.2⟩

theorem preserves3 : Cert.preserves_Kernel3_Kernel3Ideal := trivial

/-- The kernel's in-projection is the reference's. -/
theorem algebraic3 : Cert.algebraic_Kernel3Ideal_Reference3Ideal := fun m g m' g' _ hargs =>
  ⟨fun c => Cert.Proj.out0 m c, fun c => Cert.Proj.out1 m c, fun c => Cert.Proj.out2 m c,
    θ_run_mono (Cert.Kernel3Ideal.Hand.run_main m g) fun r h c =>
      ⟨Cert.Proj.main_eq c h.1, Cert.Proj.tail_eq c h.1, Cert.Proj.turned_eq c h.1, Cert.Kernel3Ideal.Hand.args_of m h.1 c⟩,
    θ_run_mono (Cert.Reference3Ideal.Value.run m' g') fun r h c => ⟨(h c).1.trans (by
        obtain ⟨e0, e1, e2, e3⟩ := hargs c
        rw [e0, e1, e2]
        exact Cert.Proj.refMain_eq _ _ _), (h c).2.1.trans (by
        obtain ⟨e0, e1, e2, e3⟩ := hargs c
        rw [e0, e1, e2]
        exact Cert.Proj.refTail_eq _ _ _), (h c).2.2.1.trans (by
        obtain ⟨e0, e1, e2, e3⟩ := hargs c
        rw [e0, e1, e3]
        exact Cert.Proj.refTurned_eq _ _ _), (h c).2.2.2⟩⟩

/-! ## The end of the state-space branch -/

theorem frame_kernel4 : Cert.quiescent_Kernel4 := fun m g _ => Cert.Kernel4.Gen.frame m g

theorem frame_kernel4Ideal : Cert.quiescent_Kernel4Ideal := fun m g _ => Cert.Kernel4Ideal.Gen.frame m g

theorem frame_kernel4Ideal_pre : Cert.quiescent_Kernel4Ideal_pre_branch_gate_finite := fun m g _ => Cert.Kernel4Ideal.Gen.frame m g

theorem frame_reference4Ideal : Cert.quiescent_Reference4Ideal := fun m g _ =>
  θ_run_mono (Cert.Reference4Ideal.Value.run m g) fun r h => ⟨fun c => (h c).2, sem_eq_zero_of_no_sems (by rfl) r.2⟩

theorem frame_reference4Ideal_pre : Cert.quiescent_Reference4Ideal_pre_branch_gate_finite := fun m g _ =>
  θ_run_mono (Cert.Reference4Ideal.Value.run m g) fun r h => ⟨fun c => (h c).2, sem_eq_zero_of_no_sems (by rfl) r.2⟩

theorem preserves4 : Cert.preserves_Kernel4_Kernel4Ideal := trivial

/-- The kernel's end of the state-space branch is the reference's. -/
theorem algebraic4 : Cert.algebraic_Kernel4Ideal_Reference4Ideal_pre_branch_gate_finite := fun m g m' g' hpre hargs =>
  ⟨fun c => Cert.Post.postArr m c,
    θ_run_mono (Cert.Kernel4Ideal.Value.run_blocks m g) fun r h c =>
      ⟨(h c).1.trans (Cert.Post.result_eq m c (Cert.Post.gate_real (hpre c))), (h c).2⟩,
    θ_run_mono (Cert.Reference4Ideal.Value.run m' g') fun r h c => ⟨(h c).1.trans (by
      obtain ⟨e0, e1, e2, e3, e4⟩ := hargs c
      refine (Cert.Post.res_split m' c).trans ?_
      rw [e0, e1, e2, e3, e4]
      exact Cert.Post.ref_value _ _ _ _ _), (h c).2⟩⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_with_ones.Gen.facts, Cert.Pre_gate_finite.Gen.facts, Cert.Pre_branch_gate_finite.Gen.facts,
    frame_kernel, frame_kernelIdeal, frame_kernelIdeal_pre, frame_referenceIdeal, frame_referenceIdeal_pre,
    frame_kernel2, frame_kernel2Ideal, frame_kernel2Ideal_pre, frame_reference2Ideal, frame_reference2Ideal_pre,
    frame_kernel3, frame_kernel3Ideal, frame_reference3Ideal,
    frame_kernel4, frame_kernel4Ideal, frame_kernel4Ideal_pre, frame_reference4Ideal, frame_reference4Ideal_pre,
    preserves, algebraic, preserves2, algebraic2, preserves3, algebraic3, preserves4, algebraic4⟩

end Cert.Proof

end
